-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S2x1024x1024 : Shape := ⟨3, ![2, 1024, 1024]⟩
abbrev S4 : Shape := ⟨1, ![4]⟩
abbrev S9 : Shape := ⟨1, ![9]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x128x1024 : Shape := ⟨3, ![1, 128, 1024]⟩
abbrev S128x1024 : Shape := ⟨2, ![128, 1024]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .local _ .vmem, ⟨0, _⟩ => ⟨S4096x1024, .bf16⟩
  | .local _ .vmem, ⟨1, _⟩ => ⟨S2x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 1 90 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32_33 : BitVec 32 := 1024#32
  let v54 : BitVec 32 := Scalar.muli v32 c1024_i32_33
  let c0_i32_38 : BitVec 32 := 0#32
  ![v54.toNat, 0]
def k0_off2 (d0 : Dev nD) (c1_i32_44 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let v65 : BitVec 32 := Scalar.addi v32 c1_i32_44
  let c4_i32_45 : BitVec 32 := 4#32
  let c0_i32_46 : BitVec 32 := 0#32
  let v66 : BitVec 1 := Scalar.cmpi .eq c4_i32_45 c0_i32_46
  let c1_i32_47 : BitVec 32 := 1#32
  let v67 : BitVec 32 := Scalar.select v66 c1_i32_47 c4_i32_45
  let v68 : BitVec 32 := Scalar.remsi v65 v67
  let c0_i32_49 : BitVec 32 := 0#32
  let v70 : BitVec 1 := Scalar.cmpi .slt v68 c0_i32_49
  let c0_i32_50 : BitVec 32 := 0#32
  let v71 : BitVec 1 := Scalar.cmpi .slt v67 c0_i32_50
  let v72 : BitVec 1 := Scalar.xori v70 v71
  let c0_i32_48 : BitVec 32 := 0#32
  let v69 : BitVec 1 := Scalar.cmpi .ne v68 c0_i32_48
  let v73 : BitVec 1 := Scalar.andi v72 v69
  let v74 : BitVec 32 := Scalar.addi v68 v67
  let v75 : BitVec 32 := Scalar.select v73 v74 v68
  let c1024_i32_51 : BitVec 32 := 1024#32
  let v76 : BitVec 32 := Scalar.muli v75 c1024_i32_51
  let c0_i32_56 : BitVec 32 := 0#32
  ![v76.toNat, 0]
def k0_off3 (d0 : Dev nD) (c0_i32_60 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32_59 : BitVec 32 := 1024#32
  let v85 : BitVec 32 := Scalar.muli v32 c1024_i32_59
  let v86 : BitVec 32 := Scalar.addi v85 c0_i32_60
  let v87 : Index := Scalar.indexCast v86
  let c0_61 : Index := 0#32
  ![v87.toNat, 0]
def k0_off4 (d0 : Dev nD) (c0_i32_64 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v37 : BitVec 32 := Scalar.muli v2 c4096_i32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32 : BitVec 32 := 1024#32
  let v40 : BitVec 32 := Scalar.muli v32 c1024_i32
  let v41 : BitVec 32 := Scalar.addi v37 v40
  let v93 : BitVec 32 := Scalar.addi v41 c0_i32_64
  let c0_i32_71 : BitVec 32 := 0#32
  ![v93.toNat, 0]
def k0_off5 (d0 : Dev nD) (c0_i32_63 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32_62 : BitVec 32 := 1024#32
  let v91 : BitVec 32 := Scalar.muli v32 c1024_i32_62
  let v92 : BitVec 32 := Scalar.addi v91 c0_i32_63
  let c0_i32_72 : BitVec 32 := 0#32
  ![v92.toNat, 0]
def k0_dev4 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v94 : BitVec 32 := Scalar.muli v9 c4_i32_67
  let v95 : BitVec 32 := Scalar.addi c0_i32_68 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v96 : BitVec 32 := Scalar.muli v5 c2_i32_69
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v98 : BitVec 32 := Scalar.muli v8 c1_i32_70
  let v99 : BitVec 32 := Scalar.addi v97 v98
  v99.toNat
def k0_dev5 (d0 : Dev nD) : Nat :=
  let c0_i32_83 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_82 : BitVec 32 := 4#32
  let v118 : BitVec 32 := Scalar.muli v9 c4_i32_82
  let v119 : BitVec 32 := Scalar.addi c0_i32_83 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v120 : BitVec 32 := Scalar.muli v5 c2_i32_84
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v122 : BitVec 32 := Scalar.muli v8 c1_i32_85
  let v123 : BitVec 32 := Scalar.addi v121 v122
  v123.toNat
def k0_dev6 (d0 : Dev nD) : Nat :=
  let c0_i32_98 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_97 : BitVec 32 := 4#32
  let v142 : BitVec 32 := Scalar.muli v9 c4_i32_97
  let v143 : BitVec 32 := Scalar.addi c0_i32_98 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v144 : BitVec 32 := Scalar.muli v5 c2_i32_99
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v146 : BitVec 32 := Scalar.muli v8 c1_i32_100
  let v147 : BitVec 32 := Scalar.addi v145 v146
  v147.toNat
def k0_dev7 (d0 : Dev nD) : Nat :=
  let c0_i32_113 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_112 : BitVec 32 := 4#32
  let v166 : BitVec 32 := Scalar.muli v9 c4_i32_112
  let v167 : BitVec 32 := Scalar.addi c0_i32_113 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v168 : BitVec 32 := Scalar.muli v5 c2_i32_114
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v170 : BitVec 32 := Scalar.muli v8 c1_i32_115
  let v171 : BitVec 32 := Scalar.addi v169 v170
  v171.toNat
def k0_dev8 (d0 : Dev nD) : Nat :=
  let c0_i32_128 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_127 : BitVec 32 := 4#32
  let v190 : BitVec 32 := Scalar.muli v9 c4_i32_127
  let v191 : BitVec 32 := Scalar.addi c0_i32_128 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v192 : BitVec 32 := Scalar.muli v5 c2_i32_129
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v194 : BitVec 32 := Scalar.muli v8 c1_i32_130
  let v195 : BitVec 32 := Scalar.addi v193 v194
  v195.toNat
def k0_dev9 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v214 : BitVec 32 := Scalar.muli v9 c4_i32_141
  let v215 : BitVec 32 := Scalar.addi c0_i32_142 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v216 : BitVec 32 := Scalar.muli v5 c2_i32_143
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v218 : BitVec 32 := Scalar.muli v8 c1_i32_144
  let v219 : BitVec 32 := Scalar.addi v217 v218
  v219.toNat
def k0_dev10 (d0 : Dev nD) : Nat :=
  let c0_i32_156 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_155 : BitVec 32 := 4#32
  let v238 : BitVec 32 := Scalar.muli v9 c4_i32_155
  let v239 : BitVec 32 := Scalar.addi c0_i32_156 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v240 : BitVec 32 := Scalar.muli v5 c2_i32_157
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v242 : BitVec 32 := Scalar.muli v8 c1_i32_158
  let v243 : BitVec 32 := Scalar.addi v241 v242
  v243.toNat
def k0_dev11 (d0 : Dev nD) : Nat :=
  let c0_i32_170 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_169 : BitVec 32 := 4#32
  let v262 : BitVec 32 := Scalar.muli v9 c4_i32_169
  let v263 : BitVec 32 := Scalar.addi c0_i32_170 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v264 : BitVec 32 := Scalar.muli v5 c2_i32_171
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v266 : BitVec 32 := Scalar.muli v8 c1_i32_172
  let v267 : BitVec 32 := Scalar.addi v265 v266
  v267.toNat
def k0_off6 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v37 : BitVec 32 := Scalar.muli v2 c4096_i32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32 : BitVec 32 := 1024#32
  let v40 : BitVec 32 := Scalar.muli v32 c1024_i32
  let v41 : BitVec 32 := Scalar.addi v37 v40
  let c0_i32_177 : BitVec 32 := 0#32
  ![v41.toNat, 0]
def k0_off7 (d0 : Dev nD) (c1_i32_191 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let v295 : BitVec 32 := Scalar.addi v32 c1_i32_191
  let c1_i32_192 : BitVec 32 := 1#32
  let v296 : BitVec 32 := Scalar.addi v295 c1_i32_192
  let c4_i32_193 : BitVec 32 := 4#32
  let c0_i32_194 : BitVec 32 := 0#32
  let v297 : BitVec 1 := Scalar.cmpi .eq c4_i32_193 c0_i32_194
  let c1_i32_195 : BitVec 32 := 1#32
  let v298 : BitVec 32 := Scalar.select v297 c1_i32_195 c4_i32_193
  let v299 : BitVec 32 := Scalar.remsi v296 v298
  let c0_i32_197 : BitVec 32 := 0#32
  let v301 : BitVec 1 := Scalar.cmpi .slt v299 c0_i32_197
  let c0_i32_198 : BitVec 32 := 0#32
  let v302 : BitVec 1 := Scalar.cmpi .slt v298 c0_i32_198
  let v303 : BitVec 1 := Scalar.xori v301 v302
  let c0_i32_196 : BitVec 32 := 0#32
  let v300 : BitVec 1 := Scalar.cmpi .ne v299 c0_i32_196
  let v304 : BitVec 1 := Scalar.andi v303 v300
  let v305 : BitVec 32 := Scalar.addi v299 v298
  let v306 : BitVec 32 := Scalar.select v304 v305 v299
  let c1024_i32_199 : BitVec 32 := 1024#32
  let v307 : BitVec 32 := Scalar.muli v306 c1024_i32_199
  let c0_i32_204 : BitVec 32 := 0#32
  ![v307.toNat, 0]
def k0_off8 (d0 : Dev nD) (c1_i32_179 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let v279 : BitVec 32 := Scalar.addi v32 c1_i32_179
  let c4_i32_180 : BitVec 32 := 4#32
  let c0_i32_181 : BitVec 32 := 0#32
  let v280 : BitVec 1 := Scalar.cmpi .eq c4_i32_180 c0_i32_181
  let c1_i32_182 : BitVec 32 := 1#32
  let v281 : BitVec 32 := Scalar.select v280 c1_i32_182 c4_i32_180
  let v282 : BitVec 32 := Scalar.remsi v279 v281
  let c0_i32_184 : BitVec 32 := 0#32
  let v284 : BitVec 1 := Scalar.cmpi .slt v282 c0_i32_184
  let c0_i32_185 : BitVec 32 := 0#32
  let v285 : BitVec 1 := Scalar.cmpi .slt v281 c0_i32_185
  let v286 : BitVec 1 := Scalar.xori v284 v285
  let c0_i32_183 : BitVec 32 := 0#32
  let v283 : BitVec 1 := Scalar.cmpi .ne v282 c0_i32_183
  let v287 : BitVec 1 := Scalar.andi v286 v283
  let v288 : BitVec 32 := Scalar.addi v282 v281
  let v289 : BitVec 32 := Scalar.select v287 v288 v282
  let c1024_i32_207 : BitVec 32 := 1024#32
  let v316 : BitVec 32 := Scalar.muli v289 c1024_i32_207
  let v317 : Index := Scalar.indexCast v316
  let c0_208 : Index := 0#32
  ![v317.toNat, 0]
def k0_off9 (d0 : Dev nD) (c1_i32_179 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v37 : BitVec 32 := Scalar.muli v2 c4096_i32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let v279 : BitVec 32 := Scalar.addi v32 c1_i32_179
  let c4_i32_180 : BitVec 32 := 4#32
  let c0_i32_181 : BitVec 32 := 0#32
  let v280 : BitVec 1 := Scalar.cmpi .eq c4_i32_180 c0_i32_181
  let c1_i32_182 : BitVec 32 := 1#32
  let v281 : BitVec 32 := Scalar.select v280 c1_i32_182 c4_i32_180
  let v282 : BitVec 32 := Scalar.remsi v279 v281
  let c0_i32_184 : BitVec 32 := 0#32
  let v284 : BitVec 1 := Scalar.cmpi .slt v282 c0_i32_184
  let c0_i32_185 : BitVec 32 := 0#32
  let v285 : BitVec 1 := Scalar.cmpi .slt v281 c0_i32_185
  let v286 : BitVec 1 := Scalar.xori v284 v285
  let c0_i32_183 : BitVec 32 := 0#32
  let v283 : BitVec 1 := Scalar.cmpi .ne v282 c0_i32_183
  let v287 : BitVec 1 := Scalar.andi v286 v283
  let v288 : BitVec 32 := Scalar.addi v282 v281
  let v289 : BitVec 32 := Scalar.select v287 v288 v282
  let c1024_i32_210 : BitVec 32 := 1024#32
  let v322 : BitVec 32 := Scalar.muli v289 c1024_i32_210
  let v323 : BitVec 32 := Scalar.addi v37 v322
  let c0_i32_212 : BitVec 32 := 0#32
  ![v323.toNat, 0]
def k0_off10 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v37 : BitVec 32 := Scalar.muli v2 c4096_i32
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_23 v8
  let v36 : BitVec 32 := Scalar.addi v34 v35
  let c1024_i32_274 : BitVec 32 := 1024#32
  let v410 : BitVec 32 := Scalar.muli v36 c1024_i32_274
  let v411 : BitVec 32 := Scalar.addi v37 v410
  let c768_i32_275 : BitVec 32 := 768#32
  let v412 : BitVec 32 := Scalar.addi v411 c768_i32_275
  let c0_i32_281 : BitVec 32 := 0#32
  ![v412.toNat, 0]
def k0_off11 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_23 v8
  let v36 : BitVec 32 := Scalar.addi v34 v35
  let c1024_i32_272 : BitVec 32 := 1024#32
  let v408 : BitVec 32 := Scalar.muli v36 c1024_i32_272
  let c768_i32_273 : BitVec 32 := 768#32
  let v409 : BitVec 32 := Scalar.addi v408 c768_i32_273
  let c0_i32_282 : BitVec 32 := 0#32
  ![v409.toNat, 0]
def k0_dev12 (d0 : Dev nD) : Nat :=
  let c0_i32_278 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_277 : BitVec 32 := 4#32
  let v413 : BitVec 32 := Scalar.muli v9 c4_i32_277
  let v414 : BitVec 32 := Scalar.addi c0_i32_278 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v415 : BitVec 32 := Scalar.muli v5 c2_i32_279
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v417 : BitVec 32 := Scalar.muli v8 c1_i32_280
  let v418 : BitVec 32 := Scalar.addi v416 v417
  v418.toNat
def k0_off12 (d0 : Dev nD) (c0_i32_292 : BitVec 32) : Fin 2 → Nat :=
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_24 v2
  let c4096_i32_25 : BitVec 32 := 4096#32
  let v39 : BitVec 32 := Scalar.muli v38 c4096_i32_25
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32_26 : BitVec 32 := 1024#32
  let v42 : BitVec 32 := Scalar.muli v32 c1024_i32_26
  let v43 : BitVec 32 := Scalar.addi v39 v42
  let v436 : BitVec 32 := Scalar.addi v43 c0_i32_292
  let c0_i32_299 : BitVec 32 := 0#32
  ![v436.toNat, 0]
def k0_dev13 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v437 : BitVec 32 := Scalar.muli v2 c4_i32_295
  let v438 : BitVec 32 := Scalar.addi c0_i32_296 v437
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_297 : BitVec 32 := 2#32
  let v439 : BitVec 32 := Scalar.muli v10 c2_i32_297
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v441 : BitVec 32 := Scalar.muli v8 c1_i32_298
  let v442 : BitVec 32 := Scalar.addi v440 v441
  v442.toNat
def k0_dev14 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v451 : BitVec 32 := Scalar.muli v2 c4_i32_305
  let v452 : BitVec 32 := Scalar.addi c0_i32_306 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v453 : BitVec 32 := Scalar.muli v5 c2_i32_307
  let v454 : BitVec 32 := Scalar.addi v452 v453
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_308 : BitVec 32 := 1#32
  let v455 : BitVec 32 := Scalar.muli v11 c1_i32_308
  let v456 : BitVec 32 := Scalar.addi v454 v455
  v456.toNat
def k0_dev15 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v475 : BitVec 32 := Scalar.muli v2 c4_i32_323
  let v476 : BitVec 32 := Scalar.addi c0_i32_324 v475
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_325 : BitVec 32 := 2#32
  let v477 : BitVec 32 := Scalar.muli v10 c2_i32_325
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v479 : BitVec 32 := Scalar.muli v8 c1_i32_326
  let v480 : BitVec 32 := Scalar.addi v478 v479
  v480.toNat
def k0_dev16 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v489 : BitVec 32 := Scalar.muli v2 c4_i32_333
  let v490 : BitVec 32 := Scalar.addi c0_i32_334 v489
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_335 : BitVec 32 := 2#32
  let v491 : BitVec 32 := Scalar.muli v5 c2_i32_335
  let v492 : BitVec 32 := Scalar.addi v490 v491
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_336 : BitVec 32 := 1#32
  let v493 : BitVec 32 := Scalar.muli v11 c1_i32_336
  let v494 : BitVec 32 := Scalar.addi v492 v493
  v494.toNat
def k0_dev17 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v513 : BitVec 32 := Scalar.muli v2 c4_i32_351
  let v514 : BitVec 32 := Scalar.addi c0_i32_352 v513
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_353 : BitVec 32 := 2#32
  let v515 : BitVec 32 := Scalar.muli v10 c2_i32_353
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v517 : BitVec 32 := Scalar.muli v8 c1_i32_354
  let v518 : BitVec 32 := Scalar.addi v516 v517
  v518.toNat
def k0_dev18 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v527 : BitVec 32 := Scalar.muli v2 c4_i32_361
  let v528 : BitVec 32 := Scalar.addi c0_i32_362 v527
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v529 : BitVec 32 := Scalar.muli v5 c2_i32_363
  let v530 : BitVec 32 := Scalar.addi v528 v529
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_364 : BitVec 32 := 1#32
  let v531 : BitVec 32 := Scalar.muli v11 c1_i32_364
  let v532 : BitVec 32 := Scalar.addi v530 v531
  v532.toNat
def k0_dev19 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_379 : BitVec 32 := 4#32
  let v551 : BitVec 32 := Scalar.muli v2 c4_i32_379
  let v552 : BitVec 32 := Scalar.addi c0_i32_380 v551
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_381 : BitVec 32 := 2#32
  let v553 : BitVec 32 := Scalar.muli v10 c2_i32_381
  let v554 : BitVec 32 := Scalar.addi v552 v553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_382 : BitVec 32 := 1#32
  let v555 : BitVec 32 := Scalar.muli v8 c1_i32_382
  let v556 : BitVec 32 := Scalar.addi v554 v555
  v556.toNat
def k0_dev20 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v565 : BitVec 32 := Scalar.muli v2 c4_i32_389
  let v566 : BitVec 32 := Scalar.addi c0_i32_390 v565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v567 : BitVec 32 := Scalar.muli v5 c2_i32_391
  let v568 : BitVec 32 := Scalar.addi v566 v567
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_392 : BitVec 32 := 1#32
  let v569 : BitVec 32 := Scalar.muli v11 c1_i32_392
  let v570 : BitVec 32 := Scalar.addi v568 v569
  v570.toNat
def k0_dev21 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v589 : BitVec 32 := Scalar.muli v2 c4_i32_407
  let v590 : BitVec 32 := Scalar.addi c0_i32_408 v589
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_409 : BitVec 32 := 2#32
  let v591 : BitVec 32 := Scalar.muli v10 c2_i32_409
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_410 : BitVec 32 := 1#32
  let v593 : BitVec 32 := Scalar.muli v8 c1_i32_410
  let v594 : BitVec 32 := Scalar.addi v592 v593
  v594.toNat
def k0_dev22 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v603 : BitVec 32 := Scalar.muli v2 c4_i32_417
  let v604 : BitVec 32 := Scalar.addi c0_i32_418 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v605 : BitVec 32 := Scalar.muli v5 c2_i32_419
  let v606 : BitVec 32 := Scalar.addi v604 v605
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_420 : BitVec 32 := 1#32
  let v607 : BitVec 32 := Scalar.muli v11 c1_i32_420
  let v608 : BitVec 32 := Scalar.addi v606 v607
  v608.toNat
def k0_dev23 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v627 : BitVec 32 := Scalar.muli v2 c4_i32_435
  let v628 : BitVec 32 := Scalar.addi c0_i32_436 v627
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_437 : BitVec 32 := 2#32
  let v629 : BitVec 32 := Scalar.muli v10 c2_i32_437
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v631 : BitVec 32 := Scalar.muli v8 c1_i32_438
  let v632 : BitVec 32 := Scalar.addi v630 v631
  v632.toNat
def k0_dev24 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v641 : BitVec 32 := Scalar.muli v2 c4_i32_445
  let v642 : BitVec 32 := Scalar.addi c0_i32_446 v641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v643 : BitVec 32 := Scalar.muli v5 c2_i32_447
  let v644 : BitVec 32 := Scalar.addi v642 v643
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_448 : BitVec 32 := 1#32
  let v645 : BitVec 32 := Scalar.muli v11 c1_i32_448
  let v646 : BitVec 32 := Scalar.addi v644 v645
  v646.toNat
def k0_dev25 (d0 : Dev nD) : Nat :=
  let c0_i32_464 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_463 : BitVec 32 := 4#32
  let v665 : BitVec 32 := Scalar.muli v2 c4_i32_463
  let v666 : BitVec 32 := Scalar.addi c0_i32_464 v665
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_465 : BitVec 32 := 2#32
  let v667 : BitVec 32 := Scalar.muli v10 c2_i32_465
  let v668 : BitVec 32 := Scalar.addi v666 v667
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_466 : BitVec 32 := 1#32
  let v669 : BitVec 32 := Scalar.muli v8 c1_i32_466
  let v670 : BitVec 32 := Scalar.addi v668 v669
  v670.toNat
def k0_dev26 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v679 : BitVec 32 := Scalar.muli v2 c4_i32_473
  let v680 : BitVec 32 := Scalar.addi c0_i32_474 v679
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v681 : BitVec 32 := Scalar.muli v5 c2_i32_475
  let v682 : BitVec 32 := Scalar.addi v680 v681
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_476 : BitVec 32 := 1#32
  let v683 : BitVec 32 := Scalar.muli v11 c1_i32_476
  let v684 : BitVec 32 := Scalar.addi v682 v683
  v684.toNat
def k0_dev27 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_491 : BitVec 32 := 4#32
  let v703 : BitVec 32 := Scalar.muli v2 c4_i32_491
  let v704 : BitVec 32 := Scalar.addi c0_i32_492 v703
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_493 : BitVec 32 := 2#32
  let v705 : BitVec 32 := Scalar.muli v10 c2_i32_493
  let v706 : BitVec 32 := Scalar.addi v704 v705
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_494 : BitVec 32 := 1#32
  let v707 : BitVec 32 := Scalar.muli v8 c1_i32_494
  let v708 : BitVec 32 := Scalar.addi v706 v707
  v708.toNat
def k0_dev28 (d0 : Dev nD) : Nat :=
  let c0_i32_502 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_501 : BitVec 32 := 4#32
  let v717 : BitVec 32 := Scalar.muli v2 c4_i32_501
  let v718 : BitVec 32 := Scalar.addi c0_i32_502 v717
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_503 : BitVec 32 := 2#32
  let v719 : BitVec 32 := Scalar.muli v5 c2_i32_503
  let v720 : BitVec 32 := Scalar.addi v718 v719
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_504 : BitVec 32 := 1#32
  let v721 : BitVec 32 := Scalar.muli v11 c1_i32_504
  let v722 : BitVec 32 := Scalar.addi v720 v721
  v722.toNat
def k0_off13 (d0 : Dev nD) (c0_i32_516 : BitVec 32) : Fin 2 → Nat :=
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_24 v2
  let c4096_i32_25 : BitVec 32 := 4096#32
  let v39 : BitVec 32 := Scalar.muli v38 c4096_i32_25
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.muli c2_i32_30 v5
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_31 v8
  let v51 : BitVec 32 := Scalar.addi v49 v50
  let c1024_i32_32 : BitVec 32 := 1024#32
  let v52 : BitVec 32 := Scalar.muli v51 c1024_i32_32
  let v53 : BitVec 32 := Scalar.addi v39 v52
  let v740 : BitVec 32 := Scalar.addi v53 c0_i32_516
  let c0_i32_523 : BitVec 32 := 0#32
  ![v740.toNat, 0]
def k0_dev29 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v741 : BitVec 32 := Scalar.muli v2 c4_i32_519
  let v742 : BitVec 32 := Scalar.addi c0_i32_520 v741
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_521 : BitVec 32 := 2#32
  let v743 : BitVec 32 := Scalar.muli v10 c2_i32_521
  let v744 : BitVec 32 := Scalar.addi v742 v743
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_522 : BitVec 32 := 1#32
  let v745 : BitVec 32 := Scalar.muli v8 c1_i32_522
  let v746 : BitVec 32 := Scalar.addi v744 v745
  v746.toNat
def k0_dev30 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v765 : BitVec 32 := Scalar.muli v2 c4_i32_536
  let v766 : BitVec 32 := Scalar.addi c0_i32_537 v765
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_538 : BitVec 32 := 2#32
  let v767 : BitVec 32 := Scalar.muli v10 c2_i32_538
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_539 : BitVec 32 := 1#32
  let v769 : BitVec 32 := Scalar.muli v8 c1_i32_539
  let v770 : BitVec 32 := Scalar.addi v768 v769
  v770.toNat
def k0_dev31 (d0 : Dev nD) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v789 : BitVec 32 := Scalar.muli v2 c4_i32_553
  let v790 : BitVec 32 := Scalar.addi c0_i32_554 v789
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_555 : BitVec 32 := 2#32
  let v791 : BitVec 32 := Scalar.muli v10 c2_i32_555
  let v792 : BitVec 32 := Scalar.addi v790 v791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v793 : BitVec 32 := Scalar.muli v8 c1_i32_556
  let v794 : BitVec 32 := Scalar.addi v792 v793
  v794.toNat
def k0_off14 (d0 : Dev nD) (c384_i32_568 : BitVec 32) : Fin 2 → Nat :=
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_24 v2
  let c4096_i32_25 : BitVec 32 := 4096#32
  let v39 : BitVec 32 := Scalar.muli v38 c4096_i32_25
  let c2_i32_28 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.subi c1_i32_27 v5
  let v45 : BitVec 32 := Scalar.muli c2_i32_28 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.addi v45 v8
  let c1024_i32_29 : BitVec 32 := 1024#32
  let v47 : BitVec 32 := Scalar.muli v46 c1024_i32_29
  let v48 : BitVec 32 := Scalar.addi v39 v47
  let v812 : BitVec 32 := Scalar.addi v48 c384_i32_568
  let c0_i32_574 : BitVec 32 := 0#32
  ![v812.toNat, 0]
def k0_dev32 (d0 : Dev nD) : Nat :=
  let c0_i32_571 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_570 : BitVec 32 := 4#32
  let v813 : BitVec 32 := Scalar.muli v2 c4_i32_570
  let v814 : BitVec 32 := Scalar.addi c0_i32_571 v813
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_572 : BitVec 32 := 2#32
  let v815 : BitVec 32 := Scalar.muli v5 c2_i32_572
  let v816 : BitVec 32 := Scalar.addi v814 v815
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_573 : BitVec 32 := 1#32
  let v817 : BitVec 32 := Scalar.muli v11 c1_i32_573
  let v818 : BitVec 32 := Scalar.addi v816 v817
  v818.toNat
def k0_dev33 (d0 : Dev nD) : Nat :=
  let c0_i32_588 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_587 : BitVec 32 := 4#32
  let v837 : BitVec 32 := Scalar.muli v2 c4_i32_587
  let v838 : BitVec 32 := Scalar.addi c0_i32_588 v837
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_589 : BitVec 32 := 2#32
  let v839 : BitVec 32 := Scalar.muli v5 c2_i32_589
  let v840 : BitVec 32 := Scalar.addi v838 v839
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_590 : BitVec 32 := 1#32
  let v841 : BitVec 32 := Scalar.muli v11 c1_i32_590
  let v842 : BitVec 32 := Scalar.addi v840 v841
  v842.toNat
def k0_dev34 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v861 : BitVec 32 := Scalar.muli v2 c4_i32_604
  let v862 : BitVec 32 := Scalar.addi c0_i32_605 v861
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v863 : BitVec 32 := Scalar.muli v5 c2_i32_606
  let v864 : BitVec 32 := Scalar.addi v862 v863
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_607 : BitVec 32 := 1#32
  let v865 : BitVec 32 := Scalar.muli v11 c1_i32_607
  let v866 : BitVec 32 := Scalar.addi v864 v865
  v866.toNat
-- ==== ReferenceIdeal.lean ====
abbrev S8192x1024 : Shape := ⟨2, ![8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Rows.lean ====
/-
# The mesh, the rows of the buffers, and the contents that travel

The eight devices form a 2 × 2 × 2 mesh; device `c` has coordinates `x = c / 4`, `y = c / 2 % 2`, `z = c % 2`. Each
holds one half of the array (the half its `x` names, 4096 rows), rounds it to bf16, and ends with both halves. A half is
handled in four quarters of 1024 rows; device `c`'s own quarter is number `c % 4`.

This file names the neighbours, the row ranges of each transfer, the contents each buffer is to hold, and reads the
printed offsets and device numbers in these terms. Every transferred piece is a range of whole rows, so a set of buffer
elements is `rows a n`: the rows `a ≤ · < a + n`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI

variable {F : FTy → Type} [FloatOps F]

/-! ## Neighbours -/

/-- Device `c`'s neighbour along one axis of the mesh: 0 is `x`, 1 is `y`, 2 is `z`. -/
def nb (d : Fin 3) (c : Dev nD) : Dev nD :=
  match d with
  | 0 => ⟨(c.val + 4) % 8, Nat.mod_lt _ (by decide)⟩
  | 1 => ⟨(4 * (c.val / 4) + (c.val + 2) % 4) % 8, Nat.mod_lt _ (by decide)⟩
  | 2 => ⟨(2 * (c.val / 2) + (c.val + 1) % 2) % 8, Nat.mod_lt _ (by decide)⟩

/-- Going along an axis twice comes back. -/
theorem nb_nb : ∀ (d : Fin 3) (c : Dev nD), nb d (nb d c) = c := by decide

/-- Going along an axis as a permutation of the devices. -/
def nbEquiv (d : Fin 3) : Dev nD ≃ Dev nD := ⟨nb d, nb d, nb_nb d, nb_nb d⟩

/-! ## The row ranges -/

/-- First row (within a half) of the quarter `k` places after `c`'s own. -/
def qRow (c : Dev nD) (k : ℕ) : ℕ := 1024 * ((c.val % 4 + k) % 4)
/-- First row (within a half) of chunk `r` of `c`'s own quarter. -/
def sRow (c : Dev nD) (r : ℕ) : ℕ := 1024 * (c.val % 4) + 128 * r
/-- First row (within a half) of the last quarter of the quarter diagonally opposite to `c`'s own. -/
def sDiag (c : Dev nD) : ℕ := 3840 - 1024 * (c.val % 4)
/-- First result row of the quarter `k` places after `c`'s own, in `c`'s own half. -/
def mRow (c : Dev nD) (k : ℕ) : ℕ := 4096 * (c.val / 4) + qRow c k
/-- First result row of the other half. -/
def oRow (c : Dev nD) : ℕ := 4096 * (1 - c.val / 4)
/-- First result row of chunk `r` of what the `x` neighbour sends: `c`'s own quarter of the other half. -/
def xRow (c : Dev nD) (r : ℕ) : ℕ := oRow c + 1024 * (c.val % 4) + 128 * r
/-- First result row of chunk `r` of what the `y` neighbour forwards: its quarter of the other half. -/
def yRow (c : Dev nD) (r : ℕ) : ℕ := oRow c + 1024 * ((c.val % 4 + 2) % 4) + 128 * r
/-- First result row of chunk `r` of what the `z` neighbour forwards: its quarter of the other half. -/
def zRow (c : Dev nD) (r : ℕ) : ℕ := oRow c + 1024 * (2 * (c.val % 4 / 2) + (c.val + 1) % 2) + 128 * r
/-- First result row of chunk `r` of the diagonally opposite quarter of the other half. -/
def dRow (c : Dev nD) (r : ℕ) : ℕ := oRow c + 1024 * (3 - c.val % 4) + 128 * r

/-! ## The printed devices -/

theorem dev1_eq : ∀ c : Dev nD, (⟨k0_dev1 c, k0_dev1_lt c⟩ : Dev nD) = nb 0 c := by decide +kernel
theorem dev2_eq : ∀ c : Dev nD, (⟨k0_dev2 c, k0_dev2_lt c⟩ : Dev nD) = nb 1 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = nb 0 c := by decide +kernel
theorem dev5_eq : ∀ c : Dev nD, (⟨k0_dev5 c, k0_dev5_lt c⟩ : Dev nD) = nb 0 c := by decide +kernel
theorem dev6_eq : ∀ c : Dev nD, (⟨k0_dev6 c, k0_dev6_lt c⟩ : Dev nD) = nb 0 c := by decide +kernel
theorem dev7_eq : ∀ c : Dev nD, (⟨k0_dev7 c, k0_dev7_lt c⟩ : Dev nD) = nb 0 c := by decide +kernel
theorem dev8_eq : ∀ c : Dev nD, (⟨k0_dev8 c, k0_dev8_lt c⟩ : Dev nD) = nb 0 c := by decide +kernel
theorem dev9_eq : ∀ c : Dev nD, (⟨k0_dev9 c, k0_dev9_lt c⟩ : Dev nD) = nb 0 c := by decide +kernel
theorem dev10_eq : ∀ c : Dev nD, (⟨k0_dev10 c, k0_dev10_lt c⟩ : Dev nD) = nb 0 c := by decide +kernel
theorem dev11_eq : ∀ c : Dev nD, (⟨k0_dev11 c, k0_dev11_lt c⟩ : Dev nD) = nb 0 c := by decide +kernel
theorem dev12_eq : ∀ c : Dev nD, (⟨k0_dev12 c, k0_dev12_lt c⟩ : Dev nD) = nb 0 c := by decide +kernel
theorem dev13_eq : ∀ c : Dev nD, (⟨k0_dev13 c, k0_dev13_lt c⟩ : Dev nD) = nb 1 c := by decide +kernel
theorem dev14_eq : ∀ c : Dev nD, (⟨k0_dev14 c, k0_dev14_lt c⟩ : Dev nD) = nb 2 c := by decide +kernel
theorem dev15_eq : ∀ c : Dev nD, (⟨k0_dev15 c, k0_dev15_lt c⟩ : Dev nD) = nb 1 c := by decide +kernel
theorem dev16_eq : ∀ c : Dev nD, (⟨k0_dev16 c, k0_dev16_lt c⟩ : Dev nD) = nb 2 c := by decide +kernel
theorem dev17_eq : ∀ c : Dev nD, (⟨k0_dev17 c, k0_dev17_lt c⟩ : Dev nD) = nb 1 c := by decide +kernel
theorem dev18_eq : ∀ c : Dev nD, (⟨k0_dev18 c, k0_dev18_lt c⟩ : Dev nD) = nb 2 c := by decide +kernel
theorem dev19_eq : ∀ c : Dev nD, (⟨k0_dev19 c, k0_dev19_lt c⟩ : Dev nD) = nb 1 c := by decide +kernel
theorem dev20_eq : ∀ c : Dev nD, (⟨k0_dev20 c, k0_dev20_lt c⟩ : Dev nD) = nb 2 c := by decide +kernel
theorem dev21_eq : ∀ c : Dev nD, (⟨k0_dev21 c, k0_dev21_lt c⟩ : Dev nD) = nb 1 c := by decide +kernel
theorem dev22_eq : ∀ c : Dev nD, (⟨k0_dev22 c, k0_dev22_lt c⟩ : Dev nD) = nb 2 c := by decide +kernel
theorem dev23_eq : ∀ c : Dev nD, (⟨k0_dev23 c, k0_dev23_lt c⟩ : Dev nD) = nb 1 c := by decide +kernel
theorem dev24_eq : ∀ c : Dev nD, (⟨k0_dev24 c, k0_dev24_lt c⟩ : Dev nD) = nb 2 c := by decide +kernel
theorem dev25_eq : ∀ c : Dev nD, (⟨k0_dev25 c, k0_dev25_lt c⟩ : Dev nD) = nb 1 c := by decide +kernel
theorem dev26_eq : ∀ c : Dev nD, (⟨k0_dev26 c, k0_dev26_lt c⟩ : Dev nD) = nb 2 c := by decide +kernel
theorem dev27_eq : ∀ c : Dev nD, (⟨k0_dev27 c, k0_dev27_lt c⟩ : Dev nD) = nb 1 c := by decide +kernel
theorem dev28_eq : ∀ c : Dev nD, (⟨k0_dev28 c, k0_dev28_lt c⟩ : Dev nD) = nb 2 c := by decide +kernel
theorem dev29_eq : ∀ c : Dev nD, (⟨k0_dev29 c, k0_dev29_lt c⟩ : Dev nD) = nb 1 c := by decide +kernel
theorem dev30_eq : ∀ c : Dev nD, (⟨k0_dev30 c, k0_dev30_lt c⟩ : Dev nD) = nb 1 c := by decide +kernel
theorem dev31_eq : ∀ c : Dev nD, (⟨k0_dev31 c, k0_dev31_lt c⟩ : Dev nD) = nb 1 c := by decide +kernel
theorem dev32_eq : ∀ c : Dev nD, (⟨k0_dev32 c, k0_dev32_lt c⟩ : Dev nD) = nb 2 c := by decide +kernel
theorem dev33_eq : ∀ c : Dev nD, (⟨k0_dev33 c, k0_dev33_lt c⟩ : Dev nD) = nb 2 c := by decide +kernel
theorem dev34_eq : ∀ c : Dev nD, (⟨k0_dev34 c, k0_dev34_lt c⟩ : Dev nD) = nb 2 c := by decide +kernel

/-! ## The printed offsets -/

/-- The fetch of the own quarter, and the own quarter of the shard. -/
theorem off1_eq : ∀ c : Dev nD, k0_off1 c = ![qRow c 0, 0] := by decide +kernel
theorem off2_eq : ∀ (c : Dev nD) (k : Fin 3), k0_off2 c (BitVec.ofNat 32 (k.val + 1)) = ![qRow c (k.val + 1), 0] := by decide +kernel
theorem off3_eq : ∀ (c : Dev nD) (r : Fin 8), k0_off3 c (BitVec.ofNat 32 (128 * r.val)) = ![sRow c r.val, 0] := by decide +kernel
theorem off4_eq : ∀ (c : Dev nD) (r : Fin 8), k0_off4 c (BitVec.ofNat 32 (128 * r.val)) = ![xRow (nb 0 c) r.val, 0] := by decide +kernel
theorem off5_eq : ∀ (c : Dev nD) (r : Fin 8), k0_off5 c (BitVec.ofNat 32 (128 * r.val)) = ![sRow c r.val, 0] := by decide +kernel
theorem off6_eq : ∀ c : Dev nD, k0_off6 c = ![mRow c 0, 0] := by decide +kernel
theorem off7_eq : ∀ (c : Dev nD) (k : Fin 2), k0_off7 c (BitVec.ofNat 32 (k.val + 1)) = ![qRow c (k.val + 2), 0] := by decide +kernel
theorem off8_eq : ∀ (c : Dev nD) (k : Fin 3), k0_off8 c (BitVec.ofNat 32 (k.val + 1)) = ![qRow c (k.val + 1), 0] := by decide +kernel
theorem off9_eq : ∀ (c : Dev nD) (k : Fin 3), k0_off9 c (BitVec.ofNat 32 (k.val + 1)) = ![mRow c (k.val + 1), 0] := by decide +kernel
theorem off10_eq : ∀ c : Dev nD, k0_off10 c = ![dRow (nb 0 c) 6, 0] := by decide +kernel
theorem off11_eq : ∀ c : Dev nD, k0_off11 c = ![sDiag c, 0] := by decide +kernel
theorem off12_eq : ∀ (c : Dev nD) (r : Fin 8), k0_off12 c (BitVec.ofNat 32 (128 * r.val)) = ![xRow c r.val, 0] := by decide +kernel
theorem off12_eq_y : ∀ (c : Dev nD) (r : Fin 8), k0_off12 c (BitVec.ofNat 32 (128 * r.val)) = ![yRow (nb 1 c) r.val, 0] := by decide +kernel
theorem off12_eq_z : ∀ (c : Dev nD) (r : Fin 8), k0_off12 c (BitVec.ofNat 32 (128 * r.val)) = ![zRow (nb 2 c) r.val, 0] := by decide +kernel
theorem off13_eq : ∀ (c : Dev nD) (r : Fin 3), k0_off13 c (BitVec.ofNat 32 (128 * r.val)) = ![zRow c r.val, 0] := by decide +kernel
theorem off13_eq_y : ∀ (c : Dev nD) (r : Fin 3), k0_off13 c (BitVec.ofNat 32 (128 * r.val)) = ![dRow (nb 1 c) r.val, 0] := by decide +kernel
theorem off14_eq : ∀ (c : Dev nD) (r : Fin 3), k0_off14 c (BitVec.ofNat 32 (384 + 128 * r.val)) = ![yRow c (3 + r.val), 0] := by decide +kernel
theorem off14_eq_z : ∀ (c : Dev nD) (r : Fin 3), k0_off14 c (BitVec.ofNat 32 (384 + 128 * r.val)) = ![dRow (nb 2 c) (3 + r.val), 0] := by decide +kernel

/-! ## Sets of whole rows -/

/-- The elements of a matrix of `H` rows whose row is one of the `n` rows from `a`. -/
def rows (H a n : ℕ) : Finset (⟨2, ![H, 1024]⟩ : Shape).Idx := Finset.univ.filter fun i => a ≤ (i 0).val ∧ (i 0).val < a + n

theorem mem_rows {H a n : ℕ} {i : (⟨2, ![H, 1024]⟩ : Shape).Idx} : i ∈ rows H a n ↔ a ≤ (i 0).val ∧ (i 0).val < a + n := by
  simp [rows]

/-- A rectangle of whole rows, by its offsets and sizes. -/
theorem set_unit_rows {H a n : ℕ} {off size : Fin 2 → ℕ} (h : off = ![a, 0]) (hs : size = ![n, 1024])
    (inb : ∀ b, off b + size b ≤ (⟨2, ![H, 1024]⟩ : Shape).size b) :
    (Rect.unit (s := (⟨2, ![H, 1024]⟩ : Shape)) off size inb).set = rows H a n := by
  subst h hs
  ext i
  rw [Rect.mem_set_unit, mem_rows]
  have h1 : (i 1).val < 1024 := (i 1).isLt
  constructor
  · intro h; exact h 0
  · intro h b
    match b with
    | ⟨0, _⟩ => exact h
    | ⟨1, _⟩ => exact ⟨Nat.zero_le _, by simpa using h1⟩

theorem rows_append (H a n k : ℕ) : rows H a (n + k) = rows H a n ∪ rows H (a + n) k := by
  ext i; simp only [Finset.mem_union, mem_rows]; omega
theorem rows_disjoint (H : ℕ) {a n b k : ℕ} (h : a + n ≤ b) : Disjoint (rows H a n) (rows H b k) := by
  rw [Finset.disjoint_left]; intro i h1 h2; rw [mem_rows] at h1 h2; omega
theorem rows_all (H : ℕ) : rows H 0 H = Finset.univ := by
  ext i
  have h : (i 0).val < H := (i 0).isLt
  simp only [mem_rows, Finset.mem_univ, iff_true]; omega

/-- Slot `s` of the two staging slots. -/
def slot (s : ℕ) : Finset (⟨3, ![2, 1024, 1024]⟩ : Shape).Idx := Finset.univ.filter fun i => (i 0).val = s
theorem mem_slot {s : ℕ} {i : (⟨3, ![2, 1024, 1024]⟩ : Shape).Idx} : i ∈ slot s ↔ (i 0).val = s := by simp [slot]
theorem slots_disjoint : Disjoint (slot 0) (slot 1) := by
  rw [Finset.disjoint_left]; intro i h1 h2; rw [mem_slot] at h1 h2; omega
theorem slots_all : slot 0 ∪ slot 1 = Finset.univ := by
  ext i
  have h : (i 0).val < 2 := (i 0).isLt
  simp only [Finset.mem_union, mem_slot, Finset.mem_univ, iff_true]; omega

/-! ## Contents -/

variable (m : (ℓ : Loc nD τ sig) → Buf (Elt F) ℓ)

/-- Device `c`'s argument. -/
abbrev argC (c : Dev nD) : Vec F S4096x1024 .f32 := m ((c : Thread nD τ).loc main_arg0)
/-- Device `c`'s half, rounded to bf16: what its shard buffer is to hold. -/
def shC (c : Dev nD) : FVec F S4096x1024 .bf16 := truncf .bf16 (argC m c) bitsLt_bf16_f32
/-- The device whose argument result row `ρ` of device `c` comes from: `c` itself in its own half; in the other half the
    device that holds that half and whose own quarter has the row, except that the last 256 rows of the diagonally opposite
    quarter come from the `x` neighbour. -/
def owner (c : Dev nD) (ρ : ℕ) : Dev nD :=
  if ρ / 4096 = c.val / 4 then c
  else if ρ % 4096 / 256 = 4 * (3 - c.val % 4) + 3 then nb 0 c
  else ⟨(4 * (1 - c.val / 4) + ρ % 4096 / 1024) % 8, Nat.mod_lt _ (by decide)⟩
/-- Device `c`'s result. -/
def outC (c : Dev nD) : FVec F S8192x1024 .bf16 := fun i =>
  shC m (owner c (i 0).val) (ix2 ⟨(i 0).val % 4096, Nat.mod_lt _ (by decide)⟩ (i 1))
/-- A staging slot holding the 1024 argument rows of device `c` from row `a`. -/
def stC (c : Dev nD) (a : ℕ) : Vec F S2x1024x1024 .f32 := fun i =>
  argC m c (ix2 ⟨(a + (i 1).val) % 4096, Nat.mod_lt _ (by decide)⟩ (i 2))

/-! ### Reading a shard row in the result -/

theorem outC_eq_shC (c c' : Dev nD) {i : S4096x1024.Idx} {j : S8192x1024.Idx} (ho : owner c' (j 0).val = c)
    (h0 : (j 0).val % 4096 = (i 0).val) (h1 : (j 1).val = (i 1).val) : shC m c i = outC m c' j := by
  unfold outC
  rw [ho]
  refine congrArg (shC m c) ?_
  rw [eq_ix2 i]
  congr 1
  · exact Fin.ext h0.symm
  · exact Fin.ext h1.symm

theorem outC_eq_outC (c c' : Dev nD) (j : S8192x1024.Idx) (ho : owner c (j 0).val = owner c' (j 0).val) : outC m c j = outC m c' j := by
  unfold outC; rw [ho]

end Cert.AllGather

end
-- ==== Proof.Schedule.lean ====
/-
# The schedule of the semaphores

Every DMA semaphore of the kernel is waited on once, and the barrier semaphore once for its three signals. This file states
what each semaphore's credit carries (its payload), how much of it arrives, the order in which a device pays what it owes
to its neighbours, and the levels that order the waits.

A device's DMA semaphores are numbered 0–89 in the order the kernel allocates them: fetches 0–3, local copies 4–7, then
nine send and nine receive semaphores along `x` (8–16, 17–25), sixteen and sixteen along `y` (26–41, 42–57) and along
`z` (58–73, 74–89). Along `y` the numbers 11–15 and along `z` the numbers 8–10, 14 and 15 of each sixteen are unused.
-/
module

public import proofs.«01_k».proof.Proof.Rows

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's cells, and the rounds of the kernel's own semaphores with up to three duties each. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

variable (m : (ℓ : Loc nD τ sig) → Buf (Elt F) ℓ)

/-! ## The buffers and the semaphore cells -/

abbrev argM : Memref sig .tc .hbm S4096x1024 .f32 := Memref.whole main_arg0
abbrev outM : Memref sig .tc .hbm S8192x1024 .bf16 := Memref.whole main_v1
abbrev shM : Memref sig .tc .vmem S4096x1024 .bf16 := Memref.whole cc0_scratch0
abbrev stM : Memref sig .tc .vmem S2x1024x1024 .f32 := Memref.whole cc0_scratch1

/-- Device `c`'s DMA semaphore number `i`. -/
abbrev cell (c : Dev nD) (i : Fin 90) : GSem nD τ sig := ((c : Thread nD τ), .dma i)
/-- Device `c`'s barrier semaphore. -/
abbrev bcell (c : Dev nD) : GSem nD τ sig := ((c : Thread nD τ), .reg barrier0)

/-! ## Assertions on the buffers -/

/-- Share `q` of `n` rows from row `a` of device `c`'s argument, as at launch. -/
def argP (c : Dev nD) (a n : ℕ) (q : PosShare TreeShare) : sProp 𝕄 := (c : Thread nD τ).loc main_arg0 ↦[rows 4096 a n]{q} argC m c
/-- Share `q` of `n` rows from row `a` of device `c`'s result, holding what they are to hold at the end. -/
def outP (c : Dev nD) (a n : ℕ) (q : PosShare TreeShare) : sProp 𝕄 := (c : Thread nD τ).loc main_v1 ↦[rows 8192 a n]{q} outC m c
/-- `n` rows from row `a` of device `c`'s result, at any contents. -/
def outE (c : Dev nD) (a n : ℕ) : sProp 𝕄 :=
  iprop(∃ f : Buf (Elt F) ((c : Thread nD τ).loc main_v1), (c : Thread nD τ).loc main_v1 ↦[rows 8192 a n]{fullShare} f)
/-- Share `q` of `n` rows from row `a` of device `c`'s shard buffer, holding the rounded argument. -/
def shP (c : Dev nD) (a n : ℕ) (q : PosShare TreeShare) : sProp 𝕄 := (c : Thread nD τ).loc cc0_scratch0 ↦[rows 4096 a n]{q} shC m c
/-- `n` rows from row `a` of device `c`'s shard buffer, at any contents. -/
def shE (c : Dev nD) (a n : ℕ) : sProp 𝕄 :=
  iprop(∃ f : Buf (Elt F) ((c : Thread nD τ).loc cc0_scratch0), (c : Thread nD τ).loc cc0_scratch0 ↦[rows 4096 a n]{fullShare} f)
/-- Staging slot `s` of device `c`, holding the 1024 argument rows from row `a`. -/
def stP (c : Dev nD) (s a : ℕ) : sProp 𝕄 := (c : Thread nD τ).loc cc0_scratch1 ↦[slot s]{fullShare} stC m c a
/-- Staging slot `s` of device `c`, at any contents. -/
def stE (c : Dev nD) (s : ℕ) : sProp 𝕄 :=
  iprop(∃ f : Buf (Elt F) ((c : Thread nD τ).loc cc0_scratch1), (c : Thread nD τ).loc cc0_scratch1 ↦[slot s]{fullShare} f)

instance argP_storable (c : Dev nD) (a n q) : BI.Storable (upEmb : UEmb _ 𝕄) (argP m c a n q) := by unfold argP; infer_instance
instance outP_storable (c : Dev nD) (a n q) : BI.Storable (upEmb : UEmb _ 𝕄) (outP m c a n q) := by unfold outP; infer_instance
instance outE_storable (c : Dev nD) (a n) : BI.Storable (upEmb : UEmb _ 𝕄) (outE (F := F) c a n) := by unfold outE; infer_instance
instance shP_storable (c : Dev nD) (a n q) : BI.Storable (upEmb : UEmb _ 𝕄) (shP m c a n q) := by unfold shP; infer_instance
instance stP_storable (c : Dev nD) (s a) : BI.Storable (upEmb : UEmb _ 𝕄) (stP m c s a) := by unfold stP; infer_instance

/-- Eight landing chunks of 128 rows of device `c`'s result, chunk `r` from row `f r`. -/
def outE8 (c : Dev nD) (f : ℕ → ℕ) : sProp 𝕄 :=
  iprop(outE c (f 0) 128 ∗ outE c (f 1) 128 ∗ outE c (f 2) 128 ∗ outE c (f 3) 128 ∗ outE c (f 4) 128 ∗ outE c (f 5) 128 ∗ outE c (f 6) 128 ∗ outE c (f 7) 128)

/-- What device `c` lets its neighbour along axis `d` write: the rows of its result that neighbour sends. -/
def gift (d : Fin 3) (c : Dev nD) : sProp 𝕄 :=
  match d with
  | 0 => iprop(outE8 c (xRow c) ∗ outE c (dRow c 6) 256)
  | 1 => iprop(outE8 c (yRow c) ∗ outE c (dRow c 0) 128 ∗ outE c (dRow c 1) 128 ∗ outE c (dRow c 2) 128)
  | 2 => iprop(outE8 c (zRow c) ∗ outE c (dRow c 3) 128 ∗ outE c (dRow c 4) 128 ∗ outE c (dRow c 5) 128)

instance gift_storable (d : Fin 3) (c : Dev nD) : BI.Storable (upEmb : UEmb _ 𝕄) (gift (F := F) d c) := by
  unfold gift outE8; split <;> infer_instance

/-! ## Payloads -/

/-- What the credit of device `c`'s DMA semaphore `i` carries. A fetch: the argument rows back and the slot filled. A local
    copy: the result rows written and the shard rows back. A send semaphore: the source rows back at the share they were
    sent at. A receive semaphore: the landed rows. -/
def pay (c : Dev nD) (i : ℕ) : sProp 𝕄 :=
  if i < 4 then iprop(argP m c (qRow c i) 1024 fullShare ∗ stP m c (i % 2) (qRow c i))
  else if i < 5 then iprop(outP m c (mRow c 0) 1024 fullShare ∗ shP m c (qRow c 0) 1024 fullShare.right)
  else if i < 8 then iprop(outP m c (mRow c (i - 4)) 1024 fullShare ∗ shP m c (qRow c (i - 4)) 1024 fullShare.left)
  else if i < 16 then shP m c (sRow c (i - 8)) 128 fullShare.left
  else if i < 17 then shP m c (sDiag c) 256 fullShare.right
  else if i < 25 then outP m c (xRow c (i - 17)) 128 fullShare
  else if i < 26 then outP m c (dRow c 6) 256 fullShare
  else if i < 34 then outP m c (xRow c (i - 26)) 128 fullShare.left
  else if i < 42 then outP m c (zRow c (i - 34)) 128 fullShare
  else if i < 50 then outP m c (yRow c (i - 42)) 128 fullShare
  else if i < 58 then outP m c (dRow c (i - 50)) 128 fullShare
  else if i < 66 then outP m c (xRow c (i - 58)) 128 fullShare.right
  else if i < 74 then outP m c (yRow c (i - 66)) 128 fullShare
  else if i < 82 then outP m c (zRow c (i - 74)) 128 fullShare
  else outP m c (dRow c (i - 82)) 128 fullShare

instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by
  by_cases h : p
  · rw [if_pos h]; infer_instance
  · rw [if_neg h]; infer_instance

instance pay_storable (c : Dev nD) (i : ℕ) : BI.Storable (upEmb : UEmb _ 𝕄) (pay m c i) := by
  unfold pay; infer_instance

/-- Which DMA semaphores the kernel uses. -/
def used (i : ℕ) : Bool := i < 37 || (42 ≤ i && i < 53) || (58 ≤ i && i < 66) || (69 ≤ i && i < 72) || (74 ≤ i && i < 82) || (85 ≤ i && i < 88)

/-- Along which axis the neighbour lies whose transfer a DMA semaphore receives; none for the device's own semaphores. -/
def dirOf (i : ℕ) : Option (Fin 3) :=
  if 17 ≤ i ∧ i < 26 then some 0 else if 42 ≤ i ∧ i < 58 then some 1 else if 74 ≤ i then some 2 else none

/-! ## Amounts -/

/-- The credit of one transfer into each kind of destination. -/
def amtIn : ℕ := View.dmaCredit (((stM.slice (Rect.unit (s := S2x1024x1024) ![0, 0, 0] S1x1024x1024.size inb_S2x1024x1024_S1x1024x1024_0_0_0) (fun _ => rfl)).squeeze S1024x1024 squeezes_S1x1024x1024_S1024x1024).view)
def amtQ : ℕ := View.dmaCredit ((outM.slice (Rect.unit (s := S8192x1024) ![0, 0] S1024x1024.size (by decide)) (fun _ => rfl)).view)
def amtC : ℕ := View.dmaCredit ((outM.slice (Rect.unit (s := S8192x1024) ![0, 0] S128x1024.size (by decide)) (fun _ => rfl)).view)
def amtD : ℕ := View.dmaCredit ((outM.slice (Rect.unit (s := S8192x1024) ![0, 0] S256x1024.size (by decide)) (fun _ => rfl)).view)

/-- How much the credit of DMA semaphore `i` is. -/
def amt (i : ℕ) : ℕ := if i < 4 then amtIn else if i < 8 then amtQ else if i = 16 ∨ i = 25 then amtD else amtC

theorem amt_pos (i : ℕ) : 0 < amt i := by
  unfold amt
  (repeat' split)
  · exact View.dmaCredit_pos _ (by decide)
  · exact View.dmaCredit_pos _ (by decide)
  · exact View.dmaCredit_pos _ (by decide)
  · exact View.dmaCredit_pos _ (by decide)

/-- How much one arrival at a semaphore is: one at the barrier. -/
def amtS : SemLoc sig → ℕ
  | .reg _ => 1
  | .dma i => amt i.val

/-- The schedule: in round 0 the barrier semaphore has one duty for each axis, a used DMA semaphore has one duty; nothing later. -/
def sched : Rounds.Schedule (GSem nD τ sig) (Fin 3) 𝕄 where
  duties g r := if r = 0 ∧ g.1.2 = .tc then (match g.2 with
    | .reg _ => Finset.univ
    | .dma i => if used i.val then {0} else ∅) else ∅
  unitless _ := False
  amount g _ _ := amtS g.2
  payload g _ d := match g.2 with
    | .reg _ => gift d (nb d g.1.1)
    | .dma i => pay m g.1.1 i.val
  amount_pos g _ _ _ := by
    rcases g with ⟨_, sm⟩
    cases sm with
    | reg _ => exact Nat.one_pos
    | dma i => exact amt_pos _

instance sched_payload_storable (g : GSem nD τ sig) (r : ℕ) (d : Fin 3) : BI.Storable (upEmb : UEmb _ 𝕄) ((sched (F := F) m).payload g r d) := by
  rcases g with ⟨t, sm⟩
  cases sm with
  | reg s => exact gift_storable d (nb d t.1)
  | dma i => exact pay_storable m t.1 i.val

theorem duties_cell (c : Dev nD) {i : Fin 90} (h : used i.val = true) : (sched (F := F) m).duties (cell c i) 0 = {0} := by
  show (if (0 = 0 ∧ (c : Thread nD τ).2 = .tc) then (if used i.val then ({0} : Finset (Fin 3)) else ∅) else ∅) = _
  rw [if_pos ⟨rfl, rfl⟩, if_pos h]
theorem duties_bcell (c : Dev nD) : (sched (F := F) m).duties (bcell c) 0 = Finset.univ := by
  show (if (0 = 0 ∧ (c : Thread nD τ).2 = .tc) then (Finset.univ : Finset (Fin 3)) else ∅) = _
  rw [if_pos ⟨rfl, rfl⟩]
theorem duties_unused (c : Dev nD) {i : Fin 90} (h : used i.val = false) : ∀ r, 0 ≤ r → (sched (F := F) m).duties (cell c i) r = ∅ := by
  intro r _
  show (if (r = 0 ∧ (c : Thread nD τ).2 = .tc) then (if used i.val then ({0} : Finset (Fin 3)) else ∅) else ∅) = _
  rw [h]; split <;> rfl
theorem duties_later (g : GSem nD τ sig) : ∀ r, 1 ≤ r → (sched (F := F) m).duties g r = ∅ :=
  fun r hr => by dsimp only [sched]; exact if_neg fun h => by omega

theorem expect_cell (c : Dev nD) {i : Fin 90} (h : used i.val = true) : (sched (F := F) m).expect (cell c i) 0 = amt i.val := by
  unfold Schedule.expect Schedule.amountOf; rw [duties_cell m c h, Finset.sum_singleton]; rfl
theorem expect_bcell (c : Dev nD) : (sched (F := F) m).expect (bcell c) 0 = 3 := by
  unfold Schedule.expect Schedule.amountOf; rw [duties_bcell]; rfl

theorem rest_cell (c : Dev nD) {i : Fin 90} (h : used i.val = true) :
    bigSep ((sched (F := F) m).duties (cell c i) 0 \ ∅) (fun d => (sched (F := F) m).payload (cell c i) 0 d) = pay m c i.val := by
  rw [Finset.sdiff_empty, duties_cell m c h, bigSep_singleton]; rfl
theorem bigSep_fin3 (Φ : Fin 3 → sProp 𝕄) : bigSep Finset.univ Φ = iprop(Φ 0 ∗ Φ 1 ∗ Φ 2) := bigSep_univ_eq_bigSepL [0, 1, 2] (by decide) (by decide) Φ
theorem rest_bcell (c : Dev nD) :
    bigSep ((sched (F := F) m).duties (bcell c) 0 \ ∅) (fun d => (sched (F := F) m).payload (bcell c) 0 d)
      = iprop(gift 0 (nb 0 c) ∗ gift 1 (nb 1 c) ∗ gift 2 (nb 2 c)) := by
  rw [Finset.sdiff_empty, duties_bcell, bigSep_fin3]; rfl

/-! ## What a device owes, and the levels -/

/-- The deliveries a device owes its neighbours, in the order it makes them: axis and semaphore there. -/
def owedL : List (Fin 3 × SemLoc sig) :=
  [(0, .reg barrier0), (1, .reg barrier0), (2, .reg barrier0),
   (0, .dma (17 : Fin 90)), (0, .dma (18 : Fin 90)), (0, .dma (19 : Fin 90)), (0, .dma (20 : Fin 90)), (0, .dma (21 : Fin 90)), (0, .dma (22 : Fin 90)),
   (0, .dma (23 : Fin 90)), (0, .dma (24 : Fin 90)), (0, .dma (25 : Fin 90)),
   (1, .dma (42 : Fin 90)), (2, .dma (74 : Fin 90)), (1, .dma (43 : Fin 90)), (2, .dma (75 : Fin 90)), (1, .dma (44 : Fin 90)), (2, .dma (76 : Fin 90)),
   (1, .dma (45 : Fin 90)), (2, .dma (77 : Fin 90)), (1, .dma (46 : Fin 90)), (2, .dma (78 : Fin 90)), (1, .dma (47 : Fin 90)), (2, .dma (79 : Fin 90)),
   (1, .dma (48 : Fin 90)), (2, .dma (80 : Fin 90)), (1, .dma (49 : Fin 90)), (2, .dma (81 : Fin 90)),
   (1, .dma (50 : Fin 90)), (1, .dma (51 : Fin 90)), (1, .dma (52 : Fin 90)), (2, .dma (85 : Fin 90)), (2, .dma (86 : Fin 90)), (2, .dma (87 : Fin 90))]

/-- The tally device `c` owes for a list of deliveries. -/
def oweT (c : Dev nD) : List (Fin 3 × SemLoc sig) → CellTallies nD τ sig Unit
  | [] => 0
  | x :: l => oweT c l + tallyAt ((nb x.1 c : Thread nD τ), x.2) () (amtS x.2)

/-- Device `c` has made its first `n` deliveries. -/
def owing (c : Dev nD) (n : ℕ) : sProp 𝕄 := iprop(∃ W : Waits sig Unit, owes (c : Thread nD τ) (oweT c (owedL.drop n)) W)

/-- The levels: a device waits only on semaphores below all it still owes. -/
def lvl : SemLoc sig → ℕ
  | .reg _ => 1
  | .dma i => if 17 ≤ i.val ∧ i.val < 26 then 2 else if (42 ≤ i.val ∧ i.val < 50) ∨ (74 ≤ i.val ∧ i.val < 82) then 3
      else if (50 ≤ i.val ∧ i.val < 58) ∨ 82 ≤ i.val then 4 else 0
def L (g : GSem nD τ sig) : Finset Unit := if g.1.2 = .tc then {()} else ∅
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl

theorem oweT_pos {c : Dev nD} {l : List (Fin 3 × SemLoc sig)} {g : GSem nD τ sig} {u : Unit} (h : 0 < oweT c l g u) :
    ∃ x ∈ l, g = ((nb x.1 c : Thread nD τ), x.2) := by
  induction l with
  | nil => exact absurd h (Nat.lt_irrefl 0)
  | cons x l ih =>
    unfold oweT at h
    rw [Pi.add_apply, Finsupp.add_apply, tallyAt_apply] at h
    by_cases hg : g = ((nb x.1 c : Thread nD τ), x.2) ∧ u = ()
    · exact ⟨x, List.mem_cons_self, hg.1⟩
    · rw [if_neg hg, Nat.add_zero] at h
      obtain ⟨y, hy, he⟩ := ih h
      exact ⟨y, List.mem_cons_of_mem _ hy, he⟩

/-- A wait on a semaphore whose level is below that of everything still owed is allowed. -/
theorem mayWait (c : Dev nD) (sm : SemLoc sig) (l : List (Fin 3 × SemLoc sig)) (h : ∀ x ∈ l, lvl sm < lvl x.2) :
    (levAts L lv : sProp 𝕄) ⊢ MayWait (c : Thread nD τ) sm () (oweT c l) :=
  MayOwe.of_cut (L := L) (lev := lv) (lvl sm) (fun p hp => by rw [Finset.mem_singleton.mp hp, L_tc]; exact Finset.mem_singleton_self _)
    (fun g u hg => by obtain ⟨x, _, rfl⟩ := oweT_pos hg; rw [L_tc]; exact Finset.mem_singleton_self _)
    (fun p hp => by rw [Finset.mem_singleton.mp hp]; exact le_refl _)
    (fun g u hg => by obtain ⟨x, hx, rfl⟩ := oweT_pos hg; exact h x hx)

/-! ## The records every step uses -/

/-- Where the invariants of the semaphores are kept: for the DMA semaphores and for the barrier semaphores of all devices. -/
abbrev Names : Type := (Dev nD × Fin 90 → ℕ) × (Dev nD → ℕ)

/-- The invariants of all semaphores of all devices, that each has reached round 0, and the levels. -/
def recs (K : Names) : sProp 𝕄 :=
  iprop((bigSep Finset.univ fun ck : Dev nD × Fin 90 => cellInv ER (sched m) (K.1 ck) (cell ck.1 ck.2))
    ∗ (bigSep Finset.univ fun ck : Dev nD × Fin 90 => reached ER (cell ck.1 ck.2) 0)
    ∗ (bigSep Finset.univ fun c : Dev nD => cellInv ER (sched m) (K.2 c) (bcell c))
    ∗ (bigSep Finset.univ fun c : Dev nD => reached ER (bcell c) 0)
    ∗ levAts L lv)
instance recs_persistent (K : Names) : BI.Persistent (recs m K) := by unfold recs; infer_instance

theorem inv_at (K : Names) (ck : Dev nD × Fin 90) :
    (bigSep Finset.univ fun ck : Dev nD × Fin 90 => (cellInv ER (sched m) (K.1 ck) (cell ck.1 ck.2) : sProp 𝕄)) ⊢ cellInv ER (sched m) (K.1 ck) (cell ck.1 ck.2) :=
  bigSep_elim (Finset.mem_univ ck)
theorem reached_at (ck : Dev nD × Fin 90) :
    (bigSep Finset.univ fun ck : Dev nD × Fin 90 => (reached ER (cell ck.1 ck.2) 0 : sProp 𝕄)) ⊢ reached ER (cell ck.1 ck.2) 0 :=
  bigSep_elim (Finset.mem_univ ck)
theorem binv_at (K : Names) (c : Dev nD) :
    (bigSep Finset.univ fun c : Dev nD => (cellInv ER (sched m) (K.2 c) (bcell c) : sProp 𝕄)) ⊢ cellInv ER (sched m) (K.2 c) (bcell c) :=
  bigSep_elim (Finset.mem_univ c)
theorem breached_at (c : Dev nD) :
    (bigSep Finset.univ fun c : Dev nD => (reached ER (bcell c) 0 : sProp 𝕄)) ⊢ reached ER (bcell c) 0 :=
  bigSep_elim (Finset.mem_univ c)

theorem recs_inv (K : Names) (c : Dev nD) (i : Fin 90) : recs m K ⊢ cellInv ER (sched m) (K.1 (c, i)) (cell c i) := by
  unfold recs; iintro ⟨H, -, -, -, -⟩; iapply (inv_at m K (c, i)); iexact H
theorem recs_reached (K : Names) (c : Dev nD) (i : Fin 90) : recs m K ⊢ reached ER (cell c i) 0 := by
  unfold recs; iintro ⟨-, H, -, -, -⟩; iapply (reached_at (F := F) (c, i)); iexact H
theorem recs_binv (K : Names) (c : Dev nD) : recs m K ⊢ cellInv ER (sched m) (K.2 c) (bcell c) := by
  unfold recs; iintro ⟨-, -, H, -, -⟩; iapply (binv_at m K c); iexact H
theorem recs_breached (K : Names) (c : Dev nD) : recs m K ⊢ reached ER (bcell c) 0 := by
  unfold recs; iintro ⟨-, -, -, H, -⟩; iapply (breached_at (F := F) c); iexact H
theorem recs_lev (K : Names) : recs m K ⊢ levAts L lv := by
  unfold recs; iintro ⟨-, -, -, -, H⟩; iexact H

/-! ## What a device holds of a semaphore -/

/-- Device `c` may start the transfer that credits its own semaphore `i` (a fetch or a local copy), and then wait for it. -/
def lkit (c : Dev nD) (i : Fin 90) : sProp 𝕄 := iprop(dutyTok ER (cell c i) 0 0 ∗ atPos ER (cell c i) 0 ∅ 0)
/-- Device `c` may start the transfer along axis `d` that credits its send semaphore `i` and the receive semaphore `j` there. -/
def kit (c : Dev nD) (d : Fin 3) (i j : Fin 90) : sProp 𝕄 :=
  iprop(dutyTok ER (cell c i) 0 0 ∗ atPos ER (cell c i) 0 ∅ 0 ∗ dutyTok ER (cell (nb d c) j) 0 0)
/-- Device `c` may wait on its DMA semaphore `i`: the credit is on its way. -/
def armed (c : Dev nD) (i : Fin 90) : sProp 𝕄 := iprop(atPos ER (cell c i) 0 ∅ 0 ∗ cred (tallyAt (cell c i) () (amt i.val)))
/-- Device `c` has waited on its DMA semaphore `i`: the counter is back at zero. -/
def closed (c : Dev nD) (i : Fin 90) : sProp 𝕄 := semVal (cell c i) 0

end Cert.AllGather

end
-- ==== Proof.Land.lean ====
/-
# What transfers, loads and stores leave in the buffers

Each transfer copies whole rows. If the source rows hold the intended contents, the rows landed on hold theirs. The staging
slots and the stores into the shard buffer are read in the same terms.
-/
module

public import proofs.«01_k».proof.Proof.Schedule

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The views -/

/-- A rectangle of the result. -/
abbrev outW (off size : Fin 2 → ℕ) (inb : ∀ a, off a + size a ≤ S8192x1024.size a) : Memref sig .tc .hbm (⟨2, size⟩ : Shape) .bf16 :=
  outM.slice (Rect.unit (s := S8192x1024) off size inb) (fun _ => rfl)
/-- A rectangle of the shard buffer. -/
abbrev shW (off size : Fin 2 → ℕ) (inb : ∀ a, off a + size a ≤ S4096x1024.size a) : Memref sig .tc .vmem (⟨2, size⟩ : Shape) .bf16 :=
  shM.slice (Rect.unit (s := S4096x1024) off size inb) (fun _ => rfl)
/-- A rectangle of the argument. -/
abbrev argW (off size : Fin 2 → ℕ) (inb : ∀ a, off a + size a ≤ S4096x1024.size a) : Memref sig .tc .hbm (⟨2, size⟩ : Shape) .f32 :=
  argM.slice (Rect.unit (s := S4096x1024) off size inb) (fun _ => rfl)
/-- A staging slot as a matrix. -/
abbrev stW (off : Fin 3 → ℕ) (inb : ∀ a, off a + S1x1024x1024.size a ≤ S2x1024x1024.size a) : Memref sig .tc .vmem S1024x1024 .f32 :=
  (stM.slice (Rect.unit (s := S2x1024x1024) off S1x1024x1024.size inb) (fun _ => rfl)).squeeze S1024x1024 squeezes_S1x1024x1024_S1024x1024

theorem outW_set {a n : ℕ} {off size : Fin 2 → ℕ} (h : off = ![a, 0]) (hs : size = ![n, 1024]) (inb) :
    (outW off size inb).view.set = rows 8192 a n := (View.set_slice_whole main_v1 _).trans (set_unit_rows h hs inb)
theorem shW_set {a n : ℕ} {off size : Fin 2 → ℕ} (h : off = ![a, 0]) (hs : size = ![n, 1024]) (inb) :
    (shW off size inb).view.set = rows 4096 a n := (View.set_slice_whole cc0_scratch0 _).trans (set_unit_rows h hs inb)
theorem argW_set {a n : ℕ} {off size : Fin 2 → ℕ} (h : off = ![a, 0]) (hs : size = ![n, 1024]) (inb) :
    (argW off size inb).view.set = rows 4096 a n := (View.set_slice_whole main_arg0 _).trans (set_unit_rows h hs inb)

theorem set_unit_slot {s : ℕ} {off : Fin 3 → ℕ} (h : off = ![s, 0, 0]) (inb : ∀ a, off a + S1x1024x1024.size a ≤ S2x1024x1024.size a) :
    (Rect.unit (s := S2x1024x1024) off S1x1024x1024.size inb).set = slot s := by
  subst h
  ext i
  rw [Rect.mem_set_unit, mem_slot]
  have h1 : (i 1).val < 1024 := (i 1).isLt
  have h2 : (i 2).val < 1024 := (i 2).isLt
  constructor
  · intro h
    have h0 : s ≤ (i 0).val ∧ (i 0).val < s + 1 := h 0
    omega
  · intro h b
    match b with
    | ⟨0, _⟩ => exact ⟨le_of_eq h.symm, by show (i 0).val < s + 1; omega⟩
    | ⟨1, _⟩ => exact ⟨Nat.zero_le _, by show (i 1).val < 0 + 1024; omega⟩
    | ⟨2, _⟩ => exact ⟨Nat.zero_le _, by show (i 2).val < 0 + 1024; omega⟩
theorem stW_set {s : ℕ} {off : Fin 3 → ℕ} (h : off = ![s, 0, 0]) (inb) : (stW off inb).view.set = slot s :=
  (Memref.set_view_squeeze _ _).trans ((View.set_slice_whole cc0_scratch1 _).trans (set_unit_slot h inb))

/-! ## An index of a row range, from an index of the rectangle -/

/-- Where an index of a rectangle of whole rows lies in the matrix. -/
theorem emb_rows {H a n : ℕ} {off size : Fin 2 → ℕ} (h : off = ![a, 0]) (hs : size = ![n, 1024])
    (inb : ∀ b, off b + size b ≤ (⟨2, ![H, 1024]⟩ : Shape).size b) (x : (Rect.unit (s := (⟨2, ![H, 1024]⟩ : Shape)) off size inb).shape.Idx) :
    (((Rect.unit (s := (⟨2, ![H, 1024]⟩ : Shape)) off size inb).emb x) 0).val = a + (x 0).val
      ∧ (((Rect.unit (s := (⟨2, ![H, 1024]⟩ : Shape)) off size inb).emb x) 1).val = (x 1).val := by
  subst h hs
  refine ⟨?_, ?_⟩
  · rw [Rect.emb_apply]; show a + 1 * _ = _; omega
  · rw [Rect.emb_apply]; show 0 + 1 * _ = _; omega

/-- Every index of a row range comes from one of the rectangle. -/
theorem rows_emb {H a n : ℕ} {off size : Fin 2 → ℕ} (h : off = ![a, 0]) (hs : size = ![n, 1024])
    (inb : ∀ b, off b + size b ≤ (⟨2, ![H, 1024]⟩ : Shape).size b) {j : (⟨2, ![H, 1024]⟩ : Shape).Idx} (hj : j ∈ rows H a n) :
    ∃ x : (Rect.unit (s := (⟨2, ![H, 1024]⟩ : Shape)) off size inb).shape.Idx, (Rect.unit (s := (⟨2, ![H, 1024]⟩ : Shape)) off size inb).emb x = j := by
  rw [← set_unit_rows h hs inb, ← Rect.map_emb_univ, Finset.mem_map] at hj
  obtain ⟨x, _, hx⟩ := hj
  exact ⟨x, hx⟩

/-! ## Transfers -/

/-- Shard rows of device `c` landed on result rows of device `c'` that are to hold them. -/
theorem land_sh_out (c c' : Dev nD) {a b n : ℕ} {os od size : Fin 2 → ℕ} (hs : size = ![n, 1024]) (hos : os = ![a, 0]) (hod : od = ![b, 0]) (is) (id)
    (h : ∀ k, k < n → owner c' (b + k) = c ∧ (b + k) % 4096 = a + k) (fd : (outW od size id).view.ty.Contents (Elt F)) :
    ∀ j ∈ rows 8192 b n, (outW od size id).view.write (Elt F) fd ((shW os size is).view.read (Elt F) (shC m c)) Finset.univ j = outC m c' j := by
  intro j hj
  obtain ⟨x, rfl⟩ := rows_emb hod hs id hj
  have e1 := emb_rows hod hs id x
  have e2 := emb_rows hos hs is x
  have hx : (x 0).val < n := by
    have h3 : (x 0).val < size 0 := (x 0).isLt
    exact h3.trans_eq (congrFun hs 0)
  refine (View.write_emb_of_mem (v := (outW od size id).view) (Val := Elt F) fd _ (Finset.mem_univ x)).trans ?_
  refine outC_eq_shC m c c' (i := (Rect.unit (s := S4096x1024) os size is).emb x) ?_ ?_ ?_
  · rw [e1.1]; exact (h _ hx).1
  · rw [e1.1, e2.1]; exact (h _ hx).2
  · rw [e1.2, e2.2]

/-- Result rows of device `c` landed on the same rows of device `c'`, where both are to hold the same. -/
theorem land_out_out (c c' : Dev nD) {b n : ℕ} {os od size : Fin 2 → ℕ} (hs : size = ![n, 1024]) (hos : os = ![b, 0]) (hod : od = ![b, 0]) (is) (id)
    (h : ∀ k, k < n → owner c (b + k) = owner c' (b + k)) (fd : (outW od size id).view.ty.Contents (Elt F)) :
    ∀ j ∈ rows 8192 b n, (outW od size id).view.write (Elt F) fd ((outW os size is).view.read (Elt F) (outC m c)) Finset.univ j = outC m c' j := by
  subst hos hod
  intro j hj
  obtain ⟨x, rfl⟩ := rows_emb rfl hs id hj
  have e1 := emb_rows rfl hs id x
  have hx : (x 0).val < n := by
    have h3 : (x 0).val < size 0 := (x 0).isLt
    exact h3.trans_eq (congrFun hs 0)
  refine (View.write_emb_of_mem (v := (outW ![b, 0] size id).view) (Val := Elt F) fd _ (Finset.mem_univ x)).trans ?_
  refine outC_eq_outC m c c' ((Rect.unit (s := S8192x1024) ![b, 0] size id).emb x) ?_
  rw [e1.1]; exact h _ hx

/-- Where an index of a staging slot, seen as a matrix, lies. -/
theorem emb_stW {s : ℕ} {off : Fin 3 → ℕ} (h : off = ![s, 0, 0]) (inb) (x : S1024x1024.Idx) :
    (((stW off inb).view.emb x) 0).val = s ∧ (((stW off inb).view.emb x) 1).val = (x 0).val ∧ (((stW off inb).view.emb x) 2).val = (x 1).val := by
  subst h
  obtain ⟨p, q, rfl⟩ : ∃ p q, x = ix2 p q := ⟨x 0, x 1, eq_ix2 x⟩
  have hz : (stW ![s, 0, 0] inb).view.emb (ix2 p q)
      = (Rect.unit (s := S2x1024x1024) ![s, 0, 0] S1x1024x1024.size inb).emb (ix3 (⟨0, Nat.one_pos⟩ : Fin 1) p q) :=
    congrArg (Rect.unit (s := S2x1024x1024) ![s, 0, 0] S1x1024x1024.size inb).emb (reshapeEquiv_ix2_1ab _ p q)
  rw [hz]
  refine ⟨?_, ?_, ?_⟩
  · rw [Rect.emb_apply]; rfl
  · rw [Rect.emb_apply]; show 0 + 1 * _ = _; rw [Nat.one_mul, Nat.zero_add]; rfl
  · rw [Rect.emb_apply]; show 0 + 1 * _ = _; rw [Nat.one_mul, Nat.zero_add]; rfl

/-- Argument rows of device `c` landed in a staging slot. -/
theorem land_arg_st (c : Dev nD) {a s : ℕ} {os : Fin 2 → ℕ} {od : Fin 3 → ℕ} (hos : os = ![a, 0]) (hod : od = ![s, 0, 0]) (ha : a + 1024 ≤ 4096)
    (is : ∀ b, os b + S1024x1024.size b ≤ S4096x1024.size b) (id) (fd : (stW od id).view.ty.Contents (Elt F)) :
    ∀ j ∈ slot s, (stW od id).view.write (Elt F) fd ((argW os S1024x1024.size is).view.read (Elt F) (argC m c)) Finset.univ j = stC m c a j := by
  intro j hj
  rw [← stW_set hod id] at hj
  obtain ⟨x, _, rfl⟩ := Finset.mem_map.mp hj
  obtain ⟨e0, e1, e2⟩ := emb_stW hod id x
  have e := emb_rows (n := 1024) hos rfl is x
  have hx : (x 0).val < 1024 := (x 0).isLt
  refine (View.write_emb_of_mem (v := (stW od id).view) (Val := Elt F) fd _ (Finset.mem_univ x)).trans ?_
  refine congrArg (argC m c) ((eq_ix2 _).trans ?_)
  congr 1
  · apply Fin.ext
    show (((Rect.unit (s := S4096x1024) os S1024x1024.size is).emb x) 0).val = (a + (((stW od id).view.emb x) 1).val) % 4096
    rw [e.1, e1, Nat.mod_eq_of_lt (by omega)]
  · apply Fin.ext
    show (((Rect.unit (s := S4096x1024) os S1024x1024.size is).emb x) 1).val = (((stW od id).view.emb x) 2).val
    rw [e.2, e2]

/-! ## Rounding what a staging slot holds into the shard buffer -/

/-- Rows `a` to `a + n` of device `c`'s rounded argument. -/
def chunk (c : Dev nD) (a n : ℕ) : FVec F (⟨2, ![n, 1024]⟩ : Shape) .bf16 := fun x =>
  shC m c (ix2 ⟨(a + (x 0).val) % 4096, Nat.mod_lt _ (by decide)⟩ (x 1))

/-- What a load of 128 rows of a staging slot reads. -/
abbrev rdC (c : Dev nD) (a : ℕ) (off : Fin 3 → ℕ) (inb : ∀ b, off b + S1x128x1024.size b ≤ S2x1024x1024.size b) : Vec F S1x128x1024 .f32 :=
  stM.view.readAt (Elt F) (Rect.unit (s := S2x1024x1024) off S1x128x1024.size inb).toLoadRect (stC m c a)
/-- What a load of a whole staging slot reads. -/
abbrev rdQ (c : Dev nD) (a : ℕ) (off : Fin 3 → ℕ) (inb : ∀ b, off b + S1x1024x1024.size b ≤ S2x1024x1024.size b) : Vec F S1x1024x1024 .f32 :=
  stM.view.readAt (Elt F) (Rect.unit (s := S2x1024x1024) off S1x1024x1024.size inb).toLoadRect (stC m c a)

/-- A staging slot's contents depend on the row and the column. -/
theorem stC_apply (c : Dev nD) (a : ℕ) {i : S2x1024x1024.Idx} {p : Fin 4096} {q : Fin 1024} (h1 : (a + (i 1).val) % 4096 = p.val) (h2 : (i 2).val = q.val) :
    stC m c a i = argC m c (ix2 p q) := by
  unfold stC
  refine congrArg (argC m c) ?_
  congr 1
  · exact Fin.ext h1
  · exact Fin.ext h2

theorem pay1_chunk (c : Dev nD) {a o s : ℕ} (off : Fin 3 → ℕ) (inb) (h : off = ![s, o, 0]) : k0_pay1 (rdC m c a off inb) = chunk m c (a + o) 128 := by
  subst h
  funext x
  obtain ⟨p, q, rfl⟩ : ∃ p q, x = ix2 p q := ⟨x 0, x 1, eq_ix2 x⟩
  unfold k0_pay1
  rw [shapeCast_self]
  refine congrArg (fun v => FloatOps.truncf (FTy.bf16) bitsLt_bf16_f32 v) ?_
  rw [shapeCast_1ab_ab_apply]
  refine stC_apply m c a (i := (Rect.unit (s := S2x1024x1024) ![s, o, 0] S1x128x1024.size inb).emb (ix3 (0 : Fin 1) p q)) ?_ ?_
  · rw [Rect.emb_apply]
    show (a + (o + 1 * p.val)) % 4096 = (a + o + p.val) % 4096
    congr 1; omega
  · rw [Rect.emb_apply]
    show 0 + 1 * q.val = q.val
    omega

theorem pay10_chunk (c : Dev nD) {a s : ℕ} (off : Fin 3 → ℕ) (inb) (h : off = ![s, 0, 0]) : k0_pay10 (rdQ m c a off inb) = chunk m c a 1024 := by
  subst h
  funext x
  obtain ⟨p, q, rfl⟩ : ∃ p q, x = ix2 p q := ⟨x 0, x 1, eq_ix2 x⟩
  unfold k0_pay10
  rw [shapeCast_self]
  refine congrArg (fun v => FloatOps.truncf (FTy.bf16) bitsLt_bf16_f32 v) ?_
  rw [shapeCast_1ab_ab_apply]
  refine stC_apply m c a (i := (Rect.unit (s := S2x1024x1024) ![s, 0, 0] S1x1024x1024.size inb).emb (ix3 (0 : Fin 1) p q)) ?_ ?_
  · rw [Rect.emb_apply]
    show (a + (0 + 1 * p.val)) % 4096 = (a + p.val) % 4096
    congr 1; omega
  · rw [Rect.emb_apply]
    show 0 + 1 * q.val = q.val
    omega

/-- The store of a chunk leaves the shard rows at the rounded argument. -/
theorem store_chunk (c : Dev nD) {a n : ℕ} {off size : Fin 2 → ℕ} (hs : size = ![n, 1024]) (ho : off = ![a, 0]) (ha : a + n ≤ 4096)
    (inb : ∀ b, off b + size b ≤ S4096x1024.size b) (f : (shW off size inb).view.ty.Contents (Elt F))
    (w : (Rect.unit (s := S4096x1024) off size inb).shape.Idx → Elt F .bf16)
    (hw : ∀ x, w x = shC m c ((Rect.unit (s := S4096x1024) off size inb).emb x)) :
    ∀ j ∈ rows 4096 a n, (shM.access (Rect.unit (s := S4096x1024) off size inb)).write (Elt F) f w Finset.univ j = shC m c j := by
  intro j hj
  obtain ⟨x, rfl⟩ := rows_emb ho hs inb hj
  refine (View.write_emb_of_mem (v := (shM.access (Rect.unit (s := S4096x1024) off size inb))) (Val := Elt F) f _ (Finset.mem_univ x)).trans ?_
  exact hw x

/-- A chunk read at an index of the rectangle it is stored through. -/
theorem chunk_emb (c : Dev nD) {a n : ℕ} {off : Fin 2 → ℕ} (ho : off = ![a, 0]) (ha : a + n ≤ 4096)
    (inb : ∀ b, off b + (![n, 1024] : Fin 2 → ℕ) b ≤ S4096x1024.size b) (x : (Rect.unit (s := S4096x1024) off ![n, 1024] inb).shape.Idx) :
    chunk m c a n x = shC m c ((Rect.unit (s := S4096x1024) off ![n, 1024] inb).emb x) := by
  have e := emb_rows (H := 4096) (n := n) ho rfl inb x
  have hx : (x 0).val < n := (x 0).isLt
  unfold chunk
  refine congrArg (shC m c) (Eq.symm ((eq_ix2 _).trans ?_))
  congr 1
  · exact Fin.ext (e.1.trans (Nat.mod_eq_of_lt (by omega)).symm)
  · exact Fin.ext e.2

end Cert.AllGather

end
-- ==== Proof.Steps.lean ====
/-
# One step of the kernel at a time

Each lemma takes one operation of the kernel — a transfer to a neighbour, a fetch, a local copy, a wait, a load, a store, a
barrier signal or wait — from what it needs to what it leaves.
-/
module

public import proofs.«01_k».proof.Proof.Land

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Running a program on device `c`'s core. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Where the rows of each transfer come from -/

/-- Chunk `r` of the transfers along `x`. -/
theorem own_x (c : Dev nD) (r : ℕ) (hr : r < 8) (k : ℕ) (hk : k < 128) :
    owner (nb 0 c) (xRow (nb 0 c) r + k) = c ∧ (xRow (nb 0 c) r + k) % 4096 = sRow c r + k := by
  have hc : c.val < 8 := c.isLt
  have h0 : (nb 0 c).val = (c.val + 4) % 8 := rfl
  have h1 : xRow (nb 0 c) r + k = 4096 * (c.val / 4) + 1024 * (c.val % 4) + 128 * r + k := by
    unfold xRow oRow; rw [h0]; omega
  constructor
  · unfold owner; rw [h1, if_neg (by rw [h0]; omega), if_neg (by rw [h0]; omega)]
    apply Fin.ext; show (4 * (1 - (nb 0 c).val / 4) + _) % 8 = c.val
    rw [h0]; omega
  · rw [h1]; unfold sRow; omega

/-- The 256 rows sent along `x` for the diagonally opposite quarter. -/
theorem own_d (c : Dev nD) (k : ℕ) (hk : k < 256) :
    owner (nb 0 c) (dRow (nb 0 c) 6 + k) = c ∧ (dRow (nb 0 c) 6 + k) % 4096 = sDiag c + k := by
  have hc : c.val < 8 := c.isLt
  have h0 : (nb 0 c).val = (c.val + 4) % 8 := rfl
  have h1 : dRow (nb 0 c) 6 + k = 4096 * (c.val / 4) + 1024 * (3 - c.val % 4) + 768 + k := by
    unfold dRow oRow; rw [h0]; omega
  constructor
  · unfold owner; rw [h1, if_neg (by rw [h0]; omega), if_pos (by rw [h0]; omega), nb_nb]
  · rw [h1]; unfold sDiag; omega

/-- The local copies: quarter `j` places after the own. -/
theorem own_m (c : Dev nD) (j : ℕ) (k : ℕ) (hk : k < 1024) : owner c (mRow c j + k) = c ∧ (mRow c j + k) % 4096 = qRow c j + k := by
  have hc : c.val < 8 := c.isLt
  have hq : qRow c j ≤ 3072 := by unfold qRow; omega
  unfold mRow
  constructor
  · unfold owner; rw [if_pos (by omega)]
  · omega

theorem nb1_val : ∀ c : Dev nD, (nb 1 c).val / 4 = c.val / 4 ∧ (nb 1 c).val % 4 = (c.val % 4 + 2) % 4 := by decide
theorem nb2_val : ∀ c : Dev nD, (nb 2 c).val / 4 = c.val / 4 ∧ (nb 2 c).val % 4 / 2 = c.val % 4 / 2 ∧ (nb 2 c).val % 2 = 1 - c.val % 2 := by decide

/-- A row of the other half that is diagonal to neither device comes from the same device. -/
theorem own_eq (c c' : Dev nD) (ρ : ℕ) (hx : c.val / 4 = c'.val / 4) (h : ρ / 4096 ≠ c.val / 4)
    (h1 : ρ % 4096 / 256 ≠ 4 * (3 - c.val % 4) + 3) (h2 : ρ % 4096 / 256 ≠ 4 * (3 - c'.val % 4) + 3) : owner c ρ = owner c' ρ := by
  unfold owner; rw [if_neg h, if_neg h1, if_neg (hx ▸ h), if_neg h2]; simp only [hx]

/-- Chunk `r` forwarded along `y`. -/
theorem own_y (c : Dev nD) (r : ℕ) (hr : r < 8) (k : ℕ) (hk : k < 128) : owner c (xRow c r + k) = owner (nb 1 c) (xRow c r + k) := by
  have hc : c.val < 8 := c.isLt
  obtain ⟨h0, h1⟩ := nb1_val c
  unfold xRow oRow
  refine own_eq _ _ _ ?_ ?_ ?_ ?_ <;> omega
/-- Chunk `r` forwarded along `z`. -/
theorem own_z (c : Dev nD) (r : ℕ) (hr : r < 8) (k : ℕ) (hk : k < 128) : owner c (xRow c r + k) = owner (nb 2 c) (xRow c r + k) := by
  have hc : c.val < 8 := c.isLt
  obtain ⟨h0, h1, h2⟩ := nb2_val c
  unfold xRow oRow
  refine own_eq _ _ _ ?_ ?_ ?_ ?_ <;> omega
/-- A chunk received along `z` and forwarded along `y`. -/
theorem own_zy (c : Dev nD) (r : ℕ) (hr : r < 3) (k : ℕ) (hk : k < 128) : owner c (zRow c r + k) = owner (nb 1 c) (zRow c r + k) := by
  have hc : c.val < 8 := c.isLt
  obtain ⟨h0, h1⟩ := nb1_val c
  unfold zRow oRow
  refine own_eq _ _ _ ?_ ?_ ?_ ?_ <;> omega
/-- A chunk received along `y` and forwarded along `z`. -/
theorem own_yz (c : Dev nD) (r : ℕ) (hr : r < 6) (k : ℕ) (hk : k < 128) : owner c (yRow c r + k) = owner (nb 2 c) (yRow c r + k) := by
  have hc : c.val < 8 := c.isLt
  obtain ⟨h0, h1, h2⟩ := nb2_val c
  unfold yRow oRow
  refine own_eq _ _ _ ?_ ?_ ?_ ?_ <;> omega

/-! ## Transfers to a neighbour -/

/-- Sending shard rows: their share and the neighbour's landing rows go into the transfer. -/
theorem step_send_sh (K : Names) (c n' : Dev nD) (d : Fin 3) (hn : n' = nb d c) (iS iR : Fin 90) {sS sR : DmaSem sig} (hS : sS = iS) (hR : sR = iR)
    (N : ℕ) (hdrop : owedL.drop N = (d, .dma iR) :: owedL.drop (N + 1)) (uS : used iS.val = true) (uR : used iR.val = true)
    {a b n : ℕ} {os od size : Fin 2 → ℕ} (hs : size = ![n, 1024]) (hos : os = ![a, 0]) (hod : od = ![b, 0]) {is} {id}
    (hcont : ∀ k, k < n → owner (nb d c) (b + k) = c ∧ (b + k) % 4096 = a + k) (q : PosShare TreeShare)
    (hA : (outW od size id).view.dmaCredit = amt iR.val) (hAS : amt iS.val = amt iR.val)
    (hpS : pay m c iS.val = shP m c a n q) (hpR : pay m (nb d c) iR.val = outP m (nb d c) b n fullShare)
    {hsc : (outW od size id).view.ref.isScScratch = false} {hsrc : (shW os size is).view.WordExact} {hdst : (outW od size id).view.WordExact}
    {hsem : DmaTarget.Typed .vmem (.dma sR) (.remote (Dev.tc n' : Thread nD τ) (outW od size id) (.dma sS) hsc)}
    {α : Type} {Q : α → sProp 𝕄} {k : PUnit → Prog (TpuEff nD τ sig (Elt F) Λ₀ .tc) α} :
    iprop(recs m K ∗ shP m c a n q ∗ outE (nb d c) b n ∗ kit c d iS iR ∗ owing c N)
      ⊢ iprop(((armed c iS ∗ owing c (N + 1)) -∗ wpD c (k ⟨⟩) Q)
          -∗ wpD c (.op (.enqueueDma (shW os size is) (.remote (Dev.tc n' : Thread nD τ) (outW od size id) (.dma sS) hsc) (.dma sR) hsrc hdst hsem) k) Q) := by
  subst hn hS hR
  unfold shP outE kit owing armed wpD
  rw [hdrop]
  iintro ⟨#Hr, Hsrc, ⟨%fd, Hdst⟩, ⟨HtS, Hat, HtR⟩, ⟨%W, HO⟩⟩ Hk
  ihave HIS := (recs_inv m K c sS) $$ Hr
  ihave HIR := (recs_inv m K (nb d c) sR) $$ Hr
  ihave HrS := (recs_reached m K c sS) $$ Hr
  ihave HrR := (recs_reached m K (nb d c) sR) $$ Hr
  iapply (Rounds.wp_send_pointsTo 𝒱₀ ER (sched m) (c : Thread nD τ) none (c' := (nb d c : Thread nD τ)) (sS := .dma sS) (sem := .dma sR) (κ₁ := K.1 (c, sS)) (κ₂ := K.1 (nb d c, sR))
    (src := shW os size is) (dst := outW od size id) (q := q) (fs := shC m c)
    (r₁ := 0) (r₂ := 0) (d₁ := 0) (d₂ := 0) (fd := fd)
    (by rw [duties_cell m c uS]; exact Finset.mem_singleton_self _) (by rw [duties_cell m (nb d c) uR]; exact Finset.mem_singleton_self _)
    () () (amt sR.val) hA hAS rfl (oweT c (owedL.drop (N + 1))) rfl (W := W)
    (by
      show _ ⊢ pay m c sS.val
      rw [hpS, shW_set hos hs]; exact BI.Entails.refl _)
    (by
      show _ ⊢ pay m (nb d c) sR.val
      rw [hpR, outW_set hod hs]
      unfold outP
      exact Entails.of_eq (pointsTo_congr (land_sh_out m c (nb d c) hs hos hod is id hcont fd)))) $$ [HIS HIR Hsrc Hdst HO HtS HtR HrS HrR]
  · isplitl [HIS]; · iexact HIS
    isplitl [HIR]; · iexact HIR
    isplitl [Hsrc]; · rw [shW_set hos hs]; iexact Hsrc
    isplitl [Hdst]; · rw [outW_set hod hs]; iexact Hdst
    isplitl [HO]; · iexact HO
    isplitl [HtS]; · iexact HtS
    isplitl [HrS]; · iexact HrS
    isplitl [HtR]; · iexact HtR
    iexact HrR
  iintro ⟨Hc, HO⟩
  iapply Hk
  isplitl [Hat Hc]
  · isplitl [Hat]; · iexact Hat
    rw [hAS]; iexact Hc
  iexists W; iexact HO

/-- Sending result rows on: their share and the neighbour's landing rows go into the transfer. -/
theorem step_send_out (K : Names) (c n' : Dev nD) (d : Fin 3) (hn : n' = nb d c) (iS iR : Fin 90) {sS sR : DmaSem sig} (hS : sS = iS) (hR : sR = iR)
    (N : ℕ) (hdrop : owedL.drop N = (d, .dma iR) :: owedL.drop (N + 1)) (uS : used iS.val = true) (uR : used iR.val = true)
    {b n : ℕ} {os od size : Fin 2 → ℕ} (hs : size = ![n, 1024]) (hos : os = ![b, 0]) (hod : od = ![b, 0]) {is} {id}
    (hcont : ∀ k, k < n → owner c (b + k) = owner (nb d c) (b + k)) (q : PosShare TreeShare)
    (hA : (outW od size id).view.dmaCredit = amt iR.val) (hAS : amt iS.val = amt iR.val)
    (hpS : pay m c iS.val = outP m c b n q) (hpR : pay m (nb d c) iR.val = outP m (nb d c) b n fullShare)
    {hsc : (outW od size id).view.ref.isScScratch = false} {hsrc : (outW os size is).view.WordExact} {hdst : (outW od size id).view.WordExact}
    {hsem : DmaTarget.Typed .hbm (.dma sR) (.remote (Dev.tc n' : Thread nD τ) (outW od size id) (.dma sS) hsc)}
    {α : Type} {Q : α → sProp 𝕄} {k : PUnit → Prog (TpuEff nD τ sig (Elt F) Λ₀ .tc) α} :
    iprop(recs m K ∗ outP m c b n q ∗ outE (nb d c) b n ∗ kit c d iS iR ∗ owing c N)
      ⊢ iprop(((armed c iS ∗ owing c (N + 1)) -∗ wpD c (k ⟨⟩) Q)
          -∗ wpD c (.op (.enqueueDma (outW os size is) (.remote (Dev.tc n' : Thread nD τ) (outW od size id) (.dma sS) hsc) (.dma sR) hsrc hdst hsem) k) Q) := by
  subst hn hS hR
  unfold outP outE kit owing armed wpD
  rw [hdrop]
  iintro ⟨#Hr, Hsrc, ⟨%fd, Hdst⟩, ⟨HtS, Hat, HtR⟩, ⟨%W, HO⟩⟩ Hk
  ihave HIS := (recs_inv m K c sS) $$ Hr
  ihave HIR := (recs_inv m K (nb d c) sR) $$ Hr
  ihave HrS := (recs_reached m K c sS) $$ Hr
  ihave HrR := (recs_reached m K (nb d c) sR) $$ Hr
  iapply (Rounds.wp_send_pointsTo 𝒱₀ ER (sched m) (c : Thread nD τ) none (c' := (nb d c : Thread nD τ)) (sS := .dma sS) (sem := .dma sR) (κ₁ := K.1 (c, sS)) (κ₂ := K.1 (nb d c, sR))
    (src := outW os size is) (dst := outW od size id) (q := q) (fs := outC m c)
    (r₁ := 0) (r₂ := 0) (d₁ := 0) (d₂ := 0) (fd := fd)
    (by rw [duties_cell m c uS]; exact Finset.mem_singleton_self _) (by rw [duties_cell m (nb d c) uR]; exact Finset.mem_singleton_self _)
    () () (amt sR.val) hA hAS rfl (oweT c (owedL.drop (N + 1))) rfl (W := W)
    (by
      show _ ⊢ pay m c sS.val
      rw [hpS, outW_set hos hs]; exact BI.Entails.refl _)
    (by
      show _ ⊢ pay m (nb d c) sR.val
      rw [hpR, outW_set hod hs]
      unfold outP
      exact Entails.of_eq (pointsTo_congr (land_out_out m c (nb d c) hs hos hod is id hcont fd)))) $$ [HIS HIR Hsrc Hdst HO HtS HtR HrS HrR]
  · isplitl [HIS]; · iexact HIS
    isplitl [HIR]; · iexact HIR
    isplitl [Hsrc]; · rw [outW_set hos hs]; iexact Hsrc
    isplitl [Hdst]; · rw [outW_set hod hs]; iexact Hdst
    isplitl [HO]; · iexact HO
    isplitl [HtS]; · iexact HtS
    isplitl [HrS]; · iexact HrS
    isplitl [HtR]; · iexact HtR
    iexact HrR
  iintro ⟨Hc, HO⟩
  iapply Hk
  isplitl [Hat Hc]
  · isplitl [Hat]; · iexact Hat
    rw [hAS]; iexact Hc
  iexists W; iexact HO

/-! ## Local transfers -/

/-- Fetching a quarter of the argument into a staging slot. -/
theorem step_fetch (K : Names) (c : Dev nD) (i : Fin 90) {sm : DmaSem sig} (hsm : sm = i) (u : used i.val = true)
    {a s : ℕ} {os : Fin 2 → ℕ} {od : Fin 3 → ℕ} (hos : os = ![a, 0]) (hod : od = ![s, 0, 0]) (ha : a + 1024 ≤ 4096)
    {is : ∀ b, os b + S1024x1024.size b ≤ S4096x1024.size b} {id}
    (hA : (stW od id).view.dmaCredit = amt i.val) (hp : pay m c i.val = iprop(argP m c a 1024 fullShare ∗ stP m c s a))
    {hsrc : (argW os S1024x1024.size is).view.WordExact} {hdst : (stW od id).view.WordExact}
    {hsem : DmaTarget.Typed (nD := nD) (τ := τ) (p := .tc) .hbm (.dma sm) (.here (stW od id))}
    {α : Type} {Q : α → sProp 𝕄} {k : PUnit → Prog (TpuEff nD τ sig (Elt F) Λ₀ .tc) α} :
    iprop(recs m K ∗ argP m c a 1024 fullShare ∗ stE c s ∗ lkit c i)
      ⊢ iprop((armed c i -∗ wpD c (k ⟨⟩) Q)
          -∗ wpD c (.op (.enqueueDma (argW os S1024x1024.size is) (.here (stW od id)) (.dma sm) hsrc hdst hsem) k) Q) := by
  subst hsm
  unfold argP stE lkit armed wpD
  iintro ⟨#Hr, Hsrc, ⟨%fd, Hdst⟩, ⟨Ht, Hat⟩⟩ Hk
  ihave HI := (recs_inv m K c sm) $$ Hr
  ihave HR := (recs_reached m K c sm) $$ Hr
  iapply (Rounds.wp_copy_pointsTo 𝒱₀ ER (sched m) (c : Thread nD τ) none (sem := .dma sm) (κ := K.1 (c, sm))
    (src := argW os S1024x1024.size is) (dst := stW od id) (q := fullShare) (fs := argC m c) (fd := fd) (r := 0) (d := 0)
    (by rw [duties_cell m c u]; exact Finset.mem_singleton_self _) () (amt sm.val) hA rfl
    (by
      show _ ⊢ pay m c sm.val
      rw [hp, argW_set hos rfl, stW_set hod]
      unfold argP stP
      iintro ⟨H1, H2⟩
      isplitl [H2]; · iexact H2
      iapply (Entails.of_eq (pointsTo_congr (land_arg_st m c hos hod ha is id fd))); iexact H1)) $$ [HI Hsrc Hdst Ht HR]
  · isplitl [HI]; · iexact HI
    isplitl [Hsrc]; · rw [argW_set hos rfl]; iexact Hsrc
    isplitl [Hdst]; · rw [stW_set hod]; iexact Hdst
    isplitl [Ht]; · iexact Ht
    iexact HR
  iintro Hc
  iapply Hk
  isplitl [Hat]; · iexact Hat
  iexact Hc

/-- Copying shard rows into the device's own half of the result. -/
theorem step_copy (K : Names) (c : Dev nD) (i : Fin 90) {sm : DmaSem sig} (hsm : sm = i) (u : used i.val = true)
    {a b n : ℕ} {os od size : Fin 2 → ℕ} (hs : size = ![n, 1024]) (hos : os = ![a, 0]) (hod : od = ![b, 0]) {is} {id}
    (hcont : ∀ k, k < n → owner c (b + k) = c ∧ (b + k) % 4096 = a + k) (q : PosShare TreeShare)
    (hA : (outW od size id).view.dmaCredit = amt i.val) (hp : pay m c i.val = iprop(outP m c b n fullShare ∗ shP m c a n q))
    {hsrc : (shW os size is).view.WordExact} {hdst : (outW od size id).view.WordExact}
    {hsem : DmaTarget.Typed (nD := nD) (τ := τ) (p := .tc) .vmem (.dma sm) (.here (outW od size id))}
    {α : Type} {Q : α → sProp 𝕄} {k : PUnit → Prog (TpuEff nD τ sig (Elt F) Λ₀ .tc) α} :
    iprop(recs m K ∗ shP m c a n q ∗ outE c b n ∗ lkit c i)
      ⊢ iprop((armed c i -∗ wpD c (k ⟨⟩) Q)
          -∗ wpD c (.op (.enqueueDma (shW os size is) (.here (outW od size id)) (.dma sm) hsrc hdst hsem) k) Q) := by
  subst hsm
  unfold shP outE lkit armed wpD
  iintro ⟨#Hr, Hsrc, ⟨%fd, Hdst⟩, ⟨Ht, Hat⟩⟩ Hk
  ihave HI := (recs_inv m K c sm) $$ Hr
  ihave HR := (recs_reached m K c sm) $$ Hr
  iapply (Rounds.wp_copy_pointsTo 𝒱₀ ER (sched m) (c : Thread nD τ) none (sem := .dma sm) (κ := K.1 (c, sm))
    (src := shW os size is) (dst := outW od size id) (q := q) (fs := shC m c) (fd := fd) (r := 0) (d := 0)
    (by rw [duties_cell m c u]; exact Finset.mem_singleton_self _) () (amt sm.val) hA rfl
    (by
      show _ ⊢ pay m c sm.val
      rw [hp, shW_set hos hs, outW_set hod hs]
      unfold outP shP
      iintro ⟨H1, H2⟩
      isplitl [H1]
      · iapply (Entails.of_eq (pointsTo_congr (land_sh_out m c c hs hos hod is id hcont fd))); iexact H1
      iexact H2)) $$ [HI Hsrc Hdst Ht HR]
  · isplitl [HI]; · iexact HI
    isplitl [Hsrc]; · rw [shW_set hos hs]; iexact Hsrc
    isplitl [Hdst]; · rw [outW_set hod hs]; iexact Hdst
    isplitl [Ht]; · iexact Ht
    iexact HR
  iintro Hc
  iapply Hk
  isplitl [Hat]; · iexact Hat
  iexact Hc

/-! ## Waits and signals -/

/-- Waiting on a DMA semaphore: what its credit carries, and the counter back at zero. -/
theorem step_wait (K : Names) (c : Dev nD) (i : Fin 90) {sm : DmaSem sig} (hsm : sm = i) (u : used i.val = true)
    (N : ℕ) (hlev : ∀ x ∈ owedL.drop N, lvl (.dma i) < lvl x.2) {P : sProp 𝕄} (hp : pay m c i.val ⊢ P)
    {sp sp' : Space} {s s' : Shape} {e e' : EltTy} {src : Memref sig .tc sp s e} {dst : Memref sig .tc sp' s' e'}
    (hA : dst.view.dmaCredit = amt i.val) {hsrc : src.view.WordExact} {hdst : dst.view.WordExact}
    {α : Type} {Q : α → sProp 𝕄} {k : PUnit → Prog (TpuEff nD τ sig (Elt F) Λ₀ .tc) α} :
    iprop(recs m K ∗ armed c i ∗ owing c N)
      ⊢ iprop(((closed c i ∗ P ∗ owing c N) -∗ wpD c (k ⟨⟩) Q) -∗ wpD c (.op (.waitDma2 sm src dst hsrc hdst) k) Q) := by
  subst hsm
  unfold owing armed wpD closed
  iintro ⟨#Hr, ⟨Hat, Hc⟩, ⟨%W, HO⟩⟩ Hk
  ihave #HI := (recs_inv m K c sm) $$ Hr
  ihave HL := (recs_lev m K) $$ Hr
  iapply (Rounds.wp_wait_rest_token 𝒱₀ ER (sched m) (c : Thread nD τ) none (κ := K.1 (c, sm))
      (wpE_waitDma2_eq 𝒱₀ (c : Thread nD τ) none Set.univ) (Set.mem_univ _) () (O := oweT c (owedL.drop N)) (W := W) (R := 0) (m := 0) (T := ∅)
      (by rw [Nat.zero_add, expect_cell m c u, hA])) $$ [Hc HO HL Hat]
  · isplitr; · iexact HI
    isplitl [Hc]; · rw [hA]; iexact Hc
    isplitl [HO]; · iexact HO
    isplitl [HL]; · iapply (mayWait c (.dma sm) _ hlev); iexact HL
    iexact Hat
  iintro ⟨HO, Hat, -, Hpay⟩
  imod (Rounds.cell_close ER (sched m) (Set.mem_univ (K.1 (c, sm))) (fun h => h) (R := 0 + 1) (duties_later m (cell c sm))) $$ [Hat] with Hz
  · isplitr; · iexact HI
    iexact Hat
  ihave Hp := ((Entails.of_eq (rest_cell m c u)).trans hp) $$ Hpay
  iapply Hk
  isplitl [Hz]; · iexact Hz
  isplitl [Hp]; · iexact Hp
  iexists _; iexact HO

/-- A barrier signal to the neighbour along axis `d`: it may write the rows it sends. -/
theorem step_signal (K : Names) (c n' : Dev nD) (d : Fin 3) (hn : n' = nb d c) (N : ℕ)
    (hdrop : owedL.drop N = (d, .reg barrier0) :: owedL.drop (N + 1)) {k' : ℕ} (hk' : k' = 1)
    {α : Type} {Q : α → sProp 𝕄} {k : PUnit → Prog (TpuEff nD τ sig (Elt F) Λ₀ .tc) α} :
    iprop(recs m K ∗ dutyTok ER (bcell (nb d c)) 0 d ∗ gift d c ∗ owing c N)
      ⊢ iprop((owing c (N + 1) -∗ wpD c (k ⟨⟩) Q) -∗ wpD c (.op (.semSignal (Dev.tc n' : Thread nD τ) barrier0 k') k) Q) := by
  subst hn hk'
  unfold owing wpD
  rw [hdrop]
  iintro ⟨#Hr, Ht, Hg, ⟨%W, HO⟩⟩ Hk
  ihave HI := (recs_binv m K (nb d c)) $$ Hr
  ihave HR := (recs_breached m K (nb d c)) $$ Hr
  iapply (Rounds.wp_signal 𝒱₀ ER (sched m) (c : Thread nD τ) none (dst := (nb d c : Thread nD τ)) (κ := K.2 (nb d c)) (r := 0) (d := d)
      (by rw [duties_bcell]; exact Finset.mem_univ d) rfl () (oweT c (owedL.drop (N + 1))) rfl) $$ [HI HO Ht Hg HR]
  · isplitl [HI]; · iexact HI
    isplitl [HO]; · iexact HO
    isplitl [Ht]; · iexact Ht
    isplitl [Hg]
    · iapply (Entails.of_eq (show gift d c = (sched (F := F) m).payload (bcell (nb d c)) 0 d by
        show _ = gift d (nb d (nb d c)); rw [nb_nb])); iexact Hg
    iexact HR
  iintro HO
  iapply Hk
  iexists W; iexact HO

/-- The barrier wait: the rows the three neighbours let the device write. -/
theorem step_bwait (K : Names) (c : Dev nD) {k' : ℕ} (hk' : k' = 3)
    {α : Type} {Q : α → sProp 𝕄} {k : PUnit → Prog (TpuEff nD τ sig (Elt F) Λ₀ .tc) α} :
    iprop(recs m K ∗ atPos ER (bcell c) 0 ∅ 0 ∗ cred (tallyAt (bcell c) () 3) ∗ owing c 3)
      ⊢ iprop(((semVal (bcell c) 0 ∗ (gift 0 (nb 0 c) ∗ gift 1 (nb 1 c) ∗ gift 2 (nb 2 c)) ∗ owing c 3) -∗ wpD c (k ⟨⟩) Q)
          -∗ wpD c (.op (.semWait barrier0 k') k) Q) := by
  subst hk'
  unfold owing wpD
  iintro ⟨#Hr, Hat, Hc, ⟨%W, HO⟩⟩ Hk
  ihave #HI := (recs_binv m K c) $$ Hr
  ihave HL := (recs_lev m K) $$ Hr
  iapply (Rounds.wp_wait_rest_token 𝒱₀ ER (sched m) (c : Thread nD τ) none (κ := K.2 c)
      (wpE_semWait_eq 𝒱₀ (c : Thread nD τ) none Set.univ) (Set.mem_univ _) () (O := oweT c (owedL.drop 3)) (W := W) (R := 0) (m := 0) (T := ∅)
      (by rw [Nat.zero_add, expect_bcell])) $$ [Hc HO HL Hat]
  · isplitr; · iexact HI
    isplitl [Hc]; · iexact Hc
    isplitl [HO]; · iexact HO
    isplitl [HL]; · iapply (mayWait c (.reg barrier0) _ (by decide)); iexact HL
    iexact Hat
  iintro ⟨HO, Hat, -, Hpay⟩
  imod (Rounds.cell_close ER (sched m) (Set.mem_univ (K.2 c)) (fun h => h) (R := 0 + 1) (duties_later m (bcell c))) $$ [Hat] with Hz
  · isplitr; · iexact HI
    iexact Hat
  ihave Hp := (Entails.of_eq (rest_bcell m c)) $$ Hpay
  iapply Hk
  isplitl [Hz]; · iexact Hz
  isplitl [Hp]; · iexact Hp
  iexists _; iexact HO

/-! ## Loads and stores -/

theorem shP_share (c : Dev nD) (a n : ℕ) : shP m c a n fullShare ⊣⊢ iprop(shP m c a n fullShare.left ∗ shP m c a n fullShare.right) := by
  unfold shP; exact pointsTo_share (PosShare.mem_left_op_right fullShare)
theorem outP_share (c : Dev nD) (a n : ℕ) : outP m c a n fullShare ⊣⊢ iprop(outP m c a n fullShare.left ∗ outP m c a n fullShare.right) := by
  unfold outP; exact pointsTo_share (PosShare.mem_left_op_right fullShare)

/-- A rectangle of staging slot `s` lies in it. -/
theorem sub_slot {s o n : ℕ} {off size : Fin 3 → ℕ} (h : off = ![s, o, 0]) (hs : size = ![1, n, 1024]) (hn : o + n ≤ 1024)
    (inb : ∀ b, off b + size b ≤ S2x1024x1024.size b) : stM.view.setOn (Rect.unit (s := S2x1024x1024) off size inb).toLoadRect.set ⊆ slot s := by
  subst h hs
  intro j hj
  obtain ⟨i, hi, rfl⟩ := Finset.mem_map.mp hj
  have h1 : i ∈ (Rect.unit (s := S2x1024x1024) ![s, o, 0] ![1, n, 1024] inb).set := hi
  rw [Rect.mem_set_unit] at h1
  have h2 : s ≤ (i 0).val ∧ (i 0).val < s + 1 := h1 0
  exact mem_slot.mpr (show (i 0).val = s by omega)

/-- Loading from a staging slot. -/
theorem step_load (c : Dev nD) {s o n a : ℕ} {off size : Fin 3 → ℕ} (h : off = ![s, o, 0]) (hs : size = ![1, n, 1024]) (hn : o + n ≤ 1024)
    {inb : ∀ b, off b + size b ≤ S2x1024x1024.size b} {hl : stM.view.LoadsAt (Rect.unit (s := S2x1024x1024) off size inb).toLoadRect}
    {α : Type} {Q : α → sProp 𝕄} {k : _ → Prog (TpuEff nD τ sig (Elt F) Λ₀ .tc) α} :
    stP m c s a ⊢ iprop((stP m c s a -∗ wpD c (k (stM.view.readAt (Elt F) (Rect.unit (s := S2x1024x1024) off size inb).toLoadRect (stC m c a))) Q)
      -∗ wpD c (.op (.load stM (Rect.unit (s := S2x1024x1024) off size inb).toLoadRect hl) k) Q) := by
  unfold stP wpD
  exact wp_load 𝒱₀ (c : Thread nD τ) none Set.univ (m := stM) (sub_slot h hs hn inb)

/-- The unused load before a store, and the store: the shard rows hold the rounded argument. -/
theorem step_store (c : Dev nD) {a n : ℕ} {off size : Fin 2 → ℕ} (ho : off = ![a, 0]) (hs : size = ![n, 1024]) (ha : a + n ≤ 4096)
    {inb : ∀ b, off b + size b ≤ S4096x1024.size b} {hl : shM.view.LoadsAt (Rect.unit (s := S4096x1024) off size inb).toLoadRect}
    {w : (Rect.unit (s := S4096x1024) off size inb).shape.Idx → Elt F .bf16} (hw : ∀ x, w x = shC m c ((Rect.unit (s := S4096x1024) off size inb).emb x))
    {hx : (shM.access (Rect.unit (s := S4096x1024) off size inb)).Stores Finset.univ} {hm}
    {α : Type} {Q : α → sProp 𝕄} {k : PUnit → Prog (TpuEff nD τ sig (Elt F) Λ₀ .tc) α} :
    shE c a n ⊢ iprop(((shP m c a n fullShare.left ∗ shP m c a n fullShare.right) -∗ wpD c (k ⟨⟩) Q)
      -∗ wpD c (.op (.load shM (Rect.unit (s := S4096x1024) off size inb).toLoadRect hl)
          (fun _ => .op (.store shM (Rect.unit (s := S4096x1024) off size inb) w Finset.univ hx hm) k)) Q) := by
  have hset : (shM.access (Rect.unit (s := S4096x1024) off size inb)).set = rows 4096 a n := (View.set_slice_whole cc0_scratch0 _).trans (set_unit_rows ho hs inb)
  unfold shE wpD
  iintro ⟨%f, H⟩ Hk
  iapply (wp_load_rect 𝒱₀ (c : Thread nD τ) none Set.univ (m := shM) (r := Rect.unit (s := S4096x1024) off size inb) (S := rows 4096 a n) (by rw [hset])) $$ H; iintro H
  iapply (wp_store 𝒱₀ (c : Thread nD τ) none Set.univ (m := shM) (r := Rect.unit (s := S4096x1024) off size inb) (w := w) (Mk := Finset.univ) (S := rows 4096 a n)
    (by rw [View.setOn_univ, hset])) $$ H; iintro H
  iapply Hk
  iapply (shP_share m c a n).1
  unfold shP
  iapply (Entails.of_eq (pointsTo_congr (store_chunk m c hs ho ha inb f w hw))); iexact H

end Cert.AllGather

end
-- ==== Proof.Pieces.lean ====
/-
# Cutting and joining the buffers

Row ranges of a buffer are cut into consecutive ranges and joined again; the rows a device is let write by its neighbours
are named from its own side; what a store writes is the rounded argument.
-/
module

public import proofs.«01_k».proof.Proof.Steps

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A finished program owes nothing more than its postcondition. -/
theorem wpD_ret (c : Dev nD) {α : Type} {a : α} {Q : α → sProp 𝕄} : Q a ⊢ wpD c (.ret a) Q := by
  show Q a ⊢ wp frame (wpE (defs₀ (F := F)) 𝒱₀ (c : Thread nD τ) none) Set.univ (.ret a) Q
  rw [wp_ret]
  iintro H
  imodintro
  iexact H

/-- A wait for the transfer on cell `i`, with the amount it takes off named last. -/
theorem step_await (K : Names) (c : Dev nD) (i : Fin 90) {sm : DmaSem sig} (hsm : sm = i) (u : used i.val = true)
    (N : ℕ) (hlev : ∀ x ∈ owedL.drop N, lvl (.dma i) < lvl x.2) {P : sProp 𝕄} (hp : pay m c i.val ⊢ P)
    {sp sp' : Space} {s s' : Shape} {e e' : EltTy} {src : Memref sig .tc sp s e} {dst : Memref sig .tc sp' s' e'}
    {hsrc : src.view.WordExact} {hdst : dst.view.WordExact}
    {α : Type} {Q : α → sProp 𝕄} {k : PUnit → Prog (TpuEff nD τ sig (Elt F) Λ₀ .tc) α} :
    iprop(⌜dst.view.dmaCredit = amt i.val⌝ ∗ recs m K ∗ armed c i ∗ owing c N)
      ⊢ iprop(((closed c i ∗ P ∗ owing c N) -∗ wpD c (k ⟨⟩) Q) -∗ wpD c (.op (.waitDma2 sm src dst hsrc hdst) k) Q) := by
  iintro ⟨%hA, H⟩
  iapply (step_wait m K c i hsm u N hlev hp hA) $$ H

/-! ## Rows seen from both ends of an axis -/

theorem qRow_zero (c : Dev nD) (r : ℕ) : qRow c 0 + 128 * r = sRow c r := by unfold qRow sRow; omega
theorem qRow_le (c : Dev nD) (k : ℕ) : qRow c k + 1024 ≤ 4096 := by unfold qRow; omega
theorem sRow_le (c : Dev nD) (r : ℕ) (hr : r < 8) : sRow c r + 128 ≤ 4096 := by unfold sRow; omega
theorem yRow_nb (c : Dev nD) (r : ℕ) : yRow (nb 1 c) r = xRow c r := by
  have hc : c.val < 8 := c.isLt
  obtain ⟨h0, h1⟩ := nb1_val c
  unfold yRow xRow oRow; omega
theorem zRow_nb (c : Dev nD) (r : ℕ) : zRow (nb 2 c) r = xRow c r := by
  have hc : c.val < 8 := c.isLt
  obtain ⟨h0, h1, h2⟩ := nb2_val c
  unfold zRow xRow oRow; omega
theorem dRow_nb1 (c : Dev nD) (r : ℕ) : dRow (nb 1 c) r = zRow c r := by
  have hc : c.val < 8 := c.isLt
  obtain ⟨h0, h1⟩ := nb1_val c
  unfold dRow zRow oRow; omega
theorem dRow_nb2 (c : Dev nD) (r : ℕ) : dRow (nb 2 c) r = yRow c r := by
  have hc : c.val < 8 := c.isLt
  obtain ⟨h0, h1, h2⟩ := nb2_val c
  unfold dRow yRow oRow; omega

/-- The rows the `y` neighbour lets the device write. -/
theorem gift1_eq (c : Dev nD) : gift (F := F) 1 (nb 1 c)
    = iprop(outE8 (nb 1 c) (xRow c) ∗ outE (nb 1 c) (zRow c 0) 128 ∗ outE (nb 1 c) (zRow c 1) 128 ∗ outE (nb 1 c) (zRow c 2) 128) := by
  show iprop(outE8 (nb 1 c) (yRow (nb 1 c)) ∗ outE (nb 1 c) (dRow (nb 1 c) 0) 128 ∗ outE (nb 1 c) (dRow (nb 1 c) 1) 128 ∗ outE (nb 1 c) (dRow (nb 1 c) 2) 128) = _
  rw [show yRow (nb 1 c) = xRow c from funext (yRow_nb c)]
  simp only [dRow_nb1]
/-- The rows the `z` neighbour lets the device write. -/
theorem gift2_eq (c : Dev nD) : gift (F := F) 2 (nb 2 c)
    = iprop(outE8 (nb 2 c) (xRow c) ∗ outE (nb 2 c) (yRow c 3) 128 ∗ outE (nb 2 c) (yRow c 4) 128 ∗ outE (nb 2 c) (yRow c 5) 128) := by
  show iprop(outE8 (nb 2 c) (zRow (nb 2 c)) ∗ outE (nb 2 c) (dRow (nb 2 c) 3) 128 ∗ outE (nb 2 c) (dRow (nb 2 c) 4) 128 ∗ outE (nb 2 c) (dRow (nb 2 c) 5) 128) = _
  rw [show zRow (nb 2 c) = xRow c from funext (zRow_nb c)]
  simp only [dRow_nb2]

/-! ## What is received -/

theorem payY (c : Dev nD) (i : Fin 90) (r : ℕ) (h : pay m (nb 1 c) i.val = outP m (nb 1 c) (yRow (nb 1 c) r) 128 fullShare) :
    pay m (nb 1 c) i.val = outP m (nb 1 c) (xRow c r) 128 fullShare := by rw [h, yRow_nb]
theorem payZ (c : Dev nD) (i : Fin 90) (r : ℕ) (h : pay m (nb 2 c) i.val = outP m (nb 2 c) (zRow (nb 2 c) r) 128 fullShare) :
    pay m (nb 2 c) i.val = outP m (nb 2 c) (xRow c r) 128 fullShare := by rw [h, zRow_nb]
theorem payDy (c : Dev nD) (i : Fin 90) (r : ℕ) (h : pay m (nb 1 c) i.val = outP m (nb 1 c) (dRow (nb 1 c) r) 128 fullShare) :
    pay m (nb 1 c) i.val = outP m (nb 1 c) (zRow c r) 128 fullShare := by rw [h, dRow_nb1]
theorem payDz (c : Dev nD) (i : Fin 90) (r : ℕ) (h : pay m (nb 2 c) i.val = outP m (nb 2 c) (dRow (nb 2 c) r) 128 fullShare) :
    pay m (nb 2 c) i.val = outP m (nb 2 c) (yRow c r) 128 fullShare := by rw [h, dRow_nb2]

/-! ## What is stored -/

/-- A chunk of the own quarter, rounded, is what the shard rows are to hold. -/
theorem hw_chunk (c : Dev nD) (r : ℕ) (hr : r < 8) {off : Fin 3 → ℕ} {inb} (h : off = ![0, 128 * r, 0]) {off2 : Fin 2 → ℕ} (ho : off2 = ![sRow c r, 0])
    (inb2 : ∀ b, off2 b + (![128, 1024] : Fin 2 → ℕ) b ≤ S4096x1024.size b) (x : (Rect.unit (s := S4096x1024) off2 ![128, 1024] inb2).shape.Idx) :
    k0_pay1 (rdC m c (qRow c 0) off inb) x = shC m c ((Rect.unit (s := S4096x1024) off2 ![128, 1024] inb2).emb x) := by
  rw [pay1_chunk m c off inb h, qRow_zero]
  exact chunk_emb m c ho (sRow_le c r hr) inb2 x
/-- The same where the reshape and the rounding come in two parts. -/
theorem hw_chunk' (c : Dev nD) (r : ℕ) (hr : r < 8) {off : Fin 3 → ℕ} {inb} (h : off = ![0, 128 * r, 0]) {off2 : Fin 2 → ℕ} (ho : off2 = ![sRow c r, 0])
    (inb2 : ∀ b, off2 b + (![128, 1024] : Fin 2 → ℕ) b ≤ S4096x1024.size b) (x : (Rect.unit (s := S4096x1024) off2 ![128, 1024] inb2).shape.Idx) :
    k0_pay8 (k0_pay7 (rdC m c (qRow c 0) off inb)) x = shC m c ((Rect.unit (s := S4096x1024) off2 ![128, 1024] inb2).emb x) :=
  hw_chunk m c r hr h ho inb2 x
/-- A whole quarter, rounded, is what the shard rows are to hold. -/
theorem hw_quarter (c : Dev nD) (k s : ℕ) {off : Fin 3 → ℕ} {inb} (h : off = ![s, 0, 0]) {off2 : Fin 2 → ℕ} (ho : off2 = ![qRow c k, 0])
    (inb2 : ∀ b, off2 b + (![1024, 1024] : Fin 2 → ℕ) b ≤ S4096x1024.size b) (x : (Rect.unit (s := S4096x1024) off2 ![1024, 1024] inb2).shape.Idx) :
    k0_pay10 (rdQ m c (qRow c k) off inb) x = shC m c ((Rect.unit (s := S4096x1024) off2 ![1024, 1024] inb2).emb x) := by
  rw [pay10_chunk m c off inb h]
  exact chunk_emb m c ho (qRow_le c k) inb2 x

theorem stP_stE (c : Dev nD) (s a : ℕ) : stP m c s a ⊢ stE c s := by
  unfold stP stE; iintro H; iexists _; iexact H

/-! ## Cutting row ranges -/

theorem shP_append (c : Dev nD) (q : PosShare TreeShare) (a n k b : ℕ) (hb : b = a + n) :
    shP m c a (n + k) q = iprop(shP m c a n q ∗ shP m c b k q) := by
  subst hb; unfold shP; rw [rows_append]
  exact (pointsTo_union (rows_disjoint _ (le_refl _))).1.antisymm (pointsTo_union (rows_disjoint _ (le_refl _))).2
theorem outP_append (c : Dev nD) (q : PosShare TreeShare) (a n k b : ℕ) (hb : b = a + n) :
    outP m c a (n + k) q = iprop(outP m c a n q ∗ outP m c b k q) := by
  subst hb; unfold outP; rw [rows_append]
  exact (pointsTo_union (rows_disjoint _ (le_refl _))).1.antisymm (pointsTo_union (rows_disjoint _ (le_refl _))).2
theorem argP_append (c : Dev nD) (q : PosShare TreeShare) (a n k b : ℕ) (hb : b = a + n) :
    argP m c a (n + k) q = iprop(argP m c a n q ∗ argP m c b k q) := by
  subst hb; unfold argP; rw [rows_append]
  exact (pointsTo_union (rows_disjoint _ (le_refl _))).1.antisymm (pointsTo_union (rows_disjoint _ (le_refl _))).2
theorem outE_append (c : Dev nD) (a n k b : ℕ) (hb : b = a + n) :
    outE (F := F) c a (n + k) = iprop(outE c a n ∗ outE c b k) := by
  subst hb
  have e1 : outE (F := F) c a (n + k) ⊢ iprop(outE c a n ∗ outE c (a + n) k) := by
    unfold outE; rw [rows_append]
    iintro ⟨%f, H⟩
    ihave H := (pointsTo_union (rows_disjoint 8192 (le_refl (a + n)))).1 $$ H
    icases H with ⟨H1, H2⟩
    isplitl [H1]
    · iexists f; iexact H1
    · iexists f; iexact H2
  have e2 : iprop(outE (F := F) c a n ∗ outE c (a + n) k) ⊢ outE (F := F) c a (n + k) := by
    unfold outE; rw [rows_append]
    iintro ⟨⟨%f, H1⟩, ⟨%g, H2⟩⟩
    iexists _
    iapply (pointsTo_join (rows_disjoint 8192 (le_refl (a + n))))
    isplitl [H1]
    · iexact H1
    · iexact H2
  exact e1.antisymm e2
theorem shE_append (c : Dev nD) (a n k b : ℕ) (hb : b = a + n) :
    shE (F := F) c a (n + k) = iprop(shE c a n ∗ shE c b k) := by
  subst hb
  have e1 : shE (F := F) c a (n + k) ⊢ iprop(shE c a n ∗ shE c (a + n) k) := by
    unfold shE; rw [rows_append]
    iintro ⟨%f, H⟩
    ihave H := (pointsTo_union (rows_disjoint 4096 (le_refl (a + n)))).1 $$ H
    icases H with ⟨H1, H2⟩
    isplitl [H1]
    · iexists f; iexact H1
    · iexists f; iexact H2
  have e2 : iprop(shE (F := F) c a n ∗ shE c (a + n) k) ⊢ shE (F := F) c a (n + k) := by
    unfold shE; rw [rows_append]
    iintro ⟨⟨%f, H1⟩, ⟨%g, H2⟩⟩
    iexists _
    iapply (pointsTo_join (rows_disjoint 4096 (le_refl (a + n))))
    isplitl [H1]
    · iexact H1
    · iexact H2
  exact e1.antisymm e2

/-- A quarter as eight chunks. -/
theorem split8 (Φ : ℕ → ℕ → sProp 𝕄) (h : ∀ a n k b, b = a + n → Φ a (n + k) = iprop(Φ a n ∗ Φ b k)) (f : ℕ → ℕ) (hf : ∀ r, f r = f 0 + 128 * r) :
    Φ (f 0) 1024 = iprop(Φ (f 0) 128 ∗ Φ (f 1) 128 ∗ Φ (f 2) 128 ∗ Φ (f 3) 128 ∗ Φ (f 4) 128 ∗ Φ (f 5) 128 ∗ Φ (f 6) 128 ∗ Φ (f 7) 128) := by
  have h1 := h (f 0) 128 896 (f 1) (by rw [hf 1])
  have h2 := h (f 1) 128 768 (f 2) (by rw [hf 1, hf 2])
  have h3 := h (f 2) 128 640 (f 3) (by rw [hf 2, hf 3])
  have h4 := h (f 3) 128 512 (f 4) (by rw [hf 3, hf 4])
  have h5 := h (f 4) 128 384 (f 5) (by rw [hf 4, hf 5])
  have h6 := h (f 5) 128 256 (f 6) (by rw [hf 5, hf 6])
  have h7 := h (f 6) 128 128 (f 7) (by rw [hf 6, hf 7])
  rw [show Φ (f 0) 1024 = _ from h1, show Φ (f 1) 896 = _ from h2, show Φ (f 2) 768 = _ from h3, show Φ (f 3) 640 = _ from h4,
    show Φ (f 4) 512 = _ from h5, show Φ (f 5) 384 = _ from h6, show Φ (f 6) 256 = _ from h7]

theorem sRow_step (c : Dev nD) (r : ℕ) : sRow c r = sRow c 0 + 128 * r := by unfold sRow; omega
theorem xRow_step (c : Dev nD) (r : ℕ) : xRow c r = xRow c 0 + 128 * r := by unfold xRow; omega
theorem yRow_step (c : Dev nD) (r : ℕ) : yRow c r = yRow c 0 + 128 * r := by unfold yRow; omega
theorem zRow_step (c : Dev nD) (r : ℕ) : zRow c r = zRow c 0 + 128 * r := by unfold zRow; omega
theorem dRow_step (c : Dev nD) (r : ℕ) : dRow c r = dRow c 0 + 128 * r := by unfold dRow; omega

/-- The own quarter of the shard as its eight chunks. -/
theorem shP_chunks (c : Dev nD) (q : PosShare TreeShare) : shP m c (qRow c 0) 1024 q
    = iprop(shP m c (sRow c 0) 128 q ∗ shP m c (sRow c 1) 128 q ∗ shP m c (sRow c 2) 128 q ∗ shP m c (sRow c 3) 128 q
        ∗ shP m c (sRow c 4) 128 q ∗ shP m c (sRow c 5) 128 q ∗ shP m c (sRow c 6) 128 q ∗ shP m c (sRow c 7) 128 q) := by
  rw [show qRow c 0 = sRow c 0 by unfold qRow sRow; omega]
  exact split8 (fun a n => shP m c a n q) (shP_append m c q) (sRow c) (sRow_step c)

/-- What is left of the quarters one and three places after the own once the 256 diagonal rows are taken out. -/
def shRest (c : Dev nD) (q : PosShare TreeShare) : sProp 𝕄 :=
  if c.val % 2 = 0 then iprop(shP m c (qRow c 1) 1024 q ∗ shP m c (qRow c 3) 768 q) else iprop(shP m c (qRow c 3) 1024 q ∗ shP m c (qRow c 1) 768 q)

/-- The 256 diagonal rows taken out of the quarter they lie in. -/
theorem shP_diag (c : Dev nD) (q : PosShare TreeShare) :
    iprop(shP m c (qRow c 1) 1024 q ∗ shP m c (qRow c 3) 1024 q) ⊣⊢ iprop(shP m c (sDiag c) 256 q ∗ shRest m c q) := by
  have hc : c.val < 8 := c.isLt
  unfold shRest
  by_cases h : c.val % 2 = 0
  · rw [if_pos h]
    have e : shP m c (qRow c 3) 1024 q = iprop(shP m c (qRow c 3) 768 q ∗ shP m c (sDiag c) 256 q) :=
      shP_append m c q (qRow c 3) 768 256 (sDiag c) (by unfold sDiag qRow; omega)
    rw [e]
    constructor
    · iintro ⟨H1, H2, H3⟩
      isplitl [H3]; · iexact H3
      isplitl [H1]; · iexact H1
      iexact H2
    · iintro ⟨H3, H1, H2⟩
      isplitl [H1]; · iexact H1
      isplitl [H2]; · iexact H2
      iexact H3
  · rw [if_neg h]
    have e : shP m c (qRow c 1) 1024 q = iprop(shP m c (qRow c 1) 768 q ∗ shP m c (sDiag c) 256 q) :=
      shP_append m c q (qRow c 1) 768 256 (sDiag c) (by unfold sDiag qRow; omega)
    rw [e]
    constructor
    · iintro ⟨⟨H1, H2⟩, H3⟩
      isplitl [H2]; · iexact H2
      isplitl [H3]; · iexact H3
      iexact H1
    · iintro ⟨H2, H3, H1⟩
      isplitl [H1 H2]
      · isplitl [H1]; · iexact H1
        iexact H2
      iexact H3

end Cert.AllGather

end
-- ==== Proof.Parts1.lean ====
/-
# The first pieces of the body

The barrier, the fetches, the rounding of the own quarters, the sends along `x`, and the copies of the own half.
-/
module

public import proofs.«01_k».proof.Proof.Pieces

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Piece 1 of the body: a signal to each neighbour. -/
theorem part1 (K : Names) (c : Dev nD) (Q : (Σ' (d0 : Dev nD) (v2 : BitVec 32) (v5 : BitVec 32) (v8 : BitVec 32) (v9 : BitVec 32) (v10 : BitVec 32) (v11 : BitVec 32), Sems sig S_) → sProp 𝕄) :
    iprop(recs m K
      ∗ dutyTok ER (bcell (nb 0 c)) 0 0
      ∗ gift 0 c
      ∗ owing c 0
      ∗ dutyTok ER (bcell (nb 1 c)) 0 1
      ∗ gift 1 c
      ∗ dutyTok ER (bcell (nb 2 c)) 0 2
      ∗ gift 2 c
      ∗ (∀ v2 : BitVec 32, ∀ v5 : BitVec 32, ∀ v8 : BitVec 32, ∀ v9 : BitVec 32, ∀ v10 : BitVec 32, ∀ v11 : BitVec 32, (owing c 3) -∗ Q ⟨c, v2, v5, v8, v9, v10, v11, SemArray.scalar (sig.barrier 0 rfl)⟩))
    ⊢ wpD c (k0_part1 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 ) Q := by
  rw [k0_part1_eq_skeleton]
  unfold k0_part1_skel
  simp only [semSignalWord, semWaitWord, Prog.lift, Prog.bind_op, Prog.bind_ret, Prog.pure_eq_ret, wp_deviceId]
  iintro ⟨#Hr, H0, H1, H2, H3, H4, H5, H6, Hk⟩
  iapply (step_signal m K c _ 0 (dev1_eq c) 0 rfl rfl) $$ [H0 H1 H2]
  · isplitr; · iexact Hr
    isplitl [H0]; · iexact H0
    isplitl [H1]; · iexact H1
    iexact H2
  iintro G8
  iapply (step_signal m K c _ 1 (dev2_eq c) 1 rfl rfl) $$ [H3 H4 G8]
  · isplitr; · iexact Hr
    isplitl [H3]; · iexact H3
    isplitl [H4]; · iexact H4
    iexact G8
  iintro G9
  iapply (step_signal m K c _ 2 (dev3_eq c) 2 rfl rfl) $$ [H5 H6 G9]
  · isplitr; · iexact Hr
    isplitl [H5]; · iexact H5
    isplitl [H6]; · iexact H6
    iexact G9
  iintro G10
  iapply (wpD_ret c)
  iapply Hk
  iexact G10

/-- Piece 2 of the body: the wait at the barrier, fetches. -/
theorem part2 (K : Names) (c : Dev nD) (v2 v5 v8 : BitVec 32) (Q : (Σ' (v32 : BitVec 32) (v36 : BitVec 32) (v37 : BitVec 32) (v41 : BitVec 32) (v43 : BitVec 32) (v48 : BitVec 32), BitVec 32) → sProp 𝕄) :
    iprop(recs m K
      ∗ atPos ER (bcell c) 0 ∅ 0
      ∗ cred (tallyAt (bcell c) () 3)
      ∗ owing c 3
      ∗ argP m c (qRow c 0) 1024 fullShare
      ∗ stE c 0
      ∗ lkit c 0
      ∗ (∀ w0 : BitVec 32, ∀ w1 : BitVec 32, ∀ w2 : BitVec 32, ∀ w3 : BitVec 32, ∀ w4 : BitVec 32, ∀ w5 : BitVec 32, ∀ w6 : BitVec 32, (semVal (bcell c) 0 ∗ gift 0 (nb 0 c) ∗ gift 1 (nb 1 c) ∗ gift 2 (nb 2 c) ∗ owing c 3 ∗ armed c 0) -∗ Q ⟨w0, w1, w2, w3, w4, w5, w6⟩))
    ⊢ wpD c (k0_part2 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 (SemArray.scalar (sig.barrier 0 rfl))) Q := by
  rw [k0_part2_eq_skeleton]
  unfold k0_part2_skel
  simp only [semSignalWord, semWaitWord, Prog.lift, Prog.bind_op, Prog.bind_ret, Prog.pure_eq_ret, wp_deviceId]
  iintro ⟨#Hr, H0, H1, H2, H3, H4, H5, Hk⟩
  iapply (step_bwait m K c rfl) $$ [H0 H1 H2]
  · isplitr; · iexact Hr
    isplitl [H0]; · iexact H0
    isplitl [H1]; · iexact H1
    iexact H2
  iintro ⟨G7, ⟨G8, G9, G10⟩, G11⟩
  iapply (step_fetch m K c 0 rfl rfl (a := qRow c 0) (s := 0) (off1_eq c) rfl (qRow_le c 0) rfl rfl) $$ [H3 H4 H5]
  · isplitr; · iexact Hr
    isplitl [H3]; · iexact H3
    isplitl [H4]; · iexact H4
    iexact H5
  iintro G12
  iapply (wpD_ret c)
  iapply Hk
  isplitl [G7]; · iexact G7
  isplitl [G8]; · iexact G8
  isplitl [G9]; · iexact G9
  isplitl [G10]; · iexact G10
  isplitl [G11]; · iexact G11
  iexact G12

/-- Piece 3 of the body: waits, fetches, loads, stores. -/
theorem part3 (K : Names) (c : Dev nD) (v32 v41 : BitVec 32) (Q : (BitVec 32) → sProp 𝕄) :
    iprop(recs m K
      ∗ armed c 0
      ∗ owing c 3
      ∗ argP m c (qRow c 1) 1024 fullShare
      ∗ stE c 1
      ∗ lkit c 1
      ∗ shE c (sRow c 0) 128
      ∗ (∀ w : BitVec 32, (closed c 0 ∗ argP m c (qRow c 0) 1024 fullShare ∗ owing c 3 ∗ armed c 1 ∗ stP m c 0 (qRow c 0) ∗ shP m c (sRow c 0) 128 fullShare.left ∗ shP m c (sRow c 0) 128 fullShare.right) -∗ Q w))
    ⊢ wpD c (k0_part3 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v32 v41) Q := by
  rw [k0_part3_eq_skeleton]
  unfold k0_part3_skel
  simp only [semSignalWord, semWaitWord, Prog.lift, Prog.bind_op, Prog.bind_ret, Prog.pure_eq_ret, wp_deviceId]
  iintro ⟨#Hr, H0, H1, H2, H3, H4, H5, Hk⟩
  iapply (step_await m K c 0 rfl rfl 3 (by decide) (P := iprop(argP m c (qRow c 0) 1024 fullShare ∗ stP m c 0 (qRow c 0))) (BI.Entails.refl _)) $$ [H0 H1]
  · isplitr; · ipureintro; rfl
    isplitr; · iexact Hr
    isplitl [H0]; · iexact H0
    iexact H1
  iintro ⟨G7, ⟨G8, G9⟩, G10⟩
  iapply (step_fetch m K c 1 rfl rfl (a := qRow c 1) (s := 1) (off2_eq c 0) rfl (qRow_le c 1) rfl rfl) $$ [H2 H3 H4]
  · isplitr; · iexact Hr
    isplitl [H2]; · iexact H2
    isplitl [H3]; · iexact H3
    iexact H4
  iintro G11
  iapply (step_load m c (s := 0) (o := 0) (n := 128) (a := qRow c 0) rfl rfl (by decide)) $$ [G9]
  · iexact G9
  iintro G12
  iapply (step_store m c (a := sRow c 0) (n := 128) (off3_eq c 0) rfl (sRow_le c 0 (by decide)) (hw_chunk m c 0 (by decide) rfl (off3_eq c 0) _)) $$ [H5]
  · iexact H5
  iintro ⟨G13, G14⟩
  iapply (wpD_ret c)
  iapply Hk
  isplitl [G7]; · iexact G7
  isplitl [G8]; · iexact G8
  isplitl [G10]; · iexact G10
  isplitl [G11]; · iexact G11
  isplitl [G12]; · iexact G12
  isplitl [G13]; · iexact G13
  iexact G14

/-- Piece 4 of the body: sends of shard rows, loads, stores. -/
theorem part4 (K : Names) (c : Dev nD) (v5 v8 v9 v32 v41 c4_i32_67 : BitVec 32) (Q : (PUnit) → sProp 𝕄) :
    iprop(recs m K
      ∗ shP m c (sRow c 0) 128 fullShare.left
      ∗ outE (nb 0 c) (xRow (nb 0 c) 0) 128
      ∗ kit c 0 8 17
      ∗ owing c 3
      ∗ stP m c 0 (qRow c 0)
      ∗ shE c (sRow c 1) 128
      ∗ ((armed c 8 ∗ owing c 4 ∗ stP m c 0 (qRow c 0) ∗ shP m c (sRow c 1) 128 fullShare.left ∗ shP m c (sRow c 1) 128 fullShare.right) -∗ Q ⟨⟩))
    ⊢ wpD c (k0_part4 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32 v41 c4_i32_67) Q := by
  rw [k0_part4_eq_skeleton]
  unfold k0_part4_skel
  simp only [semSignalWord, semWaitWord, Prog.lift, Prog.bind_op, Prog.bind_ret, Prog.pure_eq_ret, wp_deviceId]
  iintro ⟨#Hr, H0, H1, H2, H3, H4, H5, Hk⟩
  iapply (step_send_sh m K c _ 0 (dev4_eq c) 8 17 rfl rfl 3 rfl rfl rfl (a := sRow c 0) (b := xRow (nb 0 c) 0) (n := 128) rfl (off5_eq c 0) (off4_eq c 0) (own_x c 0 (by decide)) fullShare.left rfl rfl rfl rfl) $$ [H0 H1 H2 H3]
  · isplitr; · iexact Hr
    isplitl [H0]; · iexact H0
    isplitl [H1]; · iexact H1
    isplitl [H2]; · iexact H2
    iexact H3
  iintro ⟨G7, G8⟩
  iapply (step_load m c (s := 0) (o := 128) (n := 128) (a := qRow c 0) rfl rfl (by decide)) $$ [H4]
  · iexact H4
  iintro G9
  iapply (step_store m c (a := sRow c 1) (n := 128) (off3_eq c 1) rfl (sRow_le c 1 (by decide)) (hw_chunk m c 1 (by decide) rfl (off3_eq c 1) _)) $$ [H5]
  · iexact H5
  iintro ⟨G10, G11⟩
  iapply (wpD_ret c)
  iapply Hk
  isplitl [G7]; · iexact G7
  isplitl [G8]; · iexact G8
  isplitl [G9]; · iexact G9
  isplitl [G10]; · iexact G10
  iexact G11

/-- Piece 5 of the body: sends of shard rows, loads, stores. -/
theorem part5 (K : Names) (c : Dev nD) (v5 v8 v9 v32 v41 : BitVec 32) (Q : (PUnit) → sProp 𝕄) :
    iprop(recs m K
      ∗ shP m c (sRow c 1) 128 fullShare.left
      ∗ outE (nb 0 c) (xRow (nb 0 c) 1) 128
      ∗ kit c 0 9 18
      ∗ owing c 4
      ∗ stP m c 0 (qRow c 0)
      ∗ shE c (sRow c 2) 128
      ∗ outE (nb 0 c) (xRow (nb 0 c) 2) 128
      ∗ kit c 0 10 19
      ∗ shE c (sRow c 3) 128
      ∗ ((armed c 9 ∗ shP m c (sRow c 2) 128 fullShare.right ∗ armed c 10 ∗ owing c 6 ∗ stP m c 0 (qRow c 0) ∗ shP m c (sRow c 3) 128 fullShare.left ∗ shP m c (sRow c 3) 128 fullShare.right) -∗ Q ⟨⟩))
    ⊢ wpD c (k0_part5 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32 v41) Q := by
  rw [k0_part5_eq_skeleton]
  unfold k0_part5_skel
  simp only [semSignalWord, semWaitWord, Prog.lift, Prog.bind_op, Prog.bind_ret, Prog.pure_eq_ret, wp_deviceId]
  iintro ⟨#Hr, H0, H1, H2, H3, H4, H5, H6, H7, H8, Hk⟩
  iapply (step_send_sh m K c _ 0 (dev5_eq c) 9 18 rfl rfl 4 rfl rfl rfl (a := sRow c 1) (b := xRow (nb 0 c) 1) (n := 128) rfl (off5_eq c 1) (off4_eq c 1) (own_x c 1 (by decide)) fullShare.left rfl rfl rfl rfl) $$ [H0 H1 H2 H3]
  · isplitr; · iexact Hr
    isplitl [H0]; · iexact H0
    isplitl [H1]; · iexact H1
    isplitl [H2]; · iexact H2
    iexact H3
  iintro ⟨G10, G11⟩
  iapply (step_load m c (s := 0) (o := 256) (n := 128) (a := qRow c 0) rfl rfl (by decide)) $$ [H4]
  · iexact H4
  iintro G12
  iapply (step_store m c (a := sRow c 2) (n := 128) (off3_eq c 2) rfl (sRow_le c 2 (by decide)) (hw_chunk m c 2 (by decide) rfl (off3_eq c 2) _)) $$ [H5]
  · iexact H5
  iintro ⟨G13, G14⟩
  iapply (step_send_sh m K c _ 0 (dev6_eq c) 10 19 rfl rfl 5 rfl rfl rfl (a := sRow c 2) (b := xRow (nb 0 c) 2) (n := 128) rfl (off5_eq c 2) (off4_eq c 2) (own_x c 2 (by decide)) fullShare.left rfl rfl rfl rfl) $$ [G13 H6 H7 G11]
  · isplitr; · iexact Hr
    isplitl [G13]; · iexact G13
    isplitl [H6]; · iexact H6
    isplitl [H7]; · iexact H7
    iexact G11
  iintro ⟨G15, G16⟩
  iapply (step_load m c (s := 0) (o := 384) (n := 128) (a := qRow c 0) rfl rfl (by decide)) $$ [G12]
  · iexact G12
  iintro G17
  iapply (step_store m c (a := sRow c 3) (n := 128) (off3_eq c 3) rfl (sRow_le c 3 (by decide)) (hw_chunk m c 3 (by decide) rfl (off3_eq c 3) _)) $$ [H8]
  · iexact H8
  iintro ⟨G18, G19⟩
  iapply (wpD_ret c)
  iapply Hk
  isplitl [G10]; · iexact G10
  isplitl [G14]; · iexact G14
  isplitl [G15]; · iexact G15
  isplitl [G16]; · iexact G16
  isplitl [G17]; · iexact G17
  isplitl [G18]; · iexact G18
  iexact G19

/-- Piece 6 of the body: sends of shard rows, loads, stores. -/
theorem part6 (K : Names) (c : Dev nD) (v5 v8 v9 v32 v41 : BitVec 32) (Q : (Σ' (v193 : BitVec 32), BitVec 32) → sProp 𝕄) :
    iprop(recs m K
      ∗ shP m c (sRow c 3) 128 fullShare.left
      ∗ outE (nb 0 c) (xRow (nb 0 c) 3) 128
      ∗ kit c 0 11 20
      ∗ owing c 6
      ∗ stP m c 0 (qRow c 0)
      ∗ shE c (sRow c 4) 128
      ∗ (∀ w0 : BitVec 32, ∀ w1 : BitVec 32, (armed c 11 ∗ owing c 7 ∗ stP m c 0 (qRow c 0) ∗ shP m c (sRow c 4) 128 fullShare.left ∗ shP m c (sRow c 4) 128 fullShare.right) -∗ Q ⟨w0, w1⟩))
    ⊢ wpD c (k0_part6 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32 v41) Q := by
  rw [k0_part6_eq_skeleton]
  unfold k0_part6_skel
  simp only [semSignalWord, semWaitWord, Prog.lift, Prog.bind_op, Prog.bind_ret, Prog.pure_eq_ret, wp_deviceId]
  iintro ⟨#Hr, H0, H1, H2, H3, H4, H5, Hk⟩
  iapply (step_send_sh m K c _ 0 (dev7_eq c) 11 20 rfl rfl 6 rfl rfl rfl (a := sRow c 3) (b := xRow (nb 0 c) 3) (n := 128) rfl (off5_eq c 3) (off4_eq c 3) (own_x c 3 (by decide)) fullShare.left rfl rfl rfl rfl) $$ [H0 H1 H2 H3]
  · isplitr; · iexact Hr
    isplitl [H0]; · iexact H0
    isplitl [H1]; · iexact H1
    isplitl [H2]; · iexact H2
    iexact H3
  iintro ⟨G7, G8⟩
  iapply (step_load m c (s := 0) (o := 512) (n := 128) (a := qRow c 0) rfl rfl (by decide)) $$ [H4]
  · iexact H4
  iintro G9
  iapply (step_store m c (a := sRow c 4) (n := 128) (off3_eq c 4) rfl (sRow_le c 4 (by decide)) (hw_chunk m c 4 (by decide) rfl (off3_eq c 4) _)) $$ [H5]
  · iexact H5
  iintro ⟨G10, G11⟩
  iapply (wpD_ret c)
  iapply Hk
  isplitl [G7]; · iexact G7
  isplitl [G8]; · iexact G8
  isplitl [G9]; · iexact G9
  isplitl [G10]; · iexact G10
  iexact G11

/-- Piece 7 of the body: sends of shard rows, loads, stores. -/
theorem part7 (K : Names) (c : Dev nD) (v5 v8 v9 v32 v41 v193 v194 : BitVec 32) (Q : (Σ' (v228 : FVec F S128x1024 .bf16), BitVec 32) → sProp 𝕄) :
    iprop(recs m K
      ∗ shP m c (sRow c 4) 128 fullShare.left
      ∗ outE (nb 0 c) (xRow (nb 0 c) 4) 128
      ∗ kit c 0 12 21
      ∗ owing c 7
      ∗ stP m c 0 (qRow c 0)
      ∗ shE c (sRow c 5) 128
      ∗ outE (nb 0 c) (xRow (nb 0 c) 5) 128
      ∗ kit c 0 13 22
      ∗ (∀ w : BitVec 32, (armed c 12 ∗ shP m c (sRow c 5) 128 fullShare.right ∗ armed c 13 ∗ owing c 9 ∗ stP m c 0 (qRow c 0)) -∗ Q ⟨k0_pay7 (rdC m c (qRow c 0) ![0, 768, 0] inb_S2x1024x1024_S1x128x1024_0_768_0), w⟩))
    ⊢ wpD c (k0_part7 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32 v41 v193 v194) Q := by
  rw [k0_part7_eq_skeleton]
  unfold k0_part7_skel
  simp only [semSignalWord, semWaitWord, Prog.lift, Prog.bind_op, Prog.bind_ret, Prog.pure_eq_ret, wp_deviceId]
  iintro ⟨#Hr, H0, H1, H2, H3, H4, H5, H6, H7, Hk⟩
  iapply (step_send_sh m K c _ 0 (dev8_eq c) 12 21 rfl rfl 7 rfl rfl rfl (a := sRow c 4) (b := xRow (nb 0 c) 4) (n := 128) rfl (off5_eq c 4) (off4_eq c 4) (own_x c 4 (by decide)) fullShare.left rfl rfl rfl rfl) $$ [H0 H1 H2 H3]
  · isplitr; · iexact Hr
    isplitl [H0]; · iexact H0
    isplitl [H1]; · iexact H1
    isplitl [H2]; · iexact H2
    iexact H3
  iintro ⟨G9, G10⟩
  iapply (step_load m c (s := 0) (o := 640) (n := 128) (a := qRow c 0) rfl rfl (by decide)) $$ [H4]
  · iexact H4
  iintro G11
  iapply (step_store m c (a := sRow c 5) (n := 128) (off3_eq c 5) rfl (sRow_le c 5 (by decide)) (hw_chunk m c 5 (by decide) rfl (off3_eq c 5) _)) $$ [H5]
  · iexact H5
  iintro ⟨G12, G13⟩
  iapply (step_send_sh m K c _ 0 (dev9_eq c) 13 22 rfl rfl 8 rfl rfl rfl (a := sRow c 5) (b := xRow (nb 0 c) 5) (n := 128) rfl (off5_eq c 5) (off4_eq c 5) (own_x c 5 (by decide)) fullShare.left rfl rfl rfl rfl) $$ [G12 H6 H7 G10]
  · isplitr; · iexact Hr
    isplitl [G12]; · iexact G12
    isplitl [H6]; · iexact H6
    isplitl [H7]; · iexact H7
    iexact G10
  iintro ⟨G14, G15⟩
  iapply (step_load m c (s := 0) (o := 768) (n := 128) (a := qRow c 0) rfl rfl (by decide)) $$ [G11]
  · iexact G11
  iintro G16
  iapply (wpD_ret c)
  iapply Hk
  isplitl [G9]; · iexact G9
  isplitl [G13]; · iexact G13
  isplitl [G14]; · iexact G14
  isplitl [G15]; · iexact G15
  iexact G16

end Cert.AllGather

end
-- ==== Proof.Parts2.lean ====
/-
# The middle pieces of the body, first half

The last sends along `x`, the fetches and the copies of the own half.
-/
module

public import proofs.«01_k».proof.Proof.Pieces

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Piece 8 of the body: stores, sends of shard rows, loads. -/
theorem part8 (K : Names) (c : Dev nD) (v5 v8 v9 v32 v41 c1024_i32_149 : BitVec 32) (Q : (PUnit) → sProp 𝕄) :
    iprop(recs m K
      ∗ shE c (sRow c 6) 128
      ∗ outE (nb 0 c) (xRow (nb 0 c) 6) 128
      ∗ kit c 0 14 23
      ∗ owing c 9
      ∗ stP m c 0 (qRow c 0)
      ∗ shE c (sRow c 7) 128
      ∗ ((shP m c (sRow c 6) 128 fullShare.right ∗ armed c 14 ∗ owing c 10 ∗ stP m c 0 (qRow c 0) ∗ shP m c (sRow c 7) 128 fullShare.left ∗ shP m c (sRow c 7) 128 fullShare.right) -∗ Q ⟨⟩))
    ⊢ wpD c (k0_part8 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32 v41 (k0_pay7 (rdC m c (qRow c 0) ![0, 768, 0] inb_S2x1024x1024_S1x128x1024_0_768_0)) c1024_i32_149) Q := by
  rw [k0_part8_eq_skeleton]
  unfold k0_part8_skel
  simp only [semSignalWord, semWaitWord, Prog.lift, Prog.bind_op, Prog.bind_ret, Prog.pure_eq_ret, wp_deviceId]
  iintro ⟨#Hr, H0, H1, H2, H3, H4, H5, Hk⟩
  iapply (step_store m c (a := sRow c 6) (n := 128) (off3_eq c 6) rfl (sRow_le c 6 (by decide)) (hw_chunk' m c 6 (by decide) rfl (off3_eq c 6) _)) $$ [H0]
  · iexact H0
  iintro ⟨G7, G8⟩
  iapply (step_send_sh m K c _ 0 (dev10_eq c) 14 23 rfl rfl 9 rfl rfl rfl (a := sRow c 6) (b := xRow (nb 0 c) 6) (n := 128) rfl (off5_eq c 6) (off4_eq c 6) (own_x c 6 (by decide)) fullShare.left rfl rfl rfl rfl) $$ [G7 H1 H2 H3]
  · isplitr; · iexact Hr
    isplitl [G7]; · iexact G7
    isplitl [H1]; · iexact H1
    isplitl [H2]; · iexact H2
    iexact H3
  iintro ⟨G9, G10⟩
  iapply (step_load m c (s := 0) (o := 896) (n := 128) (a := qRow c 0) rfl rfl (by decide)) $$ [H4]
  · iexact H4
  iintro G11
  iapply (step_store m c (a := sRow c 7) (n := 128) (off3_eq c 7) rfl (sRow_le c 7 (by decide)) (hw_chunk m c 7 (by decide) rfl (off3_eq c 7) _)) $$ [H5]
  · iexact H5
  iintro ⟨G12, G13⟩
  iapply (wpD_ret c)
  iapply Hk
  isplitl [G8]; · iexact G8
  isplitl [G9]; · iexact G9
  isplitl [G10]; · iexact G10
  isplitl [G11]; · iexact G11
  isplitl [G12]; · iexact G12
  iexact G13

/-- Piece 9 of the body: sends of shard rows, copies of the shard, waits. -/
theorem part9 (K : Names) (c : Dev nD) (v5 v8 v9 v32 : BitVec 32) (Q : (Σ' (v289 : BitVec 32), BitVec 32) → sProp 𝕄) :
    iprop(recs m K
      ∗ shP m c (sRow c 7) 128 fullShare.left
      ∗ outE (nb 0 c) (xRow (nb 0 c) 7) 128
      ∗ kit c 0 15 24
      ∗ owing c 10
      ∗ shP m c (sRow c 0) 128 fullShare.right
      ∗ shP m c (sRow c 1) 128 fullShare.right
      ∗ shP m c (sRow c 2) 128 fullShare.right
      ∗ shP m c (sRow c 3) 128 fullShare.right
      ∗ shP m c (sRow c 4) 128 fullShare.right
      ∗ shP m c (sRow c 5) 128 fullShare.right
      ∗ shP m c (sRow c 6) 128 fullShare.right
      ∗ shP m c (sRow c 7) 128 fullShare.right
      ∗ outE (c) (mRow c 0) 1024
      ∗ lkit c 4
      ∗ armed c 1
      ∗ (∀ w0 : BitVec 32, ∀ w1 : BitVec 32, (armed c 15 ∗ armed c 4 ∗ closed c 1 ∗ argP m c (qRow c 1) 1024 fullShare ∗ stP m c 1 (qRow c 1) ∗ owing c 11) -∗ Q ⟨w0, w1⟩))
    ⊢ wpD c (k0_part9 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v32) Q := by
  rw [k0_part9_eq_skeleton]
  unfold k0_part9_skel
  simp only [semSignalWord, semWaitWord, Prog.lift, Prog.bind_op, Prog.bind_ret, Prog.pure_eq_ret, wp_deviceId]
  iintro ⟨#Hr, H0, H1, H2, H3, H4, H5, H6, H7, H8, H9, H10, H11, H12, H13, H14, Hk⟩
  iapply (step_send_sh m K c _ 0 (dev11_eq c) 15 24 rfl rfl 10 rfl rfl rfl (a := sRow c 7) (b := xRow (nb 0 c) 7) (n := 128) rfl (off5_eq c 7) (off4_eq c 7) (own_x c 7 (by decide)) fullShare.left rfl rfl rfl rfl) $$ [H0 H1 H2 H3]
  · isplitr; · iexact Hr
    isplitl [H0]; · iexact H0
    isplitl [H1]; · iexact H1
    isplitl [H2]; · iexact H2
    iexact H3
  iintro ⟨G16, G17⟩
  ihave G18 : iprop(shP m c (qRow c 0) 1024 fullShare.right) $$ [H4 H5 H6 H7 H8 H9 H10 H11]
  · rw [shP_chunks m c]
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (step_copy m K c 4 rfl rfl (a := qRow c 0) (b := mRow c 0) (n := 1024) rfl (off1_eq c) (off6_eq c) (own_m c 0) fullShare.right rfl rfl) $$ [G18 H12 H13]
  · isplitr; · iexact Hr
    isplitl [G18]; · iexact G18
    isplitl [H12]; · iexact H12
    iexact H13
  iintro G19
  iapply (step_await m K c 1 rfl rfl 11 (by decide) (P := iprop(argP m c (qRow c 1) 1024 fullShare ∗ stP m c 1 (qRow c 1))) (BI.Entails.refl _)) $$ [H14 G17]
  · isplitr; · ipureintro; rfl
    isplitr; · iexact Hr
    isplitl [H14]; · iexact H14
    iexact G17
  iintro ⟨G20, ⟨G21, G22⟩, G23⟩
  iapply (wpD_ret c)
  iapply Hk
  isplitl [G16]; · iexact G16
  isplitl [G19]; · iexact G19
  isplitl [G20]; · iexact G20
  isplitl [G21]; · iexact G21
  isplitl [G22]; · iexact G22
  iexact G23

/-- Piece 10 of the body: fetches, loads, stores, copies of the shard. -/
theorem part10 (K : Names) (c : Dev nD) (v32 v37 v289 v295 : BitVec 32) (Q : (BitVec 32) → sProp 𝕄) :
    iprop(recs m K
      ∗ stP m c 0 (qRow c 0)
      ∗ argP m c (qRow c 2) 1024 fullShare
      ∗ lkit c 2
      ∗ stP m c 1 (qRow c 1)
      ∗ shE c (qRow c 1) 1024
      ∗ outE (c) (mRow c 1) 1024
      ∗ lkit c 5
      ∗ (∀ w : BitVec 32, (armed c 2 ∗ stP m c 1 (qRow c 1) ∗ shP m c (qRow c 1) 1024 fullShare.right ∗ armed c 5) -∗ Q w))
    ⊢ wpD c (k0_part10 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v32 v37 v289 v295) Q := by
  rw [k0_part10_eq_skeleton]
  unfold k0_part10_skel
  simp only [semSignalWord, semWaitWord, Prog.lift, Prog.bind_op, Prog.bind_ret, Prog.pure_eq_ret, wp_deviceId]
  iintro ⟨#Hr, H0, H1, H2, H3, H4, H5, H6, Hk⟩
  ihave G8 := (stP_stE m c 0 (qRow c 0)) $$ H0
  iapply (step_fetch m K c 2 rfl rfl (a := qRow c 2) (s := 0) (off7_eq c 0) rfl (qRow_le c 2) rfl rfl) $$ [H1 G8 H2]
  · isplitr; · iexact Hr
    isplitl [H1]; · iexact H1
    isplitl [G8]; · iexact G8
    iexact H2
  iintro G9
  iapply (step_load m c (s := 1) (o := 0) (n := 1024) (a := qRow c 1) rfl rfl (by decide)) $$ [H3]
  · iexact H3
  iintro G10
  iapply (step_store m c (a := qRow c 1) (n := 1024) (off8_eq c 0) rfl (qRow_le c 1) (hw_quarter m c 1 1 rfl (off8_eq c 0) _)) $$ [H4]
  · iexact H4
  iintro ⟨G11, G12⟩
  iapply (step_copy m K c 5 rfl rfl (a := qRow c 1) (b := mRow c 1) (n := 1024) rfl (off2_eq c 0) (off9_eq c 0) (own_m c 1) fullShare.left rfl rfl) $$ [G11 H5 H6]
  · isplitr; · iexact Hr
    isplitl [G11]; · iexact G11
    isplitl [H5]; · iexact H5
    iexact H6
  iintro G13
  iapply (wpD_ret c)
  iapply Hk
  isplitl [G9]; · iexact G9
  isplitl [G10]; · iexact G10
  isplitl [G12]; · iexact G12
  iexact G13

/-- Piece 11 of the body: waits, fetches. -/
theorem part11 (K : Names) (c : Dev nD) (v32 v328 : BitVec 32) (Q : (BitVec 32) → sProp 𝕄) :
    iprop(recs m K
      ∗ armed c 2
      ∗ owing c 11
      ∗ stP m c 1 (qRow c 1)
      ∗ argP m c (qRow c 3) 1024 fullShare
      ∗ lkit c 3
      ∗ (∀ w : BitVec 32, (closed c 2 ∗ argP m c (qRow c 2) 1024 fullShare ∗ stP m c 0 (qRow c 2) ∗ owing c 11 ∗ armed c 3) -∗ Q w))
    ⊢ wpD c (k0_part11 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v32 v328) Q := by
  rw [k0_part11_eq_skeleton]
  unfold k0_part11_skel
  simp only [semSignalWord, semWaitWord, Prog.lift, Prog.bind_op, Prog.bind_ret, Prog.pure_eq_ret, wp_deviceId]
  iintro ⟨#Hr, H0, H1, H2, H3, H4, Hk⟩
  iapply (step_await m K c 2 rfl rfl 11 (by decide) (P := iprop(argP m c (qRow c 2) 1024 fullShare ∗ stP m c 0 (qRow c 2))) (BI.Entails.refl _)) $$ [H0 H1]
  · isplitr; · ipureintro; rfl
    isplitr; · iexact Hr
    isplitl [H0]; · iexact H0
    iexact H1
  iintro ⟨G6, ⟨G7, G8⟩, G9⟩
  ihave G10 := (stP_stE m c 1 (qRow c 1)) $$ H2
  iapply (step_fetch m K c 3 rfl rfl (a := qRow c 3) (s := 1) (off7_eq c 1) rfl (qRow_le c 3) rfl rfl) $$ [H3 G10 H4]
  · isplitr; · iexact Hr
    isplitl [H3]; · iexact H3
    isplitl [G10]; · iexact G10
    iexact H4
  iintro G11
  iapply (wpD_ret c)
  iapply Hk
  isplitl [G6]; · iexact G6
  isplitl [G7]; · iexact G7
  isplitl [G8]; · iexact G8
  isplitl [G9]; · iexact G9
  iexact G11

/-- Piece 12 of the body: loads, stores, copies of the shard, waits. -/
theorem part12 (K : Names) (c : Dev nD) (v32 v37 v338 : BitVec 32) (Q : (Σ' (v387 : BitVec 32), Vec F S1x1024x1024 .f32) → sProp 𝕄) :
    iprop(recs m K
      ∗ stP m c 0 (qRow c 2)
      ∗ shE c (qRow c 2) 1024
      ∗ outE (c) (mRow c 2) 1024
      ∗ lkit c 6
      ∗ armed c 3
      ∗ owing c 11
      ∗ (∀ w : BitVec 32, (stP m c 0 (qRow c 2) ∗ shP m c (qRow c 2) 1024 fullShare.right ∗ armed c 6 ∗ closed c 3 ∗ argP m c (qRow c 3) 1024 fullShare ∗ owing c 11 ∗ stP m c 1 (qRow c 3)) -∗ Q ⟨w, rdQ m c (qRow c 3) ![1, 0, 0] inb_S2x1024x1024_S1x1024x1024_1_0_0⟩))
    ⊢ wpD c (k0_part12 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v32 v37 v338) Q := by
  rw [k0_part12_eq_skeleton]
  unfold k0_part12_skel
  simp only [semSignalWord, semWaitWord, Prog.lift, Prog.bind_op, Prog.bind_ret, Prog.pure_eq_ret, wp_deviceId]
  iintro ⟨#Hr, H0, H1, H2, H3, H4, H5, Hk⟩
  iapply (step_load m c (s := 0) (o := 0) (n := 1024) (a := qRow c 2) rfl rfl (by decide)) $$ [H0]
  · iexact H0
  iintro G7
  iapply (step_store m c (a := qRow c 2) (n := 1024) (off8_eq c 1) rfl (qRow_le c 2) (hw_quarter m c 2 0 rfl (off8_eq c 1) _)) $$ [H1]
  · iexact H1
  iintro ⟨G8, G9⟩
  iapply (step_copy m K c 6 rfl rfl (a := qRow c 2) (b := mRow c 2) (n := 1024) rfl (off2_eq c 1) (off9_eq c 1) (own_m c 2) fullShare.left rfl rfl) $$ [G8 H2 H3]
  · isplitr; · iexact Hr
    isplitl [G8]; · iexact G8
    isplitl [H2]; · iexact H2
    iexact H3
  iintro G10
  iapply (step_await m K c 3 rfl rfl 11 (by decide) (P := iprop(argP m c (qRow c 3) 1024 fullShare ∗ stP m c 1 (qRow c 3))) (BI.Entails.refl _)) $$ [H4 H5]
  · isplitr; · ipureintro; rfl
    isplitr; · iexact Hr
    isplitl [H4]; · iexact H4
    iexact H5
  iintro ⟨G11, ⟨G12, G13⟩, G14⟩
  iapply (step_load m c (s := 1) (o := 0) (n := 1024) (a := qRow c 3) rfl rfl (by decide)) $$ [G13]
  · iexact G13
  iintro G15
  iapply (wpD_ret c)
  iapply Hk
  isplitl [G7]; · iexact G7
  isplitl [G9]; · iexact G9
  isplitl [G10]; · iexact G10
  isplitl [G11]; · iexact G11
  isplitl [G12]; · iexact G12
  isplitl [G14]; · iexact G14
  iexact G15

/-- Piece 13 of the body: stores, copies of the shard, sends of shard rows. -/
theorem part13 (K : Names) (c : Dev nD) (v5 v8 v9 v36 v37 v387 : BitVec 32) (Q : (Σ' (v426 : BitVec 32), BitVec 32) → sProp 𝕄) :
    iprop(recs m K
      ∗ shE c (qRow c 3) 1024
      ∗ outE (c) (mRow c 3) 1024
      ∗ lkit c 7
      ∗ shP m c (qRow c 1) 1024 fullShare.right
      ∗ outE (nb 0 c) (dRow (nb 0 c) 6) 256
      ∗ kit c 0 16 25
      ∗ owing c 11
      ∗ (∀ w0 : BitVec 32, ∀ w1 : BitVec 32, (armed c 7 ∗ shRest m c fullShare.right ∗ armed c 16 ∗ owing c 12) -∗ Q ⟨w0, w1⟩))
    ⊢ wpD c (k0_part13 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v5 v8 v9 v36 v37 v387 (rdQ m c (qRow c 3) ![1, 0, 0] inb_S2x1024x1024_S1x1024x1024_1_0_0)) Q := by
  rw [k0_part13_eq_skeleton]
  unfold k0_part13_skel
  simp only [semSignalWord, semWaitWord, Prog.lift, Prog.bind_op, Prog.bind_ret, Prog.pure_eq_ret, wp_deviceId]
  iintro ⟨#Hr, H0, H1, H2, H3, H4, H5, H6, Hk⟩
  iapply (step_store m c (a := qRow c 3) (n := 1024) (off8_eq c 2) rfl (qRow_le c 3) (hw_quarter m c 3 1 rfl (off8_eq c 2) _)) $$ [H0]
  · iexact H0
  iintro ⟨G8, G9⟩
  iapply (step_copy m K c 7 rfl rfl (a := qRow c 3) (b := mRow c 3) (n := 1024) rfl (off2_eq c 2) (off9_eq c 2) (own_m c 3) fullShare.left rfl rfl) $$ [G8 H1 H2]
  · isplitr; · iexact Hr
    isplitl [G8]; · iexact G8
    isplitl [H1]; · iexact H1
    iexact H2
  iintro G10
  ihave G11 := (shP_diag m c fullShare.right).1 $$ [H3 G9]
  · isplitl [H3]; · iexact H3
    iexact G9
  icases G11 with ⟨G12, G13⟩
  iapply (step_send_sh m K c _ 0 (dev12_eq c) 16 25 rfl rfl 11 rfl rfl rfl (a := sDiag c) (b := dRow (nb 0 c) 6) (n := 256) rfl (off11_eq c) (off10_eq c) (own_d c) fullShare.right rfl rfl rfl rfl) $$ [G12 H4 H5 H6]
  · isplitr; · iexact Hr
    isplitl [G12]; · iexact G12
    isplitl [H4]; · iexact H4
    isplitl [H5]; · iexact H5
    iexact H6
  iintro ⟨G14, G15⟩
  iapply (wpD_ret c)
  iapply Hk
  isplitl [G10]; · iexact G10
  isplitl [G13]; · iexact G13
  isplitl [G14]; · iexact G14
  iexact G15

end Cert.AllGather

end
-- ==== Proof.Parts3.lean ====
/-
# The relays

Each chunk received along `x` is sent on along `y` and along `z`; a few of those received are sent on once more.
-/
module

public import proofs.«01_k».proof.Proof.Pieces

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Piece 14 of the body: waits, sends of result rows. -/
theorem part14 (K : Names) (c : Dev nD) (v2 v5 v8 v10 v11 v43 v426 c2_i32_287 : BitVec 32) (Q : (PUnit) → sProp 𝕄) :
    iprop(recs m K
      ∗ armed c 17
      ∗ owing c 12
      ∗ outE (nb 1 c) (xRow c 0) 128
      ∗ kit c 1 26 42
      ∗ ((closed c 17 ∗ outP m c (xRow c 0) 128 fullShare.right ∗ armed c 26 ∗ owing c 13) -∗ Q ⟨⟩))
    ⊢ wpD c (k0_part14 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v43 v426 c2_i32_287) Q := by
  rw [k0_part14_eq_skeleton]
  unfold k0_part14_skel
  simp only [semSignalWord, semWaitWord, Prog.lift, Prog.bind_op, Prog.bind_ret, Prog.pure_eq_ret, wp_deviceId]
  iintro ⟨#Hr, H0, H1, H2, H3, Hk⟩
  iapply (step_await m K c 17 rfl rfl 12 (by decide) (P := iprop(outP m c (xRow c 0) 128 fullShare.left ∗ outP m c (xRow c 0) 128 fullShare.right)) (outP_share m c _ _).1) $$ [H0 H1]
  · isplitr; · ipureintro; rfl
    isplitr; · iexact Hr
    isplitl [H0]; · iexact H0
    iexact H1
  iintro ⟨G5, ⟨G6, G7⟩, G8⟩
  iapply (step_send_out m K c _ 1 (dev13_eq c) 26 42 rfl rfl 12 rfl rfl rfl (b := xRow c 0) (n := 128) rfl (off12_eq c 0) (off12_eq c 0) (own_y c 0 (by decide)) fullShare.left rfl rfl rfl (payY m c 42 0 rfl)) $$ [G6 H2 H3 G8]
  · isplitr; · iexact Hr
    isplitl [G6]; · iexact G6
    isplitl [H2]; · iexact H2
    isplitl [H3]; · iexact H3
    iexact G8
  iintro ⟨G9, G10⟩
  iapply (wpD_ret c)
  iapply Hk
  isplitl [G5]; · iexact G5
  isplitl [G7]; · iexact G7
  isplitl [G9]; · iexact G9
  iexact G10

/-- Piece 15 of the body: sends of result rows, waits. -/
theorem part15 (K : Names) (c : Dev nD) (v2 v5 v8 v9 v10 v43 : BitVec 32) (Q : (Σ' (v492 : BitVec 32), BitVec 32) → sProp 𝕄) :
    iprop(recs m K
      ∗ outP m c (xRow c 0) 128 fullShare.right
      ∗ outE (nb 2 c) (xRow c 0) 128
      ∗ kit c 2 58 74
      ∗ owing c 13
      ∗ armed c 18
      ∗ outE (nb 1 c) (xRow c 1) 128
      ∗ kit c 1 27 43
      ∗ (∀ w0 : BitVec 32, ∀ w1 : BitVec 32, (armed c 58 ∗ closed c 18 ∗ outP m c (xRow c 1) 128 fullShare.right ∗ armed c 27 ∗ owing c 15) -∗ Q ⟨w0, w1⟩))
    ⊢ wpD c (k0_part15 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v43) Q := by
  rw [k0_part15_eq_skeleton]
  unfold k0_part15_skel
  simp only [semSignalWord, semWaitWord, Prog.lift, Prog.bind_op, Prog.bind_ret, Prog.pure_eq_ret, wp_deviceId]
  iintro ⟨#Hr, H0, H1, H2, H3, H4, H5, H6, Hk⟩
  iapply (step_send_out m K c _ 2 (dev14_eq c) 58 74 rfl rfl 13 rfl rfl rfl (b := xRow c 0) (n := 128) rfl (off12_eq c 0) (off12_eq c 0) (own_z c 0 (by decide)) fullShare.right rfl rfl rfl (payZ m c 74 0 rfl)) $$ [H0 H1 H2 H3]
  · isplitr; · iexact Hr
    isplitl [H0]; · iexact H0
    isplitl [H1]; · iexact H1
    isplitl [H2]; · iexact H2
    iexact H3
  iintro ⟨G8, G9⟩
  iapply (step_await m K c 18 rfl rfl 14 (by decide) (P := iprop(outP m c (xRow c 1) 128 fullShare.left ∗ outP m c (xRow c 1) 128 fullShare.right)) (outP_share m c _ _).1) $$ [H4 G9]
  · isplitr; · ipureintro; rfl
    isplitr; · iexact Hr
    isplitl [H4]; · iexact H4
    iexact G9
  iintro ⟨G10, ⟨G11, G12⟩, G13⟩
  iapply (step_send_out m K c _ 1 (dev15_eq c) 27 43 rfl rfl 14 rfl rfl rfl (b := xRow c 1) (n := 128) rfl (off12_eq c 1) (off12_eq c 1) (own_y c 1 (by decide)) fullShare.left rfl rfl rfl (payY m c 43 1 rfl)) $$ [G11 H5 H6 G13]
  · isplitr; · iexact Hr
    isplitl [G11]; · iexact G11
    isplitl [H5]; · iexact H5
    isplitl [H6]; · iexact H6
    iexact G13
  iintro ⟨G14, G15⟩
  iapply (wpD_ret c)
  iapply Hk
  isplitl [G8]; · iexact G8
  isplitl [G10]; · iexact G10
  isplitl [G12]; · iexact G12
  isplitl [G14]; · iexact G14
  iexact G15

/-- Piece 16 of the body: sends of result rows, waits. -/
theorem part16 (K : Names) (c : Dev nD) (v2 v5 v8 v9 v10 v11 v43 v492 c1_i32_336 : BitVec 32) (Q : (PUnit) → sProp 𝕄) :
    iprop(recs m K
      ∗ outP m c (xRow c 1) 128 fullShare.right
      ∗ outE (nb 2 c) (xRow c 1) 128
      ∗ kit c 2 59 75
      ∗ owing c 15
      ∗ armed c 19
      ∗ outE (nb 1 c) (xRow c 2) 128
      ∗ kit c 1 28 44
      ∗ ((armed c 59 ∗ closed c 19 ∗ outP m c (xRow c 2) 128 fullShare.right ∗ armed c 28 ∗ owing c 17) -∗ Q ⟨⟩))
    ⊢ wpD c (k0_part16 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v43 v492 c1_i32_336) Q := by
  rw [k0_part16_eq_skeleton]
  unfold k0_part16_skel
  simp only [semSignalWord, semWaitWord, Prog.lift, Prog.bind_op, Prog.bind_ret, Prog.pure_eq_ret, wp_deviceId]
  iintro ⟨#Hr, H0, H1, H2, H3, H4, H5, H6, Hk⟩
  iapply (step_send_out m K c _ 2 (dev16_eq c) 59 75 rfl rfl 15 rfl rfl rfl (b := xRow c 1) (n := 128) rfl (off12_eq c 1) (off12_eq c 1) (own_z c 1 (by decide)) fullShare.right rfl rfl rfl (payZ m c 75 1 rfl)) $$ [H0 H1 H2 H3]
  · isplitr; · iexact Hr
    isplitl [H0]; · iexact H0
    isplitl [H1]; · iexact H1
    isplitl [H2]; · iexact H2
    iexact H3
  iintro ⟨G8, G9⟩
  iapply (step_await m K c 19 rfl rfl 16 (by decide) (P := iprop(outP m c (xRow c 2) 128 fullShare.left ∗ outP m c (xRow c 2) 128 fullShare.right)) (outP_share m c _ _).1) $$ [H4 G9]
  · isplitr; · ipureintro; rfl
    isplitr; · iexact Hr
    isplitl [H4]; · iexact H4
    iexact G9
  iintro ⟨G10, ⟨G11, G12⟩, G13⟩
  iapply (step_send_out m K c _ 1 (dev17_eq c) 28 44 rfl rfl 16 rfl rfl rfl (b := xRow c 2) (n := 128) rfl (off12_eq c 2) (off12_eq c 2) (own_y c 2 (by decide)) fullShare.left rfl rfl rfl (payY m c 44 2 rfl)) $$ [G11 H5 H6 G13]
  · isplitr; · iexact Hr
    isplitl [G11]; · iexact G11
    isplitl [H5]; · iexact H5
    isplitl [H6]; · iexact H6
    iexact G13
  iintro ⟨G14, G15⟩
  iapply (wpD_ret c)
  iapply Hk
  isplitl [G8]; · iexact G8
  isplitl [G10]; · iexact G10
  isplitl [G12]; · iexact G12
  isplitl [G14]; · iexact G14
  iexact G15

/-- Piece 17 of the body: sends of result rows, waits. -/
theorem part17 (K : Names) (c : Dev nD) (v2 v5 v8 v9 v10 v11 v43 : BitVec 32) (Q : (PUnit) → sProp 𝕄) :
    iprop(recs m K
      ∗ outP m c (xRow c 2) 128 fullShare.right
      ∗ outE (nb 2 c) (xRow c 2) 128
      ∗ kit c 2 60 76
      ∗ owing c 17
      ∗ armed c 20
      ∗ ((armed c 60 ∗ closed c 20 ∗ outP m c (xRow c 3) 128 fullShare.left ∗ outP m c (xRow c 3) 128 fullShare.right ∗ owing c 18) -∗ Q ⟨⟩))
    ⊢ wpD c (k0_part17 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v43) Q := by
  rw [k0_part17_eq_skeleton]
  unfold k0_part17_skel
  simp only [semSignalWord, semWaitWord, Prog.lift, Prog.bind_op, Prog.bind_ret, Prog.pure_eq_ret, wp_deviceId]
  iintro ⟨#Hr, H0, H1, H2, H3, H4, Hk⟩
  iapply (step_send_out m K c _ 2 (dev18_eq c) 60 76 rfl rfl 17 rfl rfl rfl (b := xRow c 2) (n := 128) rfl (off12_eq c 2) (off12_eq c 2) (own_z c 2 (by decide)) fullShare.right rfl rfl rfl (payZ m c 76 2 rfl)) $$ [H0 H1 H2 H3]
  · isplitr; · iexact Hr
    isplitl [H0]; · iexact H0
    isplitl [H1]; · iexact H1
    isplitl [H2]; · iexact H2
    iexact H3
  iintro ⟨G6, G7⟩
  iapply (step_await m K c 20 rfl rfl 18 (by decide) (P := iprop(outP m c (xRow c 3) 128 fullShare.left ∗ outP m c (xRow c 3) 128 fullShare.right)) (outP_share m c _ _).1) $$ [H4 G7]
  · isplitr; · ipureintro; rfl
    isplitr; · iexact Hr
    isplitl [H4]; · iexact H4
    iexact G7
  iintro ⟨G8, ⟨G9, G10⟩, G11⟩
  iapply (wpD_ret c)
  iapply Hk
  isplitl [G6]; · iexact G6
  isplitl [G8]; · iexact G8
  isplitl [G9]; · iexact G9
  isplitl [G10]; · iexact G10
  iexact G11

/-- Piece 18 of the body: sends of result rows, waits. -/
theorem part18 (K : Names) (c : Dev nD) (v2 v5 v8 v9 v10 v11 v43 : BitVec 32) (Q : (Σ' (v590 : BitVec 32), BitVec 32) → sProp 𝕄) :
    iprop(recs m K
      ∗ outP m c (xRow c 3) 128 fullShare.left
      ∗ outE (nb 1 c) (xRow c 3) 128
      ∗ kit c 1 29 45
      ∗ owing c 18
      ∗ outP m c (xRow c 3) 128 fullShare.right
      ∗ outE (nb 2 c) (xRow c 3) 128
      ∗ kit c 2 61 77
      ∗ armed c 21
      ∗ (∀ w0 : BitVec 32, ∀ w1 : BitVec 32, (armed c 29 ∗ armed c 61 ∗ closed c 21 ∗ outP m c (xRow c 4) 128 fullShare.left ∗ outP m c (xRow c 4) 128 fullShare.right ∗ owing c 20) -∗ Q ⟨w0, w1⟩))
    ⊢ wpD c (k0_part18 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v43) Q := by
  rw [k0_part18_eq_skeleton]
  unfold k0_part18_skel
  simp only [semSignalWord, semWaitWord, Prog.lift, Prog.bind_op, Prog.bind_ret, Prog.pure_eq_ret, wp_deviceId]
  iintro ⟨#Hr, H0, H1, H2, H3, H4, H5, H6, H7, Hk⟩
  iapply (step_send_out m K c _ 1 (dev19_eq c) 29 45 rfl rfl 18 rfl rfl rfl (b := xRow c 3) (n := 128) rfl (off12_eq c 3) (off12_eq c 3) (own_y c 3 (by decide)) fullShare.left rfl rfl rfl (payY m c 45 3 rfl)) $$ [H0 H1 H2 H3]
  · isplitr; · iexact Hr
    isplitl [H0]; · iexact H0
    isplitl [H1]; · iexact H1
    isplitl [H2]; · iexact H2
    iexact H3
  iintro ⟨G9, G10⟩
  iapply (step_send_out m K c _ 2 (dev20_eq c) 61 77 rfl rfl 19 rfl rfl rfl (b := xRow c 3) (n := 128) rfl (off12_eq c 3) (off12_eq c 3) (own_z c 3 (by decide)) fullShare.right rfl rfl rfl (payZ m c 77 3 rfl)) $$ [H4 H5 H6 G10]
  · isplitr; · iexact Hr
    isplitl [H4]; · iexact H4
    isplitl [H5]; · iexact H5
    isplitl [H6]; · iexact H6
    iexact G10
  iintro ⟨G11, G12⟩
  iapply (step_await m K c 21 rfl rfl 20 (by decide) (P := iprop(outP m c (xRow c 4) 128 fullShare.left ∗ outP m c (xRow c 4) 128 fullShare.right)) (outP_share m c _ _).1) $$ [H7 G12]
  · isplitr; · ipureintro; rfl
    isplitr; · iexact Hr
    isplitl [H7]; · iexact H7
    iexact G12
  iintro ⟨G13, ⟨G14, G15⟩, G16⟩
  iapply (wpD_ret c)
  iapply Hk
  isplitl [G9]; · iexact G9
  isplitl [G11]; · iexact G11
  isplitl [G13]; · iexact G13
  isplitl [G14]; · iexact G14
  isplitl [G15]; · iexact G15
  iexact G16

/-- Piece 19 of the body: sends of result rows, waits. -/
theorem part19 (K : Names) (c : Dev nD) (v2 v5 v8 v9 v11 v43 v590 v591 : BitVec 32) (Q : (BitVec 32) → sProp 𝕄) :
    iprop(recs m K
      ∗ outP m c (xRow c 4) 128 fullShare.left
      ∗ outE (nb 1 c) (xRow c 4) 128
      ∗ kit c 1 30 46
      ∗ owing c 20
      ∗ outP m c (xRow c 4) 128 fullShare.right
      ∗ outE (nb 2 c) (xRow c 4) 128
      ∗ kit c 2 62 78
      ∗ armed c 22
      ∗ (∀ w : BitVec 32, (armed c 30 ∗ armed c 62 ∗ closed c 22 ∗ outP m c (xRow c 5) 128 fullShare.left ∗ outP m c (xRow c 5) 128 fullShare.right ∗ owing c 22) -∗ Q w))
    ⊢ wpD c (k0_part19 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v11 v43 v590 v591) Q := by
  rw [k0_part19_eq_skeleton]
  unfold k0_part19_skel
  simp only [semSignalWord, semWaitWord, Prog.lift, Prog.bind_op, Prog.bind_ret, Prog.pure_eq_ret, wp_deviceId]
  iintro ⟨#Hr, H0, H1, H2, H3, H4, H5, H6, H7, Hk⟩
  iapply (step_send_out m K c _ 1 (dev21_eq c) 30 46 rfl rfl 20 rfl rfl rfl (b := xRow c 4) (n := 128) rfl (off12_eq c 4) (off12_eq c 4) (own_y c 4 (by decide)) fullShare.left rfl rfl rfl (payY m c 46 4 rfl)) $$ [H0 H1 H2 H3]
  · isplitr; · iexact Hr
    isplitl [H0]; · iexact H0
    isplitl [H1]; · iexact H1
    isplitl [H2]; · iexact H2
    iexact H3
  iintro ⟨G9, G10⟩
  iapply (step_send_out m K c _ 2 (dev22_eq c) 62 78 rfl rfl 21 rfl rfl rfl (b := xRow c 4) (n := 128) rfl (off12_eq c 4) (off12_eq c 4) (own_z c 4 (by decide)) fullShare.right rfl rfl rfl (payZ m c 78 4 rfl)) $$ [H4 H5 H6 G10]
  · isplitr; · iexact Hr
    isplitl [H4]; · iexact H4
    isplitl [H5]; · iexact H5
    isplitl [H6]; · iexact H6
    iexact G10
  iintro ⟨G11, G12⟩
  iapply (step_await m K c 22 rfl rfl 22 (by decide) (P := iprop(outP m c (xRow c 5) 128 fullShare.left ∗ outP m c (xRow c 5) 128 fullShare.right)) (outP_share m c _ _).1) $$ [H7 G12]
  · isplitr; · ipureintro; rfl
    isplitr; · iexact Hr
    isplitl [H7]; · iexact H7
    iexact G12
  iintro ⟨G13, ⟨G14, G15⟩, G16⟩
  iapply (wpD_ret c)
  iapply Hk
  isplitl [G9]; · iexact G9
  isplitl [G11]; · iexact G11
  isplitl [G13]; · iexact G13
  isplitl [G14]; · iexact G14
  isplitl [G15]; · iexact G15
  iexact G16

/-- Piece 20 of the body: sends of result rows. -/
theorem part20 (K : Names) (c : Dev nD) (v2 v5 v8 v9 v10 v11 v43 c640_i32_432 : BitVec 32) (Q : (PUnit) → sProp 𝕄) :
    iprop(recs m K
      ∗ outP m c (xRow c 5) 128 fullShare.left
      ∗ outE (nb 1 c) (xRow c 5) 128
      ∗ kit c 1 31 47
      ∗ owing c 22
      ∗ outP m c (xRow c 5) 128 fullShare.right
      ∗ outE (nb 2 c) (xRow c 5) 128
      ∗ kit c 2 63 79
      ∗ ((armed c 31 ∗ armed c 63 ∗ owing c 24) -∗ Q ⟨⟩))
    ⊢ wpD c (k0_part20 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v43 c640_i32_432) Q := by
  rw [k0_part20_eq_skeleton]
  unfold k0_part20_skel
  simp only [semSignalWord, semWaitWord, Prog.lift, Prog.bind_op, Prog.bind_ret, Prog.pure_eq_ret, wp_deviceId]
  iintro ⟨#Hr, H0, H1, H2, H3, H4, H5, H6, Hk⟩
  iapply (step_send_out m K c _ 1 (dev23_eq c) 31 47 rfl rfl 22 rfl rfl rfl (b := xRow c 5) (n := 128) rfl (off12_eq c 5) (off12_eq c 5) (own_y c 5 (by decide)) fullShare.left rfl rfl rfl (payY m c 47 5 rfl)) $$ [H0 H1 H2 H3]
  · isplitr; · iexact Hr
    isplitl [H0]; · iexact H0
    isplitl [H1]; · iexact H1
    isplitl [H2]; · iexact H2
    iexact H3
  iintro ⟨G8, G9⟩
  iapply (step_send_out m K c _ 2 (dev24_eq c) 63 79 rfl rfl 23 rfl rfl rfl (b := xRow c 5) (n := 128) rfl (off12_eq c 5) (off12_eq c 5) (own_z c 5 (by decide)) fullShare.right rfl rfl rfl (payZ m c 79 5 rfl)) $$ [H4 H5 H6 G9]
  · isplitr; · iexact Hr
    isplitl [H4]; · iexact H4
    isplitl [H5]; · iexact H5
    isplitl [H6]; · iexact H6
    iexact G9
  iintro ⟨G10, G11⟩
  iapply (wpD_ret c)
  iapply Hk
  isplitl [G8]; · iexact G8
  isplitl [G10]; · iexact G10
  iexact G11

/-- Piece 21 of the body: waits, sends of result rows. -/
theorem part21 (K : Names) (c : Dev nD) (v2 v5 v8 v9 v10 v11 v43 : BitVec 32) (Q : (BitVec 32) → sProp 𝕄) :
    iprop(recs m K
      ∗ armed c 23
      ∗ owing c 24
      ∗ outE (nb 1 c) (xRow c 6) 128
      ∗ kit c 1 32 48
      ∗ outE (nb 2 c) (xRow c 6) 128
      ∗ kit c 2 64 80
      ∗ (∀ w : BitVec 32, (closed c 23 ∗ armed c 32 ∗ armed c 64 ∗ owing c 26) -∗ Q w))
    ⊢ wpD c (k0_part21 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v43) Q := by
  rw [k0_part21_eq_skeleton]
  unfold k0_part21_skel
  simp only [semSignalWord, semWaitWord, Prog.lift, Prog.bind_op, Prog.bind_ret, Prog.pure_eq_ret, wp_deviceId]
  iintro ⟨#Hr, H0, H1, H2, H3, H4, H5, Hk⟩
  iapply (step_await m K c 23 rfl rfl 24 (by decide) (P := iprop(outP m c (xRow c 6) 128 fullShare.left ∗ outP m c (xRow c 6) 128 fullShare.right)) (outP_share m c _ _).1) $$ [H0 H1]
  · isplitr; · ipureintro; rfl
    isplitr; · iexact Hr
    isplitl [H0]; · iexact H0
    iexact H1
  iintro ⟨G7, ⟨G8, G9⟩, G10⟩
  iapply (step_send_out m K c _ 1 (dev25_eq c) 32 48 rfl rfl 24 rfl rfl rfl (b := xRow c 6) (n := 128) rfl (off12_eq c 6) (off12_eq c 6) (own_y c 6 (by decide)) fullShare.left rfl rfl rfl (payY m c 48 6 rfl)) $$ [G8 H2 H3 G10]
  · isplitr; · iexact Hr
    isplitl [G8]; · iexact G8
    isplitl [H2]; · iexact H2
    isplitl [H3]; · iexact H3
    iexact G10
  iintro ⟨G11, G12⟩
  iapply (step_send_out m K c _ 2 (dev26_eq c) 64 80 rfl rfl 25 rfl rfl rfl (b := xRow c 6) (n := 128) rfl (off12_eq c 6) (off12_eq c 6) (own_z c 6 (by decide)) fullShare.right rfl rfl rfl (payZ m c 80 6 rfl)) $$ [G9 H4 H5 G12]
  · isplitr; · iexact Hr
    isplitl [G9]; · iexact G9
    isplitl [H4]; · iexact H4
    isplitl [H5]; · iexact H5
    iexact G12
  iintro ⟨G13, G14⟩
  iapply (wpD_ret c)
  iapply Hk
  isplitl [G7]; · iexact G7
  isplitl [G11]; · iexact G11
  isplitl [G13]; · iexact G13
  iexact G14

/-- Piece 22 of the body: waits, sends of result rows. -/
theorem part22 (K : Names) (c : Dev nD) (v2 v5 v8 v10 v11 v43 v691 : BitVec 32) (Q : (PUnit) → sProp 𝕄) :
    iprop(recs m K
      ∗ armed c 24
      ∗ owing c 26
      ∗ outE (nb 1 c) (xRow c 7) 128
      ∗ kit c 1 33 49
      ∗ ((closed c 24 ∗ outP m c (xRow c 7) 128 fullShare.right ∗ armed c 33 ∗ owing c 27) -∗ Q ⟨⟩))
    ⊢ wpD c (k0_part22 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v43 v691) Q := by
  rw [k0_part22_eq_skeleton]
  unfold k0_part22_skel
  simp only [semSignalWord, semWaitWord, Prog.lift, Prog.bind_op, Prog.bind_ret, Prog.pure_eq_ret, wp_deviceId]
  iintro ⟨#Hr, H0, H1, H2, H3, Hk⟩
  iapply (step_await m K c 24 rfl rfl 26 (by decide) (P := iprop(outP m c (xRow c 7) 128 fullShare.left ∗ outP m c (xRow c 7) 128 fullShare.right)) (outP_share m c _ _).1) $$ [H0 H1]
  · isplitr; · ipureintro; rfl
    isplitr; · iexact Hr
    isplitl [H0]; · iexact H0
    iexact H1
  iintro ⟨G5, ⟨G6, G7⟩, G8⟩
  iapply (step_send_out m K c _ 1 (dev27_eq c) 33 49 rfl rfl 26 rfl rfl rfl (b := xRow c 7) (n := 128) rfl (off12_eq c 7) (off12_eq c 7) (own_y c 7 (by decide)) fullShare.left rfl rfl rfl (payY m c 49 7 rfl)) $$ [G6 H2 H3 G8]
  · isplitr; · iexact Hr
    isplitl [G6]; · iexact G6
    isplitl [H2]; · iexact H2
    isplitl [H3]; · iexact H3
    iexact G8
  iintro ⟨G9, G10⟩
  iapply (wpD_ret c)
  iapply Hk
  isplitl [G5]; · iexact G5
  isplitl [G7]; · iexact G7
  isplitl [G9]; · iexact G9
  iexact G10

/-- Piece 23 of the body: sends of result rows, waits. -/
theorem part23 (K : Names) (c : Dev nD) (v2 v5 v8 v10 v11 v53 : BitVec 32) (Q : (Σ' (v756 : BitVec 32), BitVec 32) → sProp 𝕄) :
    iprop(recs m K
      ∗ outP m c (xRow c 7) 128 fullShare.right
      ∗ outE (nb 2 c) (xRow c 7) 128
      ∗ kit c 2 65 81
      ∗ owing c 27
      ∗ armed c 74
      ∗ outE (nb 1 c) (zRow c 0) 128
      ∗ kit c 1 34 50
      ∗ (∀ w0 : BitVec 32, ∀ w1 : BitVec 32, (armed c 65 ∗ closed c 74 ∗ armed c 34 ∗ owing c 29) -∗ Q ⟨w0, w1⟩))
    ⊢ wpD c (k0_part23 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v53) Q := by
  rw [k0_part23_eq_skeleton]
  unfold k0_part23_skel
  simp only [semSignalWord, semWaitWord, Prog.lift, Prog.bind_op, Prog.bind_ret, Prog.pure_eq_ret, wp_deviceId]
  iintro ⟨#Hr, H0, H1, H2, H3, H4, H5, H6, Hk⟩
  iapply (step_send_out m K c _ 2 (dev28_eq c) 65 81 rfl rfl 27 rfl rfl rfl (b := xRow c 7) (n := 128) rfl (off12_eq c 7) (off12_eq c 7) (own_z c 7 (by decide)) fullShare.right rfl rfl rfl (payZ m c 81 7 rfl)) $$ [H0 H1 H2 H3]
  · isplitr; · iexact Hr
    isplitl [H0]; · iexact H0
    isplitl [H1]; · iexact H1
    isplitl [H2]; · iexact H2
    iexact H3
  iintro ⟨G8, G9⟩
  iapply (step_await m K c 74 rfl rfl 28 (by decide) (P := iprop(outP m c (zRow c 0) 128 fullShare)) (BI.Entails.refl _)) $$ [H4 G9]
  · isplitr; · ipureintro; rfl
    isplitr; · iexact Hr
    isplitl [H4]; · iexact H4
    iexact G9
  iintro ⟨G10, G11, G12⟩
  iapply (step_send_out m K c _ 1 (dev29_eq c) 34 50 rfl rfl 28 rfl rfl rfl (b := zRow c 0) (n := 128) rfl (off13_eq c 0) (off13_eq c 0) (own_zy c 0 (by decide)) fullShare rfl rfl rfl (payDy m c 50 0 rfl)) $$ [G11 H5 H6 G12]
  · isplitr; · iexact Hr
    isplitl [G11]; · iexact G11
    isplitl [H5]; · iexact H5
    isplitl [H6]; · iexact H6
    iexact G12
  iintro ⟨G13, G14⟩
  iapply (wpD_ret c)
  iapply Hk
  isplitl [G8]; · iexact G8
  isplitl [G10]; · iexact G10
  isplitl [G13]; · iexact G13
  iexact G14

/-- Piece 24 of the body: waits, sends of result rows. -/
theorem part24 (K : Names) (c : Dev nD) (v2 v5 v8 v10 v11 v53 v756 v757 : BitVec 32) (Q : (BitVec 32) → sProp 𝕄) :
    iprop(recs m K
      ∗ armed c 75
      ∗ owing c 29
      ∗ outE (nb 1 c) (zRow c 1) 128
      ∗ kit c 1 35 51
      ∗ armed c 76
      ∗ (∀ w : BitVec 32, (closed c 75 ∗ armed c 35 ∗ closed c 76 ∗ outP m c (zRow c 2) 128 fullShare ∗ owing c 30) -∗ Q w))
    ⊢ wpD c (k0_part24 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v53 v756 v757) Q := by
  rw [k0_part24_eq_skeleton]
  unfold k0_part24_skel
  simp only [semSignalWord, semWaitWord, Prog.lift, Prog.bind_op, Prog.bind_ret, Prog.pure_eq_ret, wp_deviceId]
  iintro ⟨#Hr, H0, H1, H2, H3, H4, Hk⟩
  iapply (step_await m K c 75 rfl rfl 29 (by decide) (P := iprop(outP m c (zRow c 1) 128 fullShare)) (BI.Entails.refl _)) $$ [H0 H1]
  · isplitr; · ipureintro; rfl
    isplitr; · iexact Hr
    isplitl [H0]; · iexact H0
    iexact H1
  iintro ⟨G6, G7, G8⟩
  iapply (step_send_out m K c _ 1 (dev30_eq c) 35 51 rfl rfl 29 rfl rfl rfl (b := zRow c 1) (n := 128) rfl (off13_eq c 1) (off13_eq c 1) (own_zy c 1 (by decide)) fullShare rfl rfl rfl (payDy m c 51 1 rfl)) $$ [G7 H2 H3 G8]
  · isplitr; · iexact Hr
    isplitl [G7]; · iexact G7
    isplitl [H2]; · iexact H2
    isplitl [H3]; · iexact H3
    iexact G8
  iintro ⟨G9, G10⟩
  iapply (step_await m K c 76 rfl rfl 30 (by decide) (P := iprop(outP m c (zRow c 2) 128 fullShare)) (BI.Entails.refl _)) $$ [H4 G10]
  · isplitr; · ipureintro; rfl
    isplitr; · iexact Hr
    isplitl [H4]; · iexact H4
    iexact G10
  iintro ⟨G11, G12, G13⟩
  iapply (wpD_ret c)
  iapply Hk
  isplitl [G6]; · iexact G6
  isplitl [G9]; · iexact G9
  isplitl [G11]; · iexact G11
  isplitl [G12]; · iexact G12
  iexact G13

/-- Piece 25 of the body: sends of result rows, waits. -/
theorem part25 (K : Names) (c : Dev nD) (v2 v5 v8 v10 v11 v48 v789 : BitVec 32) (Q : (PUnit) → sProp 𝕄) :
    iprop(recs m K
      ∗ outP m c (zRow c 2) 128 fullShare
      ∗ outE (nb 1 c) (zRow c 2) 128
      ∗ kit c 1 36 52
      ∗ owing c 30
      ∗ armed c 45
      ∗ ((armed c 36 ∗ closed c 45 ∗ outP m c (yRow c 3) 128 fullShare ∗ owing c 31) -∗ Q ⟨⟩))
    ⊢ wpD c (k0_part25 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v48 v789) Q := by
  rw [k0_part25_eq_skeleton]
  unfold k0_part25_skel
  simp only [semSignalWord, semWaitWord, Prog.lift, Prog.bind_op, Prog.bind_ret, Prog.pure_eq_ret, wp_deviceId]
  iintro ⟨#Hr, H0, H1, H2, H3, H4, Hk⟩
  iapply (step_send_out m K c _ 1 (dev31_eq c) 36 52 rfl rfl 30 rfl rfl rfl (b := zRow c 2) (n := 128) rfl (off13_eq c 2) (off13_eq c 2) (own_zy c 2 (by decide)) fullShare rfl rfl rfl (payDy m c 52 2 rfl)) $$ [H0 H1 H2 H3]
  · isplitr; · iexact Hr
    isplitl [H0]; · iexact H0
    isplitl [H1]; · iexact H1
    isplitl [H2]; · iexact H2
    iexact H3
  iintro ⟨G6, G7⟩
  iapply (step_await m K c 45 rfl rfl 31 (by decide) (P := iprop(outP m c (yRow c 3) 128 fullShare)) (BI.Entails.refl _)) $$ [H4 G7]
  · isplitr; · ipureintro; rfl
    isplitr; · iexact Hr
    isplitl [H4]; · iexact H4
    iexact G7
  iintro ⟨G8, G9, G10⟩
  iapply (wpD_ret c)
  iapply Hk
  isplitl [G6]; · iexact G6
  isplitl [G8]; · iexact G8
  isplitl [G9]; · iexact G9
  iexact G10

/-- Piece 26 of the body: sends of result rows, waits. -/
theorem part26 (K : Names) (c : Dev nD) (v2 v5 v8 v10 v11 v48 : BitVec 32) (Q : (PUnit) → sProp 𝕄) :
    iprop(recs m K
      ∗ outP m c (yRow c 3) 128 fullShare
      ∗ outE (nb 2 c) (yRow c 3) 128
      ∗ kit c 2 69 85
      ∗ owing c 31
      ∗ armed c 46
      ∗ outE (nb 2 c) (yRow c 4) 128
      ∗ kit c 2 70 86
      ∗ ((armed c 69 ∗ closed c 46 ∗ armed c 70 ∗ owing c 33) -∗ Q ⟨⟩))
    ⊢ wpD c (k0_part26 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11 v48) Q := by
  rw [k0_part26_eq_skeleton]
  unfold k0_part26_skel
  simp only [semSignalWord, semWaitWord, Prog.lift, Prog.bind_op, Prog.bind_ret, Prog.pure_eq_ret, wp_deviceId]
  iintro ⟨#Hr, H0, H1, H2, H3, H4, H5, H6, Hk⟩
  iapply (step_send_out m K c _ 2 (dev32_eq c) 69 85 rfl rfl 31 rfl rfl rfl (b := yRow c 3) (n := 128) rfl (off14_eq c 0) (off14_eq c 0) (own_yz c 3 (by decide)) fullShare rfl rfl rfl (payDz m c 85 3 rfl)) $$ [H0 H1 H2 H3]
  · isplitr; · iexact Hr
    isplitl [H0]; · iexact H0
    isplitl [H1]; · iexact H1
    isplitl [H2]; · iexact H2
    iexact H3
  iintro ⟨G8, G9⟩
  iapply (step_await m K c 46 rfl rfl 32 (by decide) (P := iprop(outP m c (yRow c 4) 128 fullShare)) (BI.Entails.refl _)) $$ [H4 G9]
  · isplitr; · ipureintro; rfl
    isplitr; · iexact Hr
    isplitl [H4]; · iexact H4
    iexact G9
  iintro ⟨G10, G11, G12⟩
  iapply (step_send_out m K c _ 2 (dev33_eq c) 70 86 rfl rfl 32 rfl rfl rfl (b := yRow c 4) (n := 128) rfl (off14_eq c 1) (off14_eq c 1) (own_yz c 4 (by decide)) fullShare rfl rfl rfl (payDz m c 86 4 rfl)) $$ [G11 H5 H6 G12]
  · isplitr; · iexact Hr
    isplitl [G11]; · iexact G11
    isplitl [H5]; · iexact H5
    isplitl [H6]; · iexact H6
    iexact G12
  iintro ⟨G13, G14⟩
  iapply (wpD_ret c)
  iapply Hk
  isplitl [G8]; · iexact G8
  isplitl [G10]; · iexact G10
  isplitl [G13]; · iexact G13
  iexact G14

/-- Piece 27 of the body: waits, sends of result rows. -/
theorem part27 (K : Names) (c : Dev nD) (v2 v5 v8 v9 v10 v11 v48 : BitVec 32) (Q : (PUnit) → sProp 𝕄) :
    iprop(recs m K
      ∗ armed c 47
      ∗ owing c 33
      ∗ outE (nb 2 c) (yRow c 5) 128
      ∗ kit c 2 71 87
      ∗ armed c 25
      ∗ ((closed c 47 ∗ armed c 71 ∗ closed c 25 ∗ outP m c (dRow c 6) 256 fullShare ∗ owing c 34) -∗ Q ⟨⟩))
    ⊢ wpD c (k0_part27 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v9 v10 v11 v48) Q := by
  rw [k0_part27_eq_skeleton]
  unfold k0_part27_skel
  simp only [semSignalWord, semWaitWord, Prog.lift, Prog.bind_op, Prog.bind_ret, Prog.pure_eq_ret, wp_deviceId]
  iintro ⟨#Hr, H0, H1, H2, H3, H4, Hk⟩
  iapply (step_await m K c 47 rfl rfl 33 (by decide) (P := iprop(outP m c (yRow c 5) 128 fullShare)) (BI.Entails.refl _)) $$ [H0 H1]
  · isplitr; · ipureintro; rfl
    isplitr; · iexact Hr
    isplitl [H0]; · iexact H0
    iexact H1
  iintro ⟨G6, G7, G8⟩
  iapply (step_send_out m K c _ 2 (dev34_eq c) 71 87 rfl rfl 33 rfl rfl rfl (b := yRow c 5) (n := 128) rfl (off14_eq c 2) (off14_eq c 2) (own_yz c 5 (by decide)) fullShare rfl rfl rfl (payDz m c 87 5 rfl)) $$ [G7 H2 H3 G8]
  · isplitr; · iexact Hr
    isplitl [G7]; · iexact G7
    isplitl [H2]; · iexact H2
    isplitl [H3]; · iexact H3
    iexact G8
  iintro ⟨G9, G10⟩
  iapply (step_await m K c 25 rfl rfl 34 (by decide) (P := iprop(outP m c (dRow c 6) 256 fullShare)) (BI.Entails.refl _)) $$ [H4 G10]
  · isplitr; · ipureintro; rfl
    isplitr; · iexact Hr
    isplitl [H4]; · iexact H4
    iexact G10
  iintro ⟨G11, G12, G13⟩
  iapply (wpD_ret c)
  iapply Hk
  isplitl [G6]; · iexact G6
  isplitl [G9]; · iexact G9
  isplitl [G11]; · iexact G11
  isplitl [G12]; · iexact G12
  iexact G13

end Cert.AllGather

end
-- ==== Proof.Parts4.lean ====
/-
# The closing waits

The last arrivals, and the end of every transfer sent.
-/
module

public import proofs.«01_k».proof.Proof.Pieces

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Piece 28 of the body: waits. -/
theorem part28 (K : Names) (c : Dev nD) (v2 v5 v8 v10 v11 : BitVec 32) (Q : (PUnit) → sProp 𝕄) :
    iprop(recs m K
      ∗ armed c 42
      ∗ owing c 34
      ∗ armed c 43
      ∗ armed c 44
      ∗ ((closed c 42 ∗ outP m c (yRow c 0) 128 fullShare ∗ closed c 43 ∗ outP m c (yRow c 1) 128 fullShare ∗ closed c 44 ∗ outP m c (yRow c 2) 128 fullShare ∗ owing c 34) -∗ Q ⟨⟩))
    ⊢ wpD c (k0_part28 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11) Q := by
  rw [k0_part28_eq_skeleton]
  unfold k0_part28_skel
  simp only [semSignalWord, semWaitWord, Prog.lift, Prog.bind_op, Prog.bind_ret, Prog.pure_eq_ret, wp_deviceId]
  iintro ⟨#Hr, H0, H1, H2, H3, Hk⟩
  iapply (step_await m K c 42 rfl rfl 34 (by decide) (P := iprop(outP m c (yRow c 0) 128 fullShare)) (BI.Entails.refl _)) $$ [H0 H1]
  · isplitr; · ipureintro; rfl
    isplitr; · iexact Hr
    isplitl [H0]; · iexact H0
    iexact H1
  iintro ⟨G5, G6, G7⟩
  iapply (step_await m K c 43 rfl rfl 34 (by decide) (P := iprop(outP m c (yRow c 1) 128 fullShare)) (BI.Entails.refl _)) $$ [H2 G7]
  · isplitr; · ipureintro; rfl
    isplitr; · iexact Hr
    isplitl [H2]; · iexact H2
    iexact G7
  iintro ⟨G8, G9, G10⟩
  iapply (step_await m K c 44 rfl rfl 34 (by decide) (P := iprop(outP m c (yRow c 2) 128 fullShare)) (BI.Entails.refl _)) $$ [H3 G10]
  · isplitr; · ipureintro; rfl
    isplitr; · iexact Hr
    isplitl [H3]; · iexact H3
    iexact G10
  iintro ⟨G11, G12, G13⟩
  iapply (wpD_ret c)
  iapply Hk
  isplitl [G5]; · iexact G5
  isplitl [G6]; · iexact G6
  isplitl [G8]; · iexact G8
  isplitl [G9]; · iexact G9
  isplitl [G11]; · iexact G11
  isplitl [G12]; · iexact G12
  iexact G13

/-- Piece 29 of the body: waits. -/
theorem part29 (K : Names) (c : Dev nD) (v2 v5 v8 v10 v11 : BitVec 32) (Q : (PUnit) → sProp 𝕄) :
    iprop(recs m K
      ∗ armed c 77
      ∗ owing c 34
      ∗ armed c 78
      ∗ armed c 79
      ∗ ((closed c 77 ∗ outP m c (zRow c 3) 128 fullShare ∗ closed c 78 ∗ outP m c (zRow c 4) 128 fullShare ∗ closed c 79 ∗ outP m c (zRow c 5) 128 fullShare ∗ owing c 34) -∗ Q ⟨⟩))
    ⊢ wpD c (k0_part29 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11) Q := by
  rw [k0_part29_eq_skeleton]
  unfold k0_part29_skel
  simp only [semSignalWord, semWaitWord, Prog.lift, Prog.bind_op, Prog.bind_ret, Prog.pure_eq_ret, wp_deviceId]
  iintro ⟨#Hr, H0, H1, H2, H3, Hk⟩
  iapply (step_await m K c 77 rfl rfl 34 (by decide) (P := iprop(outP m c (zRow c 3) 128 fullShare)) (BI.Entails.refl _)) $$ [H0 H1]
  · isplitr; · ipureintro; rfl
    isplitr; · iexact Hr
    isplitl [H0]; · iexact H0
    iexact H1
  iintro ⟨G5, G6, G7⟩
  iapply (step_await m K c 78 rfl rfl 34 (by decide) (P := iprop(outP m c (zRow c 4) 128 fullShare)) (BI.Entails.refl _)) $$ [H2 G7]
  · isplitr; · ipureintro; rfl
    isplitr; · iexact Hr
    isplitl [H2]; · iexact H2
    iexact G7
  iintro ⟨G8, G9, G10⟩
  iapply (step_await m K c 79 rfl rfl 34 (by decide) (P := iprop(outP m c (zRow c 5) 128 fullShare)) (BI.Entails.refl _)) $$ [H3 G10]
  · isplitr; · ipureintro; rfl
    isplitr; · iexact Hr
    isplitl [H3]; · iexact H3
    iexact G10
  iintro ⟨G11, G12, G13⟩
  iapply (wpD_ret c)
  iapply Hk
  isplitl [G5]; · iexact G5
  isplitl [G6]; · iexact G6
  isplitl [G8]; · iexact G8
  isplitl [G9]; · iexact G9
  isplitl [G11]; · iexact G11
  isplitl [G12]; · iexact G12
  iexact G13

/-- Piece 30 of the body: waits. -/
theorem part30 (K : Names) (c : Dev nD) (v2 v5 v8 v10 v11 : BitVec 32) (Q : (PUnit) → sProp 𝕄) :
    iprop(recs m K
      ∗ armed c 48
      ∗ owing c 34
      ∗ armed c 80
      ∗ armed c 49
      ∗ armed c 81
      ∗ ((closed c 48 ∗ outP m c (yRow c 6) 128 fullShare ∗ closed c 80 ∗ outP m c (zRow c 6) 128 fullShare ∗ closed c 49 ∗ outP m c (yRow c 7) 128 fullShare ∗ closed c 81 ∗ outP m c (zRow c 7) 128 fullShare ∗ owing c 34) -∗ Q ⟨⟩))
    ⊢ wpD c (k0_part30 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v8 v10 v11) Q := by
  rw [k0_part30_eq_skeleton]
  unfold k0_part30_skel
  simp only [semSignalWord, semWaitWord, Prog.lift, Prog.bind_op, Prog.bind_ret, Prog.pure_eq_ret, wp_deviceId]
  iintro ⟨#Hr, H0, H1, H2, H3, H4, Hk⟩
  iapply (step_await m K c 48 rfl rfl 34 (by decide) (P := iprop(outP m c (yRow c 6) 128 fullShare)) (BI.Entails.refl _)) $$ [H0 H1]
  · isplitr; · ipureintro; rfl
    isplitr; · iexact Hr
    isplitl [H0]; · iexact H0
    iexact H1
  iintro ⟨G6, G7, G8⟩
  iapply (step_await m K c 80 rfl rfl 34 (by decide) (P := iprop(outP m c (zRow c 6) 128 fullShare)) (BI.Entails.refl _)) $$ [H2 G8]
  · isplitr; · ipureintro; rfl
    isplitr; · iexact Hr
    isplitl [H2]; · iexact H2
    iexact G8
  iintro ⟨G9, G10, G11⟩
  iapply (step_await m K c 49 rfl rfl 34 (by decide) (P := iprop(outP m c (yRow c 7) 128 fullShare)) (BI.Entails.refl _)) $$ [H3 G11]
  · isplitr; · ipureintro; rfl
    isplitr; · iexact Hr
    isplitl [H3]; · iexact H3
    iexact G11
  iintro ⟨G12, G13, G14⟩
  iapply (step_await m K c 81 rfl rfl 34 (by decide) (P := iprop(outP m c (zRow c 7) 128 fullShare)) (BI.Entails.refl _)) $$ [H4 G14]
  · isplitr; · ipureintro; rfl
    isplitr; · iexact Hr
    isplitl [H4]; · iexact H4
    iexact G14
  iintro ⟨G15, G16, G17⟩
  iapply (wpD_ret c)
  iapply Hk
  isplitl [G6]; · iexact G6
  isplitl [G7]; · iexact G7
  isplitl [G9]; · iexact G9
  isplitl [G10]; · iexact G10
  isplitl [G12]; · iexact G12
  isplitl [G13]; · iexact G13
  isplitl [G15]; · iexact G15
  isplitl [G16]; · iexact G16
  iexact G17

/-- Piece 31 of the body: waits. -/
theorem part31 (K : Names) (c : Dev nD) (v2 v8 v10 : BitVec 32) (Q : (Σ' (v1013 : BitVec 32), BitVec 32) → sProp 𝕄) :
    iprop(recs m K
      ∗ armed c 50
      ∗ owing c 34
      ∗ armed c 51
      ∗ armed c 52
      ∗ (∀ w0 : BitVec 32, ∀ w1 : BitVec 32, (closed c 50 ∗ outP m c (dRow c 0) 128 fullShare ∗ closed c 51 ∗ outP m c (dRow c 1) 128 fullShare ∗ closed c 52 ∗ outP m c (dRow c 2) 128 fullShare ∗ owing c 34) -∗ Q ⟨w0, w1⟩))
    ⊢ wpD c (k0_part31 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v8 v10) Q := by
  rw [k0_part31_eq_skeleton]
  unfold k0_part31_skel
  simp only [semSignalWord, semWaitWord, Prog.lift, Prog.bind_op, Prog.bind_ret, Prog.pure_eq_ret, wp_deviceId]
  iintro ⟨#Hr, H0, H1, H2, H3, Hk⟩
  iapply (step_await m K c 50 rfl rfl 34 (by decide) (P := iprop(outP m c (dRow c 0) 128 fullShare)) (BI.Entails.refl _)) $$ [H0 H1]
  · isplitr; · ipureintro; rfl
    isplitr; · iexact Hr
    isplitl [H0]; · iexact H0
    iexact H1
  iintro ⟨G5, G6, G7⟩
  iapply (step_await m K c 51 rfl rfl 34 (by decide) (P := iprop(outP m c (dRow c 1) 128 fullShare)) (BI.Entails.refl _)) $$ [H2 G7]
  · isplitr; · ipureintro; rfl
    isplitr; · iexact Hr
    isplitl [H2]; · iexact H2
    iexact G7
  iintro ⟨G8, G9, G10⟩
  iapply (step_await m K c 52 rfl rfl 34 (by decide) (P := iprop(outP m c (dRow c 2) 128 fullShare)) (BI.Entails.refl _)) $$ [H3 G10]
  · isplitr; · ipureintro; rfl
    isplitr; · iexact Hr
    isplitl [H3]; · iexact H3
    iexact G10
  iintro ⟨G11, G12, G13⟩
  iapply (wpD_ret c)
  iapply Hk
  isplitl [G5]; · iexact G5
  isplitl [G6]; · iexact G6
  isplitl [G8]; · iexact G8
  isplitl [G9]; · iexact G9
  isplitl [G11]; · iexact G11
  isplitl [G12]; · iexact G12
  iexact G13

/-- Piece 32 of the body: waits. -/
theorem part32 (K : Names) (c : Dev nD) (v2 v5 v11 v1013 c0_i32_725 : BitVec 32) (Q : (PUnit) → sProp 𝕄) :
    iprop(recs m K
      ∗ armed c 85
      ∗ owing c 34
      ∗ armed c 86
      ∗ armed c 87
      ∗ ((closed c 85 ∗ outP m c (dRow c 3) 128 fullShare ∗ closed c 86 ∗ outP m c (dRow c 4) 128 fullShare ∗ closed c 87 ∗ outP m c (dRow c 5) 128 fullShare ∗ owing c 34) -∗ Q ⟨⟩))
    ⊢ wpD c (k0_part32 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c v2 v5 v11 v1013 c0_i32_725) Q := by
  rw [k0_part32_eq_skeleton]
  unfold k0_part32_skel
  simp only [semSignalWord, semWaitWord, Prog.lift, Prog.bind_op, Prog.bind_ret, Prog.pure_eq_ret, wp_deviceId]
  iintro ⟨#Hr, H0, H1, H2, H3, Hk⟩
  iapply (step_await m K c 85 rfl rfl 34 (by decide) (P := iprop(outP m c (dRow c 3) 128 fullShare)) (BI.Entails.refl _)) $$ [H0 H1]
  · isplitr; · ipureintro; rfl
    isplitr; · iexact Hr
    isplitl [H0]; · iexact H0
    iexact H1
  iintro ⟨G5, G6, G7⟩
  iapply (step_await m K c 86 rfl rfl 34 (by decide) (P := iprop(outP m c (dRow c 4) 128 fullShare)) (BI.Entails.refl _)) $$ [H2 G7]
  · isplitr; · ipureintro; rfl
    isplitr; · iexact Hr
    isplitl [H2]; · iexact H2
    iexact G7
  iintro ⟨G8, G9, G10⟩
  iapply (step_await m K c 87 rfl rfl 34 (by decide) (P := iprop(outP m c (dRow c 5) 128 fullShare)) (BI.Entails.refl _)) $$ [H3 G10]
  · isplitr; · ipureintro; rfl
    isplitr; · iexact Hr
    isplitl [H3]; · iexact H3
    iexact G10
  iintro ⟨G11, G12, G13⟩
  iapply (wpD_ret c)
  iapply Hk
  isplitl [G5]; · iexact G5
  isplitl [G6]; · iexact G6
  isplitl [G8]; · iexact G8
  isplitl [G9]; · iexact G9
  isplitl [G11]; · iexact G11
  isplitl [G12]; · iexact G12
  iexact G13

/-- Piece 33 of the body: waits. -/
theorem part33 (K : Names) (c : Dev nD) (Q : (PUnit) → sProp 𝕄) :
    iprop(recs m K
      ∗ armed c 16
      ∗ owing c 34
      ∗ armed c 8
      ∗ armed c 26
      ∗ armed c 58
      ∗ armed c 9
      ∗ armed c 27
      ∗ ((closed c 16 ∗ shP m c (sDiag c) 256 fullShare.right ∗ closed c 8 ∗ shP m c (sRow c 0) 128 fullShare.left ∗ closed c 26 ∗ outP m c (xRow c 0) 128 fullShare.left ∗ closed c 58 ∗ outP m c (xRow c 0) 128 fullShare.right ∗ closed c 9 ∗ shP m c (sRow c 1) 128 fullShare.left ∗ closed c 27 ∗ outP m c (xRow c 1) 128 fullShare.left ∗ owing c 34) -∗ Q ⟨⟩))
    ⊢ wpD c (k0_part33 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c) Q := by
  rw [k0_part33_eq_skeleton]
  unfold k0_part33_skel
  simp only [semSignalWord, semWaitWord, Prog.lift, Prog.bind_op, Prog.bind_ret, Prog.pure_eq_ret, wp_deviceId]
  iintro ⟨#Hr, H0, H1, H2, H3, H4, H5, H6, Hk⟩
  iapply (step_await m K c 16 rfl rfl 34 (by decide) (P := iprop(shP m c (sDiag c) 256 fullShare.right)) (BI.Entails.refl _)) $$ [H0 H1]
  · isplitr; · ipureintro; rfl
    isplitr; · iexact Hr
    isplitl [H0]; · iexact H0
    iexact H1
  iintro ⟨G8, G9, G10⟩
  iapply (step_await m K c 8 rfl rfl 34 (by decide) (P := iprop(shP m c (sRow c 0) 128 fullShare.left)) (BI.Entails.refl _)) $$ [H2 G10]
  · isplitr; · ipureintro; rfl
    isplitr; · iexact Hr
    isplitl [H2]; · iexact H2
    iexact G10
  iintro ⟨G11, G12, G13⟩
  iapply (step_await m K c 26 rfl rfl 34 (by decide) (P := iprop(outP m c (xRow c 0) 128 fullShare.left)) (BI.Entails.refl _)) $$ [H3 G13]
  · isplitr; · ipureintro; rfl
    isplitr; · iexact Hr
    isplitl [H3]; · iexact H3
    iexact G13
  iintro ⟨G14, G15, G16⟩
  iapply (step_await m K c 58 rfl rfl 34 (by decide) (P := iprop(outP m c (xRow c 0) 128 fullShare.right)) (BI.Entails.refl _)) $$ [H4 G16]
  · isplitr; · ipureintro; rfl
    isplitr; · iexact Hr
    isplitl [H4]; · iexact H4
    iexact G16
  iintro ⟨G17, G18, G19⟩
  iapply (step_await m K c 9 rfl rfl 34 (by decide) (P := iprop(shP m c (sRow c 1) 128 fullShare.left)) (BI.Entails.refl _)) $$ [H5 G19]
  · isplitr; · ipureintro; rfl
    isplitr; · iexact Hr
    isplitl [H5]; · iexact H5
    iexact G19
  iintro ⟨G20, G21, G22⟩
  iapply (step_await m K c 27 rfl rfl 34 (by decide) (P := iprop(outP m c (xRow c 1) 128 fullShare.left)) (BI.Entails.refl _)) $$ [H6 G22]
  · isplitr; · ipureintro; rfl
    isplitr; · iexact Hr
    isplitl [H6]; · iexact H6
    iexact G22
  iintro ⟨G23, G24, G25⟩
  iapply (wpD_ret c)
  iapply Hk
  isplitl [G8]; · iexact G8
  isplitl [G9]; · iexact G9
  isplitl [G11]; · iexact G11
  isplitl [G12]; · iexact G12
  isplitl [G14]; · iexact G14
  isplitl [G15]; · iexact G15
  isplitl [G17]; · iexact G17
  isplitl [G18]; · iexact G18
  isplitl [G20]; · iexact G20
  isplitl [G21]; · iexact G21
  isplitl [G23]; · iexact G23
  isplitl [G24]; · iexact G24
  iexact G25

/-- Piece 34 of the body: waits. -/
theorem part34 (K : Names) (c : Dev nD) (Q : (PUnit) → sProp 𝕄) :
    iprop(recs m K
      ∗ armed c 59
      ∗ owing c 34
      ∗ armed c 10
      ∗ armed c 28
      ∗ armed c 60
      ∗ armed c 11
      ∗ armed c 29
      ∗ ((closed c 59 ∗ outP m c (xRow c 1) 128 fullShare.right ∗ closed c 10 ∗ shP m c (sRow c 2) 128 fullShare.left ∗ closed c 28 ∗ outP m c (xRow c 2) 128 fullShare.left ∗ closed c 60 ∗ outP m c (xRow c 2) 128 fullShare.right ∗ closed c 11 ∗ shP m c (sRow c 3) 128 fullShare.left ∗ closed c 29 ∗ outP m c (xRow c 3) 128 fullShare.left ∗ owing c 34) -∗ Q ⟨⟩))
    ⊢ wpD c (k0_part34 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c) Q := by
  rw [k0_part34_eq_skeleton]
  unfold k0_part34_skel
  simp only [semSignalWord, semWaitWord, Prog.lift, Prog.bind_op, Prog.bind_ret, Prog.pure_eq_ret, wp_deviceId]
  iintro ⟨#Hr, H0, H1, H2, H3, H4, H5, H6, Hk⟩
  iapply (step_await m K c 59 rfl rfl 34 (by decide) (P := iprop(outP m c (xRow c 1) 128 fullShare.right)) (BI.Entails.refl _)) $$ [H0 H1]
  · isplitr; · ipureintro; rfl
    isplitr; · iexact Hr
    isplitl [H0]; · iexact H0
    iexact H1
  iintro ⟨G8, G9, G10⟩
  iapply (step_await m K c 10 rfl rfl 34 (by decide) (P := iprop(shP m c (sRow c 2) 128 fullShare.left)) (BI.Entails.refl _)) $$ [H2 G10]
  · isplitr; · ipureintro; rfl
    isplitr; · iexact Hr
    isplitl [H2]; · iexact H2
    iexact G10
  iintro ⟨G11, G12, G13⟩
  iapply (step_await m K c 28 rfl rfl 34 (by decide) (P := iprop(outP m c (xRow c 2) 128 fullShare.left)) (BI.Entails.refl _)) $$ [H3 G13]
  · isplitr; · ipureintro; rfl
    isplitr; · iexact Hr
    isplitl [H3]; · iexact H3
    iexact G13
  iintro ⟨G14, G15, G16⟩
  iapply (step_await m K c 60 rfl rfl 34 (by decide) (P := iprop(outP m c (xRow c 2) 128 fullShare.right)) (BI.Entails.refl _)) $$ [H4 G16]
  · isplitr; · ipureintro; rfl
    isplitr; · iexact Hr
    isplitl [H4]; · iexact H4
    iexact G16
  iintro ⟨G17, G18, G19⟩
  iapply (step_await m K c 11 rfl rfl 34 (by decide) (P := iprop(shP m c (sRow c 3) 128 fullShare.left)) (BI.Entails.refl _)) $$ [H5 G19]
  · isplitr; · ipureintro; rfl
    isplitr; · iexact Hr
    isplitl [H5]; · iexact H5
    iexact G19
  iintro ⟨G20, G21, G22⟩
  iapply (step_await m K c 29 rfl rfl 34 (by decide) (P := iprop(outP m c (xRow c 3) 128 fullShare.left)) (BI.Entails.refl _)) $$ [H6 G22]
  · isplitr; · ipureintro; rfl
    isplitr; · iexact Hr
    isplitl [H6]; · iexact H6
    iexact G22
  iintro ⟨G23, G24, G25⟩
  iapply (wpD_ret c)
  iapply Hk
  isplitl [G8]; · iexact G8
  isplitl [G9]; · iexact G9
  isplitl [G11]; · iexact G11
  isplitl [G12]; · iexact G12
  isplitl [G14]; · iexact G14
  isplitl [G15]; · iexact G15
  isplitl [G17]; · iexact G17
  isplitl [G18]; · iexact G18
  isplitl [G20]; · iexact G20
  isplitl [G21]; · iexact G21
  isplitl [G23]; · iexact G23
  isplitl [G24]; · iexact G24
  iexact G25

/-- Piece 35 of the body: waits. -/
theorem part35 (K : Names) (c : Dev nD) (Q : (PUnit) → sProp 𝕄) :
    iprop(recs m K
      ∗ armed c 61
      ∗ owing c 34
      ∗ armed c 12
      ∗ armed c 30
      ∗ armed c 62
      ∗ armed c 13
      ∗ armed c 31
      ∗ ((closed c 61 ∗ outP m c (xRow c 3) 128 fullShare.right ∗ closed c 12 ∗ shP m c (sRow c 4) 128 fullShare.left ∗ closed c 30 ∗ outP m c (xRow c 4) 128 fullShare.left ∗ closed c 62 ∗ outP m c (xRow c 4) 128 fullShare.right ∗ closed c 13 ∗ shP m c (sRow c 5) 128 fullShare.left ∗ closed c 31 ∗ outP m c (xRow c 5) 128 fullShare.left ∗ owing c 34) -∗ Q ⟨⟩))
    ⊢ wpD c (k0_part35 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c) Q := by
  rw [k0_part35_eq_skeleton]
  unfold k0_part35_skel
  simp only [semSignalWord, semWaitWord, Prog.lift, Prog.bind_op, Prog.bind_ret, Prog.pure_eq_ret, wp_deviceId]
  iintro ⟨#Hr, H0, H1, H2, H3, H4, H5, H6, Hk⟩
  iapply (step_await m K c 61 rfl rfl 34 (by decide) (P := iprop(outP m c (xRow c 3) 128 fullShare.right)) (BI.Entails.refl _)) $$ [H0 H1]
  · isplitr; · ipureintro; rfl
    isplitr; · iexact Hr
    isplitl [H0]; · iexact H0
    iexact H1
  iintro ⟨G8, G9, G10⟩
  iapply (step_await m K c 12 rfl rfl 34 (by decide) (P := iprop(shP m c (sRow c 4) 128 fullShare.left)) (BI.Entails.refl _)) $$ [H2 G10]
  · isplitr; · ipureintro; rfl
    isplitr; · iexact Hr
    isplitl [H2]; · iexact H2
    iexact G10
  iintro ⟨G11, G12, G13⟩
  iapply (step_await m K c 30 rfl rfl 34 (by decide) (P := iprop(outP m c (xRow c 4) 128 fullShare.left)) (BI.Entails.refl _)) $$ [H3 G13]
  · isplitr; · ipureintro; rfl
    isplitr; · iexact Hr
    isplitl [H3]; · iexact H3
    iexact G13
  iintro ⟨G14, G15, G16⟩
  iapply (step_await m K c 62 rfl rfl 34 (by decide) (P := iprop(outP m c (xRow c 4) 128 fullShare.right)) (BI.Entails.refl _)) $$ [H4 G16]
  · isplitr; · ipureintro; rfl
    isplitr; · iexact Hr
    isplitl [H4]; · iexact H4
    iexact G16
  iintro ⟨G17, G18, G19⟩
  iapply (step_await m K c 13 rfl rfl 34 (by decide) (P := iprop(shP m c (sRow c 5) 128 fullShare.left)) (BI.Entails.refl _)) $$ [H5 G19]
  · isplitr; · ipureintro; rfl
    isplitr; · iexact Hr
    isplitl [H5]; · iexact H5
    iexact G19
  iintro ⟨G20, G21, G22⟩
  iapply (step_await m K c 31 rfl rfl 34 (by decide) (P := iprop(outP m c (xRow c 5) 128 fullShare.left)) (BI.Entails.refl _)) $$ [H6 G22]
  · isplitr; · ipureintro; rfl
    isplitr; · iexact Hr
    isplitl [H6]; · iexact H6
    iexact G22
  iintro ⟨G23, G24, G25⟩
  iapply (wpD_ret c)
  iapply Hk
  isplitl [G8]; · iexact G8
  isplitl [G9]; · iexact G9
  isplitl [G11]; · iexact G11
  isplitl [G12]; · iexact G12
  isplitl [G14]; · iexact G14
  isplitl [G15]; · iexact G15
  isplitl [G17]; · iexact G17
  isplitl [G18]; · iexact G18
  isplitl [G20]; · iexact G20
  isplitl [G21]; · iexact G21
  isplitl [G23]; · iexact G23
  isplitl [G24]; · iexact G24
  iexact G25

/-- Piece 36 of the body: waits. -/
theorem part36 (K : Names) (c : Dev nD) (Q : (PUnit) → sProp 𝕄) :
    iprop(recs m K
      ∗ armed c 63
      ∗ owing c 34
      ∗ armed c 14
      ∗ armed c 32
      ∗ armed c 64
      ∗ armed c 15
      ∗ armed c 33
      ∗ ((closed c 63 ∗ outP m c (xRow c 5) 128 fullShare.right ∗ closed c 14 ∗ shP m c (sRow c 6) 128 fullShare.left ∗ closed c 32 ∗ outP m c (xRow c 6) 128 fullShare.left ∗ closed c 64 ∗ outP m c (xRow c 6) 128 fullShare.right ∗ closed c 15 ∗ shP m c (sRow c 7) 128 fullShare.left ∗ closed c 33 ∗ outP m c (xRow c 7) 128 fullShare.left ∗ owing c 34) -∗ Q ⟨⟩))
    ⊢ wpD c (k0_part36 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c) Q := by
  rw [k0_part36_eq_skeleton]
  unfold k0_part36_skel
  simp only [semSignalWord, semWaitWord, Prog.lift, Prog.bind_op, Prog.bind_ret, Prog.pure_eq_ret, wp_deviceId]
  iintro ⟨#Hr, H0, H1, H2, H3, H4, H5, H6, Hk⟩
  iapply (step_await m K c 63 rfl rfl 34 (by decide) (P := iprop(outP m c (xRow c 5) 128 fullShare.right)) (BI.Entails.refl _)) $$ [H0 H1]
  · isplitr; · ipureintro; rfl
    isplitr; · iexact Hr
    isplitl [H0]; · iexact H0
    iexact H1
  iintro ⟨G8, G9, G10⟩
  iapply (step_await m K c 14 rfl rfl 34 (by decide) (P := iprop(shP m c (sRow c 6) 128 fullShare.left)) (BI.Entails.refl _)) $$ [H2 G10]
  · isplitr; · ipureintro; rfl
    isplitr; · iexact Hr
    isplitl [H2]; · iexact H2
    iexact G10
  iintro ⟨G11, G12, G13⟩
  iapply (step_await m K c 32 rfl rfl 34 (by decide) (P := iprop(outP m c (xRow c 6) 128 fullShare.left)) (BI.Entails.refl _)) $$ [H3 G13]
  · isplitr; · ipureintro; rfl
    isplitr; · iexact Hr
    isplitl [H3]; · iexact H3
    iexact G13
  iintro ⟨G14, G15, G16⟩
  iapply (step_await m K c 64 rfl rfl 34 (by decide) (P := iprop(outP m c (xRow c 6) 128 fullShare.right)) (BI.Entails.refl _)) $$ [H4 G16]
  · isplitr; · ipureintro; rfl
    isplitr; · iexact Hr
    isplitl [H4]; · iexact H4
    iexact G16
  iintro ⟨G17, G18, G19⟩
  iapply (step_await m K c 15 rfl rfl 34 (by decide) (P := iprop(shP m c (sRow c 7) 128 fullShare.left)) (BI.Entails.refl _)) $$ [H5 G19]
  · isplitr; · ipureintro; rfl
    isplitr; · iexact Hr
    isplitl [H5]; · iexact H5
    iexact G19
  iintro ⟨G20, G21, G22⟩
  iapply (step_await m K c 33 rfl rfl 34 (by decide) (P := iprop(outP m c (xRow c 7) 128 fullShare.left)) (BI.Entails.refl _)) $$ [H6 G22]
  · isplitr; · ipureintro; rfl
    isplitr; · iexact Hr
    isplitl [H6]; · iexact H6
    iexact G22
  iintro ⟨G23, G24, G25⟩
  iapply (wpD_ret c)
  iapply Hk
  isplitl [G8]; · iexact G8
  isplitl [G9]; · iexact G9
  isplitl [G11]; · iexact G11
  isplitl [G12]; · iexact G12
  isplitl [G14]; · iexact G14
  isplitl [G15]; · iexact G15
  isplitl [G17]; · iexact G17
  isplitl [G18]; · iexact G18
  isplitl [G20]; · iexact G20
  isplitl [G21]; · iexact G21
  isplitl [G23]; · iexact G23
  isplitl [G24]; · iexact G24
  iexact G25

/-- Piece 37 of the body: waits. -/
theorem part37 (K : Names) (c : Dev nD) (Q : (PUnit) → sProp 𝕄) :
    iprop(recs m K
      ∗ armed c 65
      ∗ owing c 34
      ∗ armed c 34
      ∗ armed c 35
      ∗ armed c 36
      ∗ armed c 69
      ∗ armed c 70
      ∗ ((closed c 65 ∗ outP m c (xRow c 7) 128 fullShare.right ∗ closed c 34 ∗ outP m c (zRow c 0) 128 fullShare ∗ closed c 35 ∗ outP m c (zRow c 1) 128 fullShare ∗ closed c 36 ∗ outP m c (zRow c 2) 128 fullShare ∗ closed c 69 ∗ outP m c (yRow c 3) 128 fullShare ∗ closed c 70 ∗ outP m c (yRow c 4) 128 fullShare ∗ owing c 34) -∗ Q ⟨⟩))
    ⊢ wpD c (k0_part37 argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9 c) Q := by
  rw [k0_part37_eq_skeleton]
  unfold k0_part37_skel
  simp only [semSignalWord, semWaitWord, Prog.lift, Prog.bind_op, Prog.bind_ret, Prog.pure_eq_ret, wp_deviceId]
  iintro ⟨#Hr, H0, H1, H2, H3, H4, H5, H6, Hk⟩
  iapply (step_await m K c 65 rfl rfl 34 (by decide) (P := iprop(outP m c (xRow c 7) 128 fullShare.right)) (BI.Entails.refl _)) $$ [H0 H1]
  · isplitr; · ipureintro; rfl
    isplitr; · iexact Hr
    isplitl [H0]; · iexact H0
    iexact H1
  iintro ⟨G8, G9, G10⟩
  iapply (step_await m K c 34 rfl rfl 34 (by decide) (P := iprop(outP m c (zRow c 0) 128 fullShare)) (BI.Entails.refl _)) $$ [H2 G10]
  · isplitr; · ipureintro; rfl
    isplitr; · iexact Hr
    isplitl [H2]; · iexact H2
    iexact G10
  iintro ⟨G11, G12, G13⟩
  iapply (step_await m K c 35 rfl rfl 34 (by decide) (P := iprop(outP m c (zRow c 1) 128 fullShare)) (BI.Entails.refl _)) $$ [H3 G13]
  · isplitr; · ipureintro; rfl
    isplitr; · iexact Hr
    isplitl [H3]; · iexact H3
    iexact G13
  iintro ⟨G14, G15, G16⟩
  iapply (step_await m K c 36 rfl rfl 34 (by decide) (P := iprop(outP m c (zRow c 2) 128 fullShare)) (BI.Entails.refl _)) $$ [H4 G16]
  · isplitr; · ipureintro; rfl
    isplitr; · iexact Hr
    isplitl [H4]; · iexact H4
    iexact G16
  iintro ⟨G17, G18, G19⟩
  iapply (step_await m K c 69 rfl rfl 34 (by decide) (P := iprop(outP m c (yRow c 3) 128 fullShare)) (BI.Entails.refl _)) $$ [H5 G19]
  · isplitr; · ipureintro; rfl
    isplitr; · iexact Hr
    isplitl [H5]; · iexact H5
    iexact G19
  iintro ⟨G20, G21, G22⟩
  iapply (step_await m K c 70 rfl rfl 34 (by decide) (P := iprop(outP m c (yRow c 4) 128 fullShare)) (BI.Entails.refl _)) $$ [H6 G22]
  · isplitr; · ipureintro; rfl
    isplitr; · iexact Hr
    isplitl [H6]; · iexact H6
    iexact G22
  iintro ⟨G23, G24, G25⟩
  iapply (wpD_ret c)
  iapply Hk
  isplitl [G8]; · iexact G8
  isplitl [G9]; · iexact G9
  isplitl [G11]; · iexact G11
  isplitl [G12]; · iexact G12
  isplitl [G14]; · iexact G14
  isplitl [G15]; · iexact G15
  isplitl [G17]; · iexact G17
  isplitl [G18]; · iexact G18
  isplitl [G20]; · iexact G20
  isplitl [G21]; · iexact G21
  isplitl [G23]; · iexact G23
  isplitl [G24]; · iexact G24
  iexact G25

end Cert.AllGather

end
-- ==== Proof.Body.lean ====
/-
# The whole body

The pieces, one after the other, at one device.
-/
module

public import proofs.«01_k».proof.Proof.Parts1
public import proofs.«01_k».proof.Proof.Parts2
public import proofs.«01_k».proof.Proof.Parts3
public import proofs.«01_k».proof.Proof.Parts4

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rows the neighbour along axis 0 lets the device write, range by range. -/
theorem gift0_open (c : Dev nD) : gift (F := F) 0 (nb 0 c) ⊢ iprop(outE (nb 0 c) (xRow (nb 0 c) 0) 128 ∗ outE (nb 0 c) (xRow (nb 0 c) 1) 128 ∗ outE (nb 0 c) (xRow (nb 0 c) 2) 128 ∗ outE (nb 0 c) (xRow (nb 0 c) 3) 128 ∗ outE (nb 0 c) (xRow (nb 0 c) 4) 128 ∗ outE (nb 0 c) (xRow (nb 0 c) 5) 128 ∗ outE (nb 0 c) (xRow (nb 0 c) 6) 128 ∗ outE (nb 0 c) (xRow (nb 0 c) 7) 128 ∗ outE (nb 0 c) (dRow (nb 0 c) 6) 256) := by
  show iprop(outE8 (nb 0 c) (xRow (nb 0 c)) ∗ outE (nb 0 c) (dRow (nb 0 c) 6) 256) ⊢ _
  unfold outE8
  iintro ⟨⟨h0, h1, h2, h3, h4, h5, h6, h7⟩, e0⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  iexact e0

/-- The rows the neighbour along axis 1 lets the device write, range by range. -/
theorem gift1_open (c : Dev nD) : gift (F := F) 1 (nb 1 c) ⊢ iprop(outE (nb 1 c) (xRow c 0) 128 ∗ outE (nb 1 c) (xRow c 1) 128 ∗ outE (nb 1 c) (xRow c 2) 128 ∗ outE (nb 1 c) (xRow c 3) 128 ∗ outE (nb 1 c) (xRow c 4) 128 ∗ outE (nb 1 c) (xRow c 5) 128 ∗ outE (nb 1 c) (xRow c 6) 128 ∗ outE (nb 1 c) (xRow c 7) 128 ∗ outE (nb 1 c) (zRow c 0) 128 ∗ outE (nb 1 c) (zRow c 1) 128 ∗ outE (nb 1 c) (zRow c 2) 128) := by
  rw [gift1_eq]
  unfold outE8
  iintro ⟨⟨h0, h1, h2, h3, h4, h5, h6, h7⟩, e0, e1, e2⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [e0]; · iexact e0
  isplitl [e1]; · iexact e1
  iexact e2

/-- The rows the neighbour along axis 2 lets the device write, range by range. -/
theorem gift2_open (c : Dev nD) : gift (F := F) 2 (nb 2 c) ⊢ iprop(outE (nb 2 c) (xRow c 0) 128 ∗ outE (nb 2 c) (xRow c 1) 128 ∗ outE (nb 2 c) (xRow c 2) 128 ∗ outE (nb 2 c) (xRow c 3) 128 ∗ outE (nb 2 c) (xRow c 4) 128 ∗ outE (nb 2 c) (xRow c 5) 128 ∗ outE (nb 2 c) (xRow c 6) 128 ∗ outE (nb 2 c) (xRow c 7) 128 ∗ outE (nb 2 c) (yRow c 3) 128 ∗ outE (nb 2 c) (yRow c 4) 128 ∗ outE (nb 2 c) (yRow c 5) 128) := by
  rw [gift2_eq]
  unfold outE8
  iintro ⟨⟨h0, h1, h2, h3, h4, h5, h6, h7⟩, e0, e1, e2⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [e0]; · iexact e0
  isplitl [e1]; · iexact e1
  iexact e2

theorem wpD_bind (c : Dev nD) {α β : Type} (p : Prog (TpuEff nD τ sig (Elt F) Λ₀ .tc) α) (k : α → Prog (TpuEff nD τ sig (Elt F) Λ₀ .tc) β) (Q : β → sProp 𝕄) :
    wpD c p (fun a => wpD c (k a) Q) ⊢ wpD c (p >>= k) Q :=
  Entails.of_eq (wp_bind _ _ _ p k Q).symm

/-- What a device holds when its body starts. -/
def bodyIn (c : Dev nD) : sProp 𝕄 := iprop(
    dutyTok ER (bcell (nb 0 c)) 0 0
    ∗ gift 0 c
    ∗ owing c 0
    ∗ dutyTok ER (bcell (nb 1 c)) 0 1
    ∗ gift 1 c
    ∗ dutyTok ER (bcell (nb 2 c)) 0 2
    ∗ gift 2 c
    ∗ atPos ER (bcell c) 0 ∅ 0
    ∗ cred (tallyAt (bcell c) () 3)
    ∗ argP m c (qRow c 0) 1024 fullShare
    ∗ stE c 0
    ∗ lkit c 0
    ∗ argP m c (qRow c 1) 1024 fullShare
    ∗ stE c 1
    ∗ lkit c 1
    ∗ shE c (sRow c 0) 128
    ∗ kit c 0 8 17
    ∗ shE c (sRow c 1) 128
    ∗ kit c 0 9 18
    ∗ shE c (sRow c 2) 128
    ∗ kit c 0 10 19
    ∗ shE c (sRow c 3) 128
    ∗ kit c 0 11 20
    ∗ shE c (sRow c 4) 128
    ∗ kit c 0 12 21
    ∗ shE c (sRow c 5) 128
    ∗ kit c 0 13 22
    ∗ shE c (sRow c 6) 128
    ∗ kit c 0 14 23
    ∗ shE c (sRow c 7) 128
    ∗ kit c 0 15 24
    ∗ outE (c) (mRow c 0) 1024
    ∗ lkit c 4
    ∗ argP m c (qRow c 2) 1024 fullShare
    ∗ lkit c 2
    ∗ shE c (qRow c 1) 1024
    ∗ outE (c) (mRow c 1) 1024
    ∗ lkit c 5
    ∗ argP m c (qRow c 3) 1024 fullShare
    ∗ lkit c 3
    ∗ shE c (qRow c 2) 1024
    ∗ outE (c) (mRow c 2) 1024
    ∗ lkit c 6
    ∗ shE c (qRow c 3) 1024
    ∗ outE (c) (mRow c 3) 1024
    ∗ lkit c 7
    ∗ kit c 0 16 25
    ∗ armed c 17
    ∗ kit c 1 26 42
    ∗ kit c 2 58 74
    ∗ armed c 18
    ∗ kit c 1 27 43
    ∗ kit c 2 59 75
    ∗ armed c 19
    ∗ kit c 1 28 44
    ∗ kit c 2 60 76
    ∗ armed c 20
    ∗ kit c 1 29 45
    ∗ kit c 2 61 77
    ∗ armed c 21
    ∗ kit c 1 30 46
    ∗ kit c 2 62 78
    ∗ armed c 22
    ∗ kit c 1 31 47
    ∗ kit c 2 63 79
    ∗ armed c 23
    ∗ kit c 1 32 48
    ∗ kit c 2 64 80
    ∗ armed c 24
    ∗ kit c 1 33 49
    ∗ kit c 2 65 81
    ∗ armed c 74
    ∗ kit c 1 34 50
    ∗ armed c 75
    ∗ kit c 1 35 51
    ∗ armed c 76
    ∗ kit c 1 36 52
    ∗ armed c 45
    ∗ kit c 2 69 85
    ∗ armed c 46
    ∗ kit c 2 70 86
    ∗ armed c 47
    ∗ kit c 2 71 87
    ∗ armed c 25
    ∗ armed c 42
    ∗ armed c 43
    ∗ armed c 44
    ∗ armed c 77
    ∗ armed c 78
    ∗ armed c 79
    ∗ armed c 48
    ∗ armed c 80
    ∗ armed c 49
    ∗ armed c 81
    ∗ armed c 50
    ∗ armed c 51
    ∗ armed c 52
    ∗ armed c 85
    ∗ armed c 86
    ∗ armed c 87)

/-- What a device holds when its body has ended. -/
def bodyOut (c : Dev nD) : sProp 𝕄 := iprop(
    semVal (bcell c) 0
    ∗ closed c 0
    ∗ argP m c (qRow c 0) 1024 fullShare
    ∗ closed c 1
    ∗ argP m c (qRow c 1) 1024 fullShare
    ∗ closed c 2
    ∗ argP m c (qRow c 2) 1024 fullShare
    ∗ stP m c 0 (qRow c 2)
    ∗ shP m c (qRow c 2) 1024 fullShare.right
    ∗ closed c 3
    ∗ argP m c (qRow c 3) 1024 fullShare
    ∗ stP m c 1 (qRow c 3)
    ∗ shRest m c fullShare.right
    ∗ closed c 17
    ∗ closed c 18
    ∗ closed c 19
    ∗ closed c 20
    ∗ closed c 21
    ∗ closed c 22
    ∗ closed c 23
    ∗ closed c 24
    ∗ closed c 74
    ∗ closed c 75
    ∗ closed c 76
    ∗ closed c 45
    ∗ closed c 46
    ∗ closed c 47
    ∗ closed c 25
    ∗ outP m c (dRow c 6) 256 fullShare
    ∗ closed c 42
    ∗ outP m c (yRow c 0) 128 fullShare
    ∗ closed c 43
    ∗ outP m c (yRow c 1) 128 fullShare
    ∗ closed c 44
    ∗ outP m c (yRow c 2) 128 fullShare
    ∗ closed c 77
    ∗ outP m c (zRow c 3) 128 fullShare
    ∗ closed c 78
    ∗ outP m c (zRow c 4) 128 fullShare
    ∗ closed c 79
    ∗ outP m c (zRow c 5) 128 fullShare
    ∗ closed c 48
    ∗ outP m c (yRow c 6) 128 fullShare
    ∗ closed c 80
    ∗ outP m c (zRow c 6) 128 fullShare
    ∗ closed c 49
    ∗ outP m c (yRow c 7) 128 fullShare
    ∗ closed c 81
    ∗ outP m c (zRow c 7) 128 fullShare
    ∗ closed c 50
    ∗ outP m c (dRow c 0) 128 fullShare
    ∗ closed c 51
    ∗ outP m c (dRow c 1) 128 fullShare
    ∗ closed c 52
    ∗ outP m c (dRow c 2) 128 fullShare
    ∗ closed c 85
    ∗ outP m c (dRow c 3) 128 fullShare
    ∗ closed c 86
    ∗ outP m c (dRow c 4) 128 fullShare
    ∗ closed c 87
    ∗ outP m c (dRow c 5) 128 fullShare
    ∗ closed c 16
    ∗ shP m c (sDiag c) 256 fullShare.right
    ∗ closed c 8
    ∗ shP m c (sRow c 0) 128 fullShare.left
    ∗ closed c 26
    ∗ outP m c (xRow c 0) 128 fullShare.left
    ∗ closed c 58
    ∗ outP m c (xRow c 0) 128 fullShare.right
    ∗ closed c 9
    ∗ shP m c (sRow c 1) 128 fullShare.left
    ∗ closed c 27
    ∗ outP m c (xRow c 1) 128 fullShare.left
    ∗ closed c 59
    ∗ outP m c (xRow c 1) 128 fullShare.right
    ∗ closed c 10
    ∗ shP m c (sRow c 2) 128 fullShare.left
    ∗ closed c 28
    ∗ outP m c (xRow c 2) 128 fullShare.left
    ∗ closed c 60
    ∗ outP m c (xRow c 2) 128 fullShare.right
    ∗ closed c 11
    ∗ shP m c (sRow c 3) 128 fullShare.left
    ∗ closed c 29
    ∗ outP m c (xRow c 3) 128 fullShare.left
    ∗ closed c 61
    ∗ outP m c (xRow c 3) 128 fullShare.right
    ∗ closed c 12
    ∗ shP m c (sRow c 4) 128 fullShare.left
    ∗ closed c 30
    ∗ outP m c (xRow c 4) 128 fullShare.left
    ∗ closed c 62
    ∗ outP m c (xRow c 4) 128 fullShare.right
    ∗ closed c 13
    ∗ shP m c (sRow c 5) 128 fullShare.left
    ∗ closed c 31
    ∗ outP m c (xRow c 5) 128 fullShare.left
    ∗ closed c 63
    ∗ outP m c (xRow c 5) 128 fullShare.right
    ∗ closed c 14
    ∗ shP m c (sRow c 6) 128 fullShare.left
    ∗ closed c 32
    ∗ outP m c (xRow c 6) 128 fullShare.left
    ∗ closed c 64
    ∗ outP m c (xRow c 6) 128 fullShare.right
    ∗ closed c 15
    ∗ shP m c (sRow c 7) 128 fullShare.left
    ∗ closed c 33
    ∗ outP m c (xRow c 7) 128 fullShare.left
    ∗ closed c 65
    ∗ outP m c (xRow c 7) 128 fullShare.right
    ∗ closed c 34
    ∗ outP m c (zRow c 0) 128 fullShare
    ∗ closed c 35
    ∗ outP m c (zRow c 1) 128 fullShare
    ∗ closed c 36
    ∗ outP m c (zRow c 2) 128 fullShare
    ∗ closed c 69
    ∗ outP m c (yRow c 3) 128 fullShare
    ∗ closed c 70
    ∗ outP m c (yRow c 4) 128 fullShare
    ∗ closed c 71
    ∗ outP m c (yRow c 5) 128 fullShare
    ∗ closed c 4
    ∗ outP m c (mRow c 0) 1024 fullShare
    ∗ shP m c (qRow c 0) 1024 fullShare.right
    ∗ closed c 5
    ∗ outP m c (mRow c 1) 1024 fullShare
    ∗ shP m c (qRow c 1) 1024 fullShare.left
    ∗ closed c 6
    ∗ outP m c (mRow c 2) 1024 fullShare
    ∗ shP m c (qRow c 2) 1024 fullShare.left
    ∗ closed c 7
    ∗ outP m c (mRow c 3) 1024 fullShare
    ∗ shP m c (qRow c 3) 1024 fullShare.left
    ∗ owing c 34)

/-- The body, run from what the launch hands it, ends with every transfer closed and every row of the result in place. -/
theorem body_run (K : Names) (c : Dev nD) (Q : PUnit → sProp 𝕄) :
    iprop(recs m K ∗ bodyIn m c ∗ (bodyOut m c -∗ Q ⟨⟩)) ⊢ wpD c (cc0_body argM (Memref.isWhole_whole _) outM (Memref.isWhole_whole _) shM (Memref.isWhole_whole _) stM (Memref.isWhole_whole _) cc0_scratch2 cc0_scratch3 cc0_scratch4 cc0_scratch5 cc0_scratch6 cc0_scratch7 cc0_scratch8 cc0_scratch9) Q := by
  rw [cc0_body_eq_skeleton]
  unfold cc0_body_skel
  rw [k0_part38_eq_skeleton]
  unfold k0_part38_skel bodyIn bodyOut
  simp only [Prog.lift, Prog.bind_op, Prog.bind_ret, Prog.pure_eq_ret]
  iintro ⟨#Hr, ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, H97, H98, H99⟩, Hk⟩
  iapply (wpD_bind c)
  iapply (wpD_bind c)
  iapply (part1 m K c  _)
  isplitr; · iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %v2
  iintro %v5
  iintro %v8
  iintro %v9
  iintro %v10
  iintro %v11
  iintro E1
  try dsimp only
  iapply (wpD_bind c)
  iapply (part2 m K c _ _ _ _)
  isplitr; · iexact Hr
  isplitl [H7]; · iexact H7
  isplitl [H8]; · iexact H8
  isplitl [E1]; · iexact E1
  isplitl [H9]; · iexact H9
  isplitl [H10]; · iexact H10
  isplitl [H11]; · iexact H11
  iintro %w2_0
  iintro %w2_1
  iintro %w2_2
  iintro %w2_3
  iintro %w2_4
  iintro %w2_5
  iintro %w2_6
  iintro ⟨E2, E3, E4, E5, E6, E7⟩
  try dsimp only
  ihave X := (gift0_open c) $$ E3
  icases X with ⟨E8, E9, E10, E11, E12, E13, E14, E15, E16⟩
  ihave X := (gift1_open c) $$ E4
  icases X with ⟨E17, E18, E19, E20, E21, E22, E23, E24, E25, E26, E27⟩
  ihave X := (gift2_open c) $$ E5
  icases X with ⟨E28, E29, E30, E31, E32, E33, E34, E35, E36, E37, E38⟩
  iapply (wpD_bind c)
  iapply (part3 m K c _ _ _)
  isplitr; · iexact Hr
  isplitl [E7]; · iexact E7
  isplitl [E6]; · iexact E6
  isplitl [H12]; · iexact H12
  isplitl [H13]; · iexact H13
  isplitl [H14]; · iexact H14
  isplitl [H15]; · iexact H15
  iintro %w3
  iintro ⟨E39, E40, E41, E42, E43, E44, E45⟩
  try dsimp only
  iapply (wpD_bind c)
  iapply (part4 m K c _ _ _ _ _ _ _)
  isplitr; · iexact Hr
  isplitl [E44]; · iexact E44
  isplitl [E8]; · iexact E8
  isplitl [H16]; · iexact H16
  isplitl [E41]; · iexact E41
  isplitl [E43]; · iexact E43
  isplitl [H17]; · iexact H17
  iintro ⟨E46, E47, E48, E49, E50⟩
  try dsimp only
  iapply (wpD_bind c)
  iapply (part5 m K c _ _ _ _ _ _)
  isplitr; · iexact Hr
  isplitl [E49]; · iexact E49
  isplitl [E9]; · iexact E9
  isplitl [H18]; · iexact H18
  isplitl [E47]; · iexact E47
  isplitl [E48]; · iexact E48
  isplitl [H19]; · iexact H19
  isplitl [E10]; · iexact E10
  isplitl [H20]; · iexact H20
  isplitl [H21]; · iexact H21
  iintro ⟨E51, E52, E53, E54, E55, E56, E57⟩
  try dsimp only
  iapply (wpD_bind c)
  iapply (part6 m K c _ _ _ _ _ _)
  isplitr; · iexact Hr
  isplitl [E56]; · iexact E56
  isplitl [E11]; · iexact E11
  isplitl [H22]; · iexact H22
  isplitl [E54]; · iexact E54
  isplitl [E55]; · iexact E55
  isplitl [H23]; · iexact H23
  iintro %w6_0
  iintro %w6_1
  iintro ⟨E58, E59, E60, E61, E62⟩
  try dsimp only
  iapply (wpD_bind c)
  iapply (part7 m K c _ _ _ _ _ _ _ _)
  isplitr; · iexact Hr
  isplitl [E61]; · iexact E61
  isplitl [E12]; · iexact E12
  isplitl [H24]; · iexact H24
  isplitl [E59]; · iexact E59
  isplitl [E60]; · iexact E60
  isplitl [H25]; · iexact H25
  isplitl [E13]; · iexact E13
  isplitl [H26]; · iexact H26
  iintro %w7
  iintro ⟨E63, E64, E65, E66, E67⟩
  try dsimp only
  iapply (wpD_bind c)
  iapply (part8 m K c _ _ _ _ _ _ _)
  isplitr; · iexact Hr
  isplitl [H27]; · iexact H27
  isplitl [E14]; · iexact E14
  isplitl [H28]; · iexact H28
  isplitl [E66]; · iexact E66
  isplitl [E67]; · iexact E67
  isplitl [H29]; · iexact H29
  iintro ⟨E68, E69, E70, E71, E72, E73⟩
  try dsimp only
  iapply (wpD_bind c)
  iapply (part9 m K c _ _ _ _ _)
  isplitr; · iexact Hr
  isplitl [E72]; · iexact E72
  isplitl [E15]; · iexact E15
  isplitl [H30]; · iexact H30
  isplitl [E70]; · iexact E70
  isplitl [E45]; · iexact E45
  isplitl [E50]; · iexact E50
  isplitl [E52]; · iexact E52
  isplitl [E57]; · iexact E57
  isplitl [E62]; · iexact E62
  isplitl [E64]; · iexact E64
  isplitl [E68]; · iexact E68
  isplitl [E73]; · iexact E73
  isplitl [H31]; · iexact H31
  isplitl [H32]; · iexact H32
  isplitl [E42]; · iexact E42
  iintro %w9_0
  iintro %w9_1
  iintro ⟨E74, E75, E76, E77, E78, E79⟩
  try dsimp only
  iapply (wpD_bind c)
  iapply (part10 m K c _ _ _ _ _)
  isplitr; · iexact Hr
  isplitl [E71]; · iexact E71
  isplitl [H33]; · iexact H33
  isplitl [H34]; · iexact H34
  isplitl [E78]; · iexact E78
  isplitl [H35]; · iexact H35
  isplitl [H36]; · iexact H36
  isplitl [H37]; · iexact H37
  iintro %w10
  iintro ⟨E80, E81, E82, E83⟩
  try dsimp only
  iapply (wpD_bind c)
  iapply (part11 m K c _ _ _)
  isplitr; · iexact Hr
  isplitl [E80]; · iexact E80
  isplitl [E79]; · iexact E79
  isplitl [E81]; · iexact E81
  isplitl [H38]; · iexact H38
  isplitl [H39]; · iexact H39
  iintro %w11
  iintro ⟨E84, E85, E86, E87, E88⟩
  try dsimp only
  iapply (wpD_bind c)
  iapply (part12 m K c _ _ _ _)
  isplitr; · iexact Hr
  isplitl [E86]; · iexact E86
  isplitl [H40]; · iexact H40
  isplitl [H41]; · iexact H41
  isplitl [H42]; · iexact H42
  isplitl [E88]; · iexact E88
  isplitl [E87]; · iexact E87
  iintro %w12
  iintro ⟨E89, E90, E91, E92, E93, E94, E95⟩
  try dsimp only
  iapply (wpD_bind c)
  iapply (part13 m K c _ _ _ _ _ _ _)
  isplitr; · iexact Hr
  isplitl [H43]; · iexact H43
  isplitl [H44]; · iexact H44
  isplitl [H45]; · iexact H45
  isplitl [E82]; · iexact E82
  isplitl [E16]; · iexact E16
  isplitl [H46]; · iexact H46
  isplitl [E94]; · iexact E94
  iintro %w13_0
  iintro %w13_1
  iintro ⟨E96, E97, E98, E99⟩
  try dsimp only
  iapply (wpD_bind c)
  iapply (part14 m K c _ _ _ _ _ _ _ _ _)
  isplitr; · iexact Hr
  isplitl [H47]; · iexact H47
  isplitl [E99]; · iexact E99
  isplitl [E17]; · iexact E17
  isplitl [H48]; · iexact H48
  iintro ⟨E100, E101, E102, E103⟩
  try dsimp only
  iapply (wpD_bind c)
  iapply (part15 m K c _ _ _ _ _ _ _)
  isplitr; · iexact Hr
  isplitl [E101]; · iexact E101
  isplitl [E28]; · iexact E28
  isplitl [H49]; · iexact H49
  isplitl [E103]; · iexact E103
  isplitl [H50]; · iexact H50
  isplitl [E18]; · iexact E18
  isplitl [H51]; · iexact H51
  iintro %w15_0
  iintro %w15_1
  iintro ⟨E104, E105, E106, E107, E108⟩
  try dsimp only
  iapply (wpD_bind c)
  iapply (part16 m K c _ _ _ _ _ _ _ _ _ _)
  isplitr; · iexact Hr
  isplitl [E106]; · iexact E106
  isplitl [E29]; · iexact E29
  isplitl [H52]; · iexact H52
  isplitl [E108]; · iexact E108
  isplitl [H53]; · iexact H53
  isplitl [E19]; · iexact E19
  isplitl [H54]; · iexact H54
  iintro ⟨E109, E110, E111, E112, E113⟩
  try dsimp only
  iapply (wpD_bind c)
  iapply (part17 m K c _ _ _ _ _ _ _ _)
  isplitr; · iexact Hr
  isplitl [E111]; · iexact E111
  isplitl [E30]; · iexact E30
  isplitl [H55]; · iexact H55
  isplitl [E113]; · iexact E113
  isplitl [H56]; · iexact H56
  iintro ⟨E114, E115, E116, E117, E118⟩
  try dsimp only
  iapply (wpD_bind c)
  iapply (part18 m K c _ _ _ _ _ _ _ _)
  isplitr; · iexact Hr
  isplitl [E116]; · iexact E116
  isplitl [E20]; · iexact E20
  isplitl [H57]; · iexact H57
  isplitl [E118]; · iexact E118
  isplitl [E117]; · iexact E117
  isplitl [E31]; · iexact E31
  isplitl [H58]; · iexact H58
  isplitl [H59]; · iexact H59
  iintro %w18_0
  iintro %w18_1
  iintro ⟨E119, E120, E121, E122, E123, E124⟩
  try dsimp only
  iapply (wpD_bind c)
  iapply (part19 m K c _ _ _ _ _ _ _ _ _)
  isplitr; · iexact Hr
  isplitl [E122]; · iexact E122
  isplitl [E21]; · iexact E21
  isplitl [H60]; · iexact H60
  isplitl [E124]; · iexact E124
  isplitl [E123]; · iexact E123
  isplitl [E32]; · iexact E32
  isplitl [H61]; · iexact H61
  isplitl [H62]; · iexact H62
  iintro %w19
  iintro ⟨E125, E126, E127, E128, E129, E130⟩
  try dsimp only
  iapply (wpD_bind c)
  iapply (part20 m K c _ _ _ _ _ _ _ _ _)
  isplitr; · iexact Hr
  isplitl [E128]; · iexact E128
  isplitl [E22]; · iexact E22
  isplitl [H63]; · iexact H63
  isplitl [E130]; · iexact E130
  isplitl [E129]; · iexact E129
  isplitl [E33]; · iexact E33
  isplitl [H64]; · iexact H64
  iintro ⟨E131, E132, E133⟩
  try dsimp only
  iapply (wpD_bind c)
  iapply (part21 m K c _ _ _ _ _ _ _ _)
  isplitr; · iexact Hr
  isplitl [H65]; · iexact H65
  isplitl [E133]; · iexact E133
  isplitl [E23]; · iexact E23
  isplitl [H66]; · iexact H66
  isplitl [E34]; · iexact E34
  isplitl [H67]; · iexact H67
  iintro %w21
  iintro ⟨E134, E135, E136, E137⟩
  try dsimp only
  iapply (wpD_bind c)
  iapply (part22 m K c _ _ _ _ _ _ _ _)
  isplitr; · iexact Hr
  isplitl [H68]; · iexact H68
  isplitl [E137]; · iexact E137
  isplitl [E24]; · iexact E24
  isplitl [H69]; · iexact H69
  iintro ⟨E138, E139, E140, E141⟩
  try dsimp only
  iapply (wpD_bind c)
  iapply (part23 m K c _ _ _ _ _ _ _)
  isplitr; · iexact Hr
  isplitl [E139]; · iexact E139
  isplitl [E35]; · iexact E35
  isplitl [H70]; · iexact H70
  isplitl [E141]; · iexact E141
  isplitl [H71]; · iexact H71
  isplitl [E25]; · iexact E25
  isplitl [H72]; · iexact H72
  iintro %w23_0
  iintro %w23_1
  iintro ⟨E142, E143, E144, E145⟩
  try dsimp only
  iapply (wpD_bind c)
  iapply (part24 m K c _ _ _ _ _ _ _ _ _)
  isplitr; · iexact Hr
  isplitl [H73]; · iexact H73
  isplitl [E145]; · iexact E145
  isplitl [E26]; · iexact E26
  isplitl [H74]; · iexact H74
  isplitl [H75]; · iexact H75
  iintro %w24
  iintro ⟨E146, E147, E148, E149, E150⟩
  try dsimp only
  iapply (wpD_bind c)
  iapply (part25 m K c _ _ _ _ _ _ _ _)
  isplitr; · iexact Hr
  isplitl [E149]; · iexact E149
  isplitl [E27]; · iexact E27
  isplitl [H76]; · iexact H76
  isplitl [E150]; · iexact E150
  isplitl [H77]; · iexact H77
  iintro ⟨E151, E152, E153, E154⟩
  try dsimp only
  iapply (wpD_bind c)
  iapply (part26 m K c _ _ _ _ _ _ _)
  isplitr; · iexact Hr
  isplitl [E153]; · iexact E153
  isplitl [E36]; · iexact E36
  isplitl [H78]; · iexact H78
  isplitl [E154]; · iexact E154
  isplitl [H79]; · iexact H79
  isplitl [E37]; · iexact E37
  isplitl [H80]; · iexact H80
  iintro ⟨E155, E156, E157, E158⟩
  try dsimp only
  iapply (wpD_bind c)
  iapply (part27 m K c _ _ _ _ _ _ _ _)
  isplitr; · iexact Hr
  isplitl [H81]; · iexact H81
  isplitl [E158]; · iexact E158
  isplitl [E38]; · iexact E38
  isplitl [H82]; · iexact H82
  isplitl [H83]; · iexact H83
  iintro ⟨E159, E160, E161, E162, E163⟩
  try dsimp only
  iapply (wpD_bind c)
  iapply (part28 m K c _ _ _ _ _ _)
  isplitr; · iexact Hr
  isplitl [H84]; · iexact H84
  isplitl [E163]; · iexact E163
  isplitl [H85]; · iexact H85
  isplitl [H86]; · iexact H86
  iintro ⟨E164, E165, E166, E167, E168, E169, E170⟩
  try dsimp only
  iapply (wpD_bind c)
  iapply (part29 m K c _ _ _ _ _ _)
  isplitr; · iexact Hr
  isplitl [H87]; · iexact H87
  isplitl [E170]; · iexact E170
  isplitl [H88]; · iexact H88
  isplitl [H89]; · iexact H89
  iintro ⟨E171, E172, E173, E174, E175, E176, E177⟩
  try dsimp only
  iapply (wpD_bind c)
  iapply (part30 m K c _ _ _ _ _ _)
  isplitr; · iexact Hr
  isplitl [H90]; · iexact H90
  isplitl [E177]; · iexact E177
  isplitl [H91]; · iexact H91
  isplitl [H92]; · iexact H92
  isplitl [H93]; · iexact H93
  iintro ⟨E178, E179, E180, E181, E182, E183, E184, E185, E186⟩
  try dsimp only
  iapply (wpD_bind c)
  iapply (part31 m K c _ _ _ _)
  isplitr; · iexact Hr
  isplitl [H94]; · iexact H94
  isplitl [E186]; · iexact E186
  isplitl [H95]; · iexact H95
  isplitl [H96]; · iexact H96
  iintro %w31_0
  iintro %w31_1
  iintro ⟨E187, E188, E189, E190, E191, E192, E193⟩
  try dsimp only
  iapply (wpD_bind c)
  iapply (part32 m K c _ _ _ _ _ _)
  isplitr; · iexact Hr
  isplitl [H97]; · iexact H97
  isplitl [E193]; · iexact E193
  isplitl [H98]; · iexact H98
  isplitl [H99]; · iexact H99
  iintro ⟨E194, E195, E196, E197, E198, E199, E200⟩
  try dsimp only
  iapply (wpD_bind c)
  iapply (part33 m K c  _)
  isplitr; · iexact Hr
  isplitl [E98]; · iexact E98
  isplitl [E200]; · iexact E200
  isplitl [E46]; · iexact E46
  isplitl [E102]; · iexact E102
  isplitl [E104]; · iexact E104
  isplitl [E51]; · iexact E51
  isplitl [E107]; · iexact E107
  iintro ⟨E201, E202, E203, E204, E205, E206, E207, E208, E209, E210, E211, E212, E213⟩
  try dsimp only
  iapply (wpD_bind c)
  iapply (part34 m K c  _)
  isplitr; · iexact Hr
  isplitl [E109]; · iexact E109
  isplitl [E213]; · iexact E213
  isplitl [E53]; · iexact E53
  isplitl [E112]; · iexact E112
  isplitl [E114]; · iexact E114
  isplitl [E58]; · iexact E58
  isplitl [E119]; · iexact E119
  iintro ⟨E214, E215, E216, E217, E218, E219, E220, E221, E222, E223, E224, E225, E226⟩
  try dsimp only
  iapply (wpD_bind c)
  iapply (part35 m K c  _)
  isplitr; · iexact Hr
  isplitl [E120]; · iexact E120
  isplitl [E226]; · iexact E226
  isplitl [E63]; · iexact E63
  isplitl [E125]; · iexact E125
  isplitl [E126]; · iexact E126
  isplitl [E65]; · iexact E65
  isplitl [E131]; · iexact E131
  iintro ⟨E227, E228, E229, E230, E231, E232, E233, E234, E235, E236, E237, E238, E239⟩
  try dsimp only
  iapply (wpD_bind c)
  iapply (part36 m K c  _)
  isplitr; · iexact Hr
  isplitl [E132]; · iexact E132
  isplitl [E239]; · iexact E239
  isplitl [E69]; · iexact E69
  isplitl [E135]; · iexact E135
  isplitl [E136]; · iexact E136
  isplitl [E74]; · iexact E74
  isplitl [E140]; · iexact E140
  iintro ⟨E240, E241, E242, E243, E244, E245, E246, E247, E248, E249, E250, E251, E252⟩
  try dsimp only
  iapply (wpD_bind c)
  iapply (part37 m K c  _)
  isplitr; · iexact Hr
  isplitl [E142]; · iexact E142
  isplitl [E252]; · iexact E252
  isplitl [E144]; · iexact E144
  isplitl [E147]; · iexact E147
  isplitl [E151]; · iexact E151
  isplitl [E155]; · iexact E155
  isplitl [E157]; · iexact E157
  iintro ⟨E253, E254, E255, E256, E257, E258, E259, E260, E261, E262, E263, E264, E265⟩
  try dsimp only
  iapply (step_await m K c 71 rfl rfl 34 (by decide) (P := iprop(outP m c (yRow c 5) 128 fullShare)) (BI.Entails.refl _)) $$ [E160 E265]
  · isplitr; · ipureintro; rfl
    isplitr; · iexact Hr
    isplitl [E160]; · iexact E160
    iexact E265
  iintro ⟨T128, T129, T130⟩
  iapply (step_await m K c 4 rfl rfl 34 (by decide) (P := iprop(outP m c (mRow c 0) 1024 fullShare ∗ shP m c (qRow c 0) 1024 fullShare.right)) (BI.Entails.refl _)) $$ [E75 T130]
  · isplitr; · ipureintro; rfl
    isplitr; · iexact Hr
    isplitl [E75]; · iexact E75
    iexact T130
  iintro ⟨T131, ⟨T132, T133⟩, T134⟩
  iapply (step_await m K c 5 rfl rfl 34 (by decide) (P := iprop(outP m c (mRow c 1) 1024 fullShare ∗ shP m c (qRow c 1) 1024 fullShare.left)) (BI.Entails.refl _)) $$ [E83 T134]
  · isplitr; · ipureintro; rfl
    isplitr; · iexact Hr
    isplitl [E83]; · iexact E83
    iexact T134
  iintro ⟨T135, ⟨T136, T137⟩, T138⟩
  iapply (wpD_ret c)
  try dsimp only
  iapply (step_await m K c 6 rfl rfl 34 (by decide) (P := iprop(outP m c (mRow c 2) 1024 fullShare ∗ shP m c (qRow c 2) 1024 fullShare.left)) (BI.Entails.refl _)) $$ [E91 T138]
  · isplitr; · ipureintro; rfl
    isplitr; · iexact Hr
    isplitl [E91]; · iexact E91
    iexact T138
  iintro ⟨G133, ⟨G134, G135⟩, G136⟩
  iapply (step_await m K c 7 rfl rfl 34 (by decide) (P := iprop(outP m c (mRow c 3) 1024 fullShare ∗ shP m c (qRow c 3) 1024 fullShare.left)) (BI.Entails.refl _)) $$ [E96 G136]
  · isplitr; · ipureintro; rfl
    isplitr; · iexact Hr
    isplitl [E96]; · iexact E96
    iexact G136
  iintro ⟨G137, ⟨G138, G139⟩, G140⟩
  iapply (wpD_ret c)
  iapply Hk
  isplitl [E2]; · iexact E2
  isplitl [E39]; · iexact E39
  isplitl [E40]; · iexact E40
  isplitl [E76]; · iexact E76
  isplitl [E77]; · iexact E77
  isplitl [E84]; · iexact E84
  isplitl [E85]; · iexact E85
  isplitl [E89]; · iexact E89
  isplitl [E90]; · iexact E90
  isplitl [E92]; · iexact E92
  isplitl [E93]; · iexact E93
  isplitl [E95]; · iexact E95
  isplitl [E97]; · iexact E97
  isplitl [E100]; · iexact E100
  isplitl [E105]; · iexact E105
  isplitl [E110]; · iexact E110
  isplitl [E115]; · iexact E115
  isplitl [E121]; · iexact E121
  isplitl [E127]; · iexact E127
  isplitl [E134]; · iexact E134
  isplitl [E138]; · iexact E138
  isplitl [E143]; · iexact E143
  isplitl [E146]; · iexact E146
  isplitl [E148]; · iexact E148
  isplitl [E152]; · iexact E152
  isplitl [E156]; · iexact E156
  isplitl [E159]; · iexact E159
  isplitl [E161]; · iexact E161
  isplitl [E162]; · iexact E162
  isplitl [E164]; · iexact E164
  isplitl [E165]; · iexact E165
  isplitl [E166]; · iexact E166
  isplitl [E167]; · iexact E167
  isplitl [E168]; · iexact E168
  isplitl [E169]; · iexact E169
  isplitl [E171]; · iexact E171
  isplitl [E172]; · iexact E172
  isplitl [E173]; · iexact E173
  isplitl [E174]; · iexact E174
  isplitl [E175]; · iexact E175
  isplitl [E176]; · iexact E176
  isplitl [E178]; · iexact E178
  isplitl [E179]; · iexact E179
  isplitl [E180]; · iexact E180
  isplitl [E181]; · iexact E181
  isplitl [E182]; · iexact E182
  isplitl [E183]; · iexact E183
  isplitl [E184]; · iexact E184
  isplitl [E185]; · iexact E185
  isplitl [E187]; · iexact E187
  isplitl [E188]; · iexact E188
  isplitl [E189]; · iexact E189
  isplitl [E190]; · iexact E190
  isplitl [E191]; · iexact E191
  isplitl [E192]; · iexact E192
  isplitl [E194]; · iexact E194
  isplitl [E195]; · iexact E195
  isplitl [E196]; · iexact E196
  isplitl [E197]; · iexact E197
  isplitl [E198]; · iexact E198
  isplitl [E199]; · iexact E199
  isplitl [E201]; · iexact E201
  isplitl [E202]; · iexact E202
  isplitl [E203]; · iexact E203
  isplitl [E204]; · iexact E204
  isplitl [E205]; · iexact E205
  isplitl [E206]; · iexact E206
  isplitl [E207]; · iexact E207
  isplitl [E208]; · iexact E208
  isplitl [E209]; · iexact E209
  isplitl [E210]; · iexact E210
  isplitl [E211]; · iexact E211
  isplitl [E212]; · iexact E212
  isplitl [E214]; · iexact E214
  isplitl [E215]; · iexact E215
  isplitl [E216]; · iexact E216
  isplitl [E217]; · iexact E217
  isplitl [E218]; · iexact E218
  isplitl [E219]; · iexact E219
  isplitl [E220]; · iexact E220
  isplitl [E221]; · iexact E221
  isplitl [E222]; · iexact E222
  isplitl [E223]; · iexact E223
  isplitl [E224]; · iexact E224
  isplitl [E225]; · iexact E225
  isplitl [E227]; · iexact E227
  isplitl [E228]; · iexact E228
  isplitl [E229]; · iexact E229
  isplitl [E230]; · iexact E230
  isplitl [E231]; · iexact E231
  isplitl [E232]; · iexact E232
  isplitl [E233]; · iexact E233
  isplitl [E234]; · iexact E234
  isplitl [E235]; · iexact E235
  isplitl [E236]; · iexact E236
  isplitl [E237]; · iexact E237
  isplitl [E238]; · iexact E238
  isplitl [E240]; · iexact E240
  isplitl [E241]; · iexact E241
  isplitl [E242]; · iexact E242
  isplitl [E243]; · iexact E243
  isplitl [E244]; · iexact E244
  isplitl [E245]; · iexact E245
  isplitl [E246]; · iexact E246
  isplitl [E247]; · iexact E247
  isplitl [E248]; · iexact E248
  isplitl [E249]; · iexact E249
  isplitl [E250]; · iexact E250
  isplitl [E251]; · iexact E251
  isplitl [E253]; · iexact E253
  isplitl [E254]; · iexact E254
  isplitl [E255]; · iexact E255
  isplitl [E256]; · iexact E256
  isplitl [E257]; · iexact E257
  isplitl [E258]; · iexact E258
  isplitl [E259]; · iexact E259
  isplitl [E260]; · iexact E260
  isplitl [E261]; · iexact E261
  isplitl [E262]; · iexact E262
  isplitl [E263]; · iexact E263
  isplitl [E264]; · iexact E264
  isplitl [T128]; · iexact T128
  isplitl [T129]; · iexact T129
  isplitl [T131]; · iexact T131
  isplitl [T132]; · iexact T132
  isplitl [T133]; · iexact T133
  isplitl [T135]; · iexact T135
  isplitl [T136]; · iexact T136
  isplitl [T137]; · iexact T137
  isplitl [G133]; · iexact G133
  isplitl [G134]; · iexact G134
  isplitl [G135]; · iexact G135
  isplitl [G137]; · iexact G137
  isplitl [G138]; · iexact G138
  isplitl [G139]; · iexact G139
  iexact G140

end Cert.AllGather

end
-- ==== Proof.Split.lean ====
/-
# Cutting the buffers at the start and joining them at the end

A device starts with its argument, its result, its shard buffer and its two staging slots whole, and the body works on
pieces of them. Here each buffer is cut into the pieces the body starts from, and the pieces it ends with are joined. The
cutting is stated once for any assertion that splits along rows (`Φ a n` for the `n` rows from row `a`), and used for the
argument, the result at any contents, the result at its final contents and the shard.
-/
module

public import proofs.«01_k».proof.Proof.Body

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Rearranging -/

instance sep_commutative : Std.Commutative (α := sProp 𝕄) BIBase.sep :=
  ⟨fun A B => by
    have e (A B : sProp 𝕄) : iprop(A ∗ B) ⊢ iprop(B ∗ A) := by
      iintro ⟨H1, H2⟩
      isplitl [H2]; · iexact H2
      iexact H1
    exact (e A B).antisymm (e B A)⟩
instance sep_associative : Std.Associative (α := sProp 𝕄) BIBase.sep :=
  ⟨fun A B C => by
    have e1 : iprop((A ∗ B) ∗ C) ⊢ iprop(A ∗ B ∗ C) := by
      iintro ⟨⟨H1, H2⟩, H3⟩
      isplitl [H1]; · iexact H1
      isplitl [H2]; · iexact H2
      iexact H3
    have e2 : iprop(A ∗ B ∗ C) ⊢ iprop((A ∗ B) ∗ C) := by
      iintro ⟨H1, H2, H3⟩
      isplitl [H1 H2]
      · isplitl [H1]; · iexact H1
        iexact H2
      iexact H3
    exact e1.antisymm e2⟩

/-! ## Cutting rows -/

/-- An assertion on row ranges that splits along the rows. -/
def Splits (Φ : ℕ → ℕ → sProp 𝕄) : Prop := ∀ a n k b, b = a + n → Φ a (n + k) = iprop(Φ a n ∗ Φ b k)

/-- Eight chunks of 128 rows, chunk `r` from row `f r`. -/
def eight (Φ : ℕ → ℕ → sProp 𝕄) (f : ℕ → ℕ) : sProp 𝕄 :=
  iprop(Φ (f 0) 128 ∗ Φ (f 1) 128 ∗ Φ (f 2) 128 ∗ Φ (f 3) 128 ∗ Φ (f 4) 128 ∗ Φ (f 5) 128 ∗ Φ (f 6) 128 ∗ Φ (f 7) 128)

/-- A half as its four quarters, in order. -/
theorem four (Φ : ℕ → ℕ → sProp 𝕄) (h : Splits Φ) (b : ℕ) :
    Φ b 4096 = iprop(Φ b 1024 ∗ Φ (b + 1024) 1024 ∗ Φ (b + 2048) 1024 ∗ Φ (b + 3072) 1024) := by
  have h1 := h b 1024 3072 (b + 1024) rfl
  have h2 := h (b + 1024) 1024 2048 (b + 2048) (by omega)
  have h3 := h (b + 2048) 1024 1024 (b + 3072) (by omega)
  rw [show Φ b 4096 = _ from h1, show Φ (b + 1024) 3072 = _ from h2, show Φ (b + 2048) 2048 = _ from h3]

/-- A half as its four quarters, from device `c`'s own on. -/
theorem quarters (Φ : ℕ → ℕ → sProp 𝕄) (h : Splits Φ) (c : Dev nD) (b : ℕ) :
    Φ b 4096 = iprop(Φ (b + qRow c 0) 1024 ∗ Φ (b + qRow c 1) 1024 ∗ Φ (b + qRow c 2) 1024 ∗ Φ (b + qRow c 3) 1024) := by
  rw [four Φ h b]
  unfold qRow
  have h4 : c.val % 4 < 4 := Nat.mod_lt _ (by decide)
  generalize c.val % 4 = j at h4
  obtain rfl | rfl | rfl | rfl : j = 0 ∨ j = 1 ∨ j = 2 ∨ j = 3 := by omega
  · rfl
  · show iprop(Φ b 1024 ∗ Φ (b + 1024) 1024 ∗ Φ (b + 2048) 1024 ∗ Φ (b + 3072) 1024) = iprop(Φ (b + 1024) 1024 ∗ Φ (b + 2048) 1024 ∗ Φ (b + 3072) 1024 ∗ Φ b 1024)
    ac_rfl
  · show iprop(Φ b 1024 ∗ Φ (b + 1024) 1024 ∗ Φ (b + 2048) 1024 ∗ Φ (b + 3072) 1024) = iprop(Φ (b + 2048) 1024 ∗ Φ (b + 3072) 1024 ∗ Φ b 1024 ∗ Φ (b + 1024) 1024)
    ac_rfl
  · show iprop(Φ b 1024 ∗ Φ (b + 1024) 1024 ∗ Φ (b + 2048) 1024 ∗ Φ (b + 3072) 1024) = iprop(Φ (b + 3072) 1024 ∗ Φ b 1024 ∗ Φ (b + 1024) 1024 ∗ Φ (b + 2048) 1024)
    ac_rfl

/-- The other half of the result as the quarters that arrive along `x`, along `y`, along `z`, and the diagonal one. -/
theorem other_quarters (Φ : ℕ → ℕ → sProp 𝕄) (h : Splits Φ) (c : Dev nD) :
    Φ (oRow c) 4096 = iprop(Φ (xRow c 0) 1024 ∗ Φ (yRow c 0) 1024 ∗ Φ (zRow c 0) 1024 ∗ Φ (dRow c 0) 1024) := by
  rw [four Φ h (oRow c)]
  unfold xRow yRow zRow dRow
  generalize oRow c = b
  have h4 : c.val % 4 < 4 := Nat.mod_lt _ (by decide)
  have h2 : (c.val + 1) % 2 = (c.val % 4 + 1) % 2 := by omega
  rw [h2]
  generalize c.val % 4 = j at h4
  obtain rfl | rfl | rfl | rfl : j = 0 ∨ j = 1 ∨ j = 2 ∨ j = 3 := by omega
  · show iprop(Φ b 1024 ∗ Φ (b + 1024) 1024 ∗ Φ (b + 2048) 1024 ∗ Φ (b + 3072) 1024) = iprop(Φ b 1024 ∗ Φ (b + 2048) 1024 ∗ Φ (b + 1024) 1024 ∗ Φ (b + 3072) 1024)
    ac_rfl
  · show iprop(Φ b 1024 ∗ Φ (b + 1024) 1024 ∗ Φ (b + 2048) 1024 ∗ Φ (b + 3072) 1024) = iprop(Φ (b + 1024) 1024 ∗ Φ (b + 3072) 1024 ∗ Φ b 1024 ∗ Φ (b + 2048) 1024)
    ac_rfl
  · show iprop(Φ b 1024 ∗ Φ (b + 1024) 1024 ∗ Φ (b + 2048) 1024 ∗ Φ (b + 3072) 1024) = iprop(Φ (b + 2048) 1024 ∗ Φ b 1024 ∗ Φ (b + 3072) 1024 ∗ Φ (b + 1024) 1024)
    ac_rfl
  · show iprop(Φ b 1024 ∗ Φ (b + 1024) 1024 ∗ Φ (b + 2048) 1024 ∗ Φ (b + 3072) 1024) = iprop(Φ (b + 3072) 1024 ∗ Φ (b + 1024) 1024 ∗ Φ (b + 2048) 1024 ∗ Φ b 1024)
    ac_rfl

/-- The diagonal quarter as six chunks of 128 rows and one of 256. -/
theorem split_diag (Φ : ℕ → ℕ → sProp 𝕄) (h : Splits Φ) (c : Dev nD) :
    Φ (dRow c 0) 1024 = iprop(Φ (dRow c 0) 128 ∗ Φ (dRow c 1) 128 ∗ Φ (dRow c 2) 128 ∗ Φ (dRow c 3) 128 ∗ Φ (dRow c 4) 128
      ∗ Φ (dRow c 5) 128 ∗ Φ (dRow c 6) 256) := by
  have h1 := h (dRow c 0) 128 896 (dRow c 1) (by rw [dRow_step c 1])
  have h2 := h (dRow c 1) 128 768 (dRow c 2) (by rw [dRow_step c 1, dRow_step c 2])
  have h3 := h (dRow c 2) 128 640 (dRow c 3) (by rw [dRow_step c 2, dRow_step c 3])
  have h4 := h (dRow c 3) 128 512 (dRow c 4) (by rw [dRow_step c 3, dRow_step c 4])
  have h5 := h (dRow c 4) 128 384 (dRow c 5) (by rw [dRow_step c 4, dRow_step c 5])
  have h6 := h (dRow c 5) 128 256 (dRow c 6) (by rw [dRow_step c 5, dRow_step c 6])
  rw [show Φ (dRow c 0) 1024 = _ from h1, show Φ (dRow c 1) 896 = _ from h2, show Φ (dRow c 2) 768 = _ from h3, show Φ (dRow c 3) 640 = _ from h4,
    show Φ (dRow c 4) 512 = _ from h5, show Φ (dRow c 5) 384 = _ from h6]

/-- The whole result as the pieces the body works on. -/
theorem result_pieces (Φ : ℕ → ℕ → sProp 𝕄) (h : Splits Φ) (c : Dev nD) :
    Φ 0 8192 = iprop((Φ (mRow c 0) 1024 ∗ Φ (mRow c 1) 1024 ∗ Φ (mRow c 2) 1024 ∗ Φ (mRow c 3) 1024)
      ∗ eight Φ (xRow c) ∗ eight Φ (yRow c) ∗ eight Φ (zRow c)
      ∗ Φ (dRow c 0) 128 ∗ Φ (dRow c 1) 128 ∗ Φ (dRow c 2) 128 ∗ Φ (dRow c 3) 128 ∗ Φ (dRow c 4) 128 ∗ Φ (dRow c 5) 128 ∗ Φ (dRow c 6) 256) := by
  have hx : Φ (xRow c 0) 1024 = eight Φ (xRow c) := split8 Φ h (xRow c) (xRow_step c)
  have hy : Φ (yRow c 0) 1024 = eight Φ (yRow c) := split8 Φ h (yRow c) (yRow_step c)
  have hz : Φ (zRow c 0) 1024 = eight Φ (zRow c) := split8 Φ h (zRow c) (zRow_step c)
  have ho := other_quarters Φ h c
  rw [hx, hy, hz, split_diag Φ h c] at ho
  have hm : Φ (4096 * (c.val / 4)) 4096 = iprop(Φ (mRow c 0) 1024 ∗ Φ (mRow c 1) 1024 ∗ Φ (mRow c 2) 1024 ∗ Φ (mRow c 3) 1024) := quarters Φ h c _
  have hh : Φ 0 8192 = iprop(Φ (4096 * (c.val / 4)) 4096 ∗ Φ (oRow c) 4096) := by
    have hc : c.val < 8 := c.isLt
    have h2 : Φ 0 8192 = iprop(Φ 0 4096 ∗ Φ 4096 4096) := h 0 4096 4096 4096 rfl
    unfold oRow
    obtain e | e : c.val / 4 = 0 ∨ c.val / 4 = 1 := by omega
    · rw [e]; exact h2
    · rw [e, h2]; exact Std.Commutative.comm (op := BIBase.sep) (Φ 0 4096) (Φ 4096 4096)
  rw [hh, ho, hm]

/-! ## The buffers -/

/-- The whole argument as its four quarters. -/
theorem arg_quarters (c : Dev nD) : (((c : Thread nD τ).loc main_arg0 ↦{fullShare} argC m c) : sProp 𝕄)
    = iprop(argP m c (qRow c 0) 1024 fullShare ∗ argP m c (qRow c 1) 1024 fullShare ∗ argP m c (qRow c 2) 1024 fullShare ∗ argP m c (qRow c 3) 1024 fullShare) := by
  have h := quarters (fun a n => argP m c a n fullShare) (argP_append m c fullShare) c 0
  simp only [Nat.zero_add] at h
  rw [← h]
  unfold argP; rw [rows_all]

/-- The result whole at any contents, as the quarters the device writes itself and what it lets its neighbours write. -/
theorem out_start (c : Dev nD) (f : Buf (Elt F) ((c : Thread nD τ).loc main_v1)) : (((c : Thread nD τ).loc main_v1 ↦{fullShare} f) : sProp 𝕄)
    ⊢ iprop((outE c (mRow c 0) 1024 ∗ outE c (mRow c 1) 1024 ∗ outE c (mRow c 2) 1024 ∗ outE c (mRow c 3) 1024) ∗ gift 0 c ∗ gift 1 c ∗ gift 2 c) := by
  have h := result_pieces (fun a n => outE (F := F) c a n) (outE_append c) c
  have h0 : (((c : Thread nD τ).loc main_v1 ↦{fullShare} f) : sProp 𝕄) ⊢ outE c 0 8192 := by
    unfold outE; rw [rows_all]; iintro H; iexists f; iexact H
  refine h0.trans ((Entails.of_eq h).trans (Entails.of_eq ?_))
  show iprop(_ ∗ outE8 c (xRow c) ∗ outE8 c (yRow c) ∗ outE8 c (zRow c) ∗ _) = iprop(_ ∗ (outE8 c (xRow c) ∗ outE c (dRow c 6) 256)
    ∗ (outE8 c (yRow c) ∗ outE c (dRow c 0) 128 ∗ outE c (dRow c 1) 128 ∗ outE c (dRow c 2) 128)
    ∗ outE8 c (zRow c) ∗ outE c (dRow c 3) 128 ∗ outE c (dRow c 4) 128 ∗ outE c (dRow c 5) 128)
  ac_rfl

/-- The pieces of the result, all at their final contents, joined. -/
theorem out_end (c : Dev nD) :
    iprop((outP m c (mRow c 0) 1024 fullShare ∗ outP m c (mRow c 1) 1024 fullShare ∗ outP m c (mRow c 2) 1024 fullShare ∗ outP m c (mRow c 3) 1024 fullShare)
      ∗ eight (fun a n => outP m c a n fullShare) (xRow c) ∗ eight (fun a n => outP m c a n fullShare) (yRow c) ∗ eight (fun a n => outP m c a n fullShare) (zRow c)
      ∗ outP m c (dRow c 0) 128 fullShare ∗ outP m c (dRow c 1) 128 fullShare ∗ outP m c (dRow c 2) 128 fullShare ∗ outP m c (dRow c 3) 128 fullShare
      ∗ outP m c (dRow c 4) 128 fullShare ∗ outP m c (dRow c 5) 128 fullShare ∗ outP m c (dRow c 6) 256 fullShare)
    ⊢ (((c : Thread nD τ).loc main_v1 ↦{fullShare} outC m c) : sProp 𝕄) := by
  refine (Entails.of_eq (result_pieces (fun a n => outP m c a n fullShare) (outP_append m c fullShare) c).symm).trans ?_
  unfold outP; rw [rows_all]

/-- The shard buffer whole at any contents, as the eight chunks of the device's own quarter and the other three quarters. -/
theorem sh_start (c : Dev nD) (f : Buf (Elt F) ((c : Thread nD τ).loc cc0_scratch0)) : (((c : Thread nD τ).loc cc0_scratch0 ↦{fullShare} f) : sProp 𝕄)
    ⊢ iprop(eight (fun a n => shE c a n) (sRow c) ∗ shE c (qRow c 1) 1024 ∗ shE c (qRow c 2) 1024 ∗ shE c (qRow c 3) 1024) := by
  have h := quarters (fun a n => shE (F := F) c a n) (shE_append c) c 0
  simp only [Nat.zero_add] at h
  have h8 : shE (F := F) c (qRow c 0) 1024 = eight (fun a n => shE c a n) (sRow c) := by
    rw [show qRow c 0 = sRow c 0 by unfold qRow sRow; omega]
    exact split8 (fun a n => shE (F := F) c a n) (shE_append c) (sRow c) (sRow_step c)
  rw [h8] at h
  rw [← h]
  unfold shE; rw [rows_all]; iintro H; iexists f; iexact H

/-- The shares of the shard's rows that came back, joined. -/
theorem sh_end (c : Dev nD) :
    iprop((eight (fun a n => shP m c a n fullShare.left) (sRow c) ∗ shP m c (qRow c 1) 1024 fullShare.left ∗ shP m c (qRow c 2) 1024 fullShare.left ∗ shP m c (qRow c 3) 1024 fullShare.left)
      ∗ shP m c (qRow c 0) 1024 fullShare.right ∗ shP m c (qRow c 2) 1024 fullShare.right ∗ shP m c (sDiag c) 256 fullShare.right ∗ shRest m c fullShare.right)
    ⊢ iprop(∃ f : Buf (Elt F) ((c : Thread nD τ).loc cc0_scratch0), ((c : Thread nD τ).loc cc0_scratch0) ↦{fullShare} f) := by
  have hq (q : PosShare TreeShare) : shP m c 0 4096 q = iprop(shP m c (qRow c 0) 1024 q ∗ shP m c (qRow c 1) 1024 q ∗ shP m c (qRow c 2) 1024 q ∗ shP m c (qRow c 3) 1024 q) := by
    have h := quarters (fun a n => shP m c a n q) (shP_append m c q) c 0
    simp only [Nat.zero_add] at h
    exact h
  have h8 : eight (fun a n => shP m c a n fullShare.left) (sRow c) = shP m c (qRow c 0) 1024 fullShare.left := (shP_chunks m c fullShare.left).symm
  have hw : shP m c 0 4096 fullShare ⊢ iprop(∃ f : Buf (Elt F) ((c : Thread nD τ).loc cc0_scratch0), ((c : Thread nD τ).loc cc0_scratch0) ↦{fullShare} f) := by
    unfold shP; rw [rows_all]; iintro H; iexists _; iexact H
  rw [h8, ← hq]
  iintro ⟨HL, H0, H2, HD⟩
  ihave H13 := (shP_diag m c fullShare.right).2 $$ HD
  icases H13 with ⟨H1, H3⟩
  iapply hw
  iapply (shP_share m c 0 4096).2
  isplitl [HL]; · iexact HL
  rw [hq]
  isplitl [H0]; · iexact H0
  isplitl [H1]; · iexact H1
  isplitl [H2]; · iexact H2
  iexact H3

/-- The staging buffer as its two slots. -/
theorem st_start (c : Dev nD) (f : Buf (Elt F) ((c : Thread nD τ).loc cc0_scratch1)) : (((c : Thread nD τ).loc cc0_scratch1 ↦{fullShare} f) : sProp 𝕄)
    ⊢ iprop(stE c 0 ∗ stE c 1) := by
  unfold stE
  rw [← slots_all]
  iintro H
  ihave H := (pointsTo_union slots_disjoint).1 $$ H
  icases H with ⟨H0, H1⟩
  isplitl [H0]
  · iexists f; iexact H0
  · iexists f; iexact H1
/-- The two slots joined. -/
theorem st_end (c : Dev nD) (a b : ℕ) : iprop(stP m c 0 a ∗ stP m c 1 b)
    ⊢ iprop(∃ f : Buf (Elt F) ((c : Thread nD τ).loc cc0_scratch1), ((c : Thread nD τ).loc cc0_scratch1) ↦{fullShare} f) := by
  unfold stP
  rw [← slots_all]
  iintro ⟨H0, H1⟩
  iexists _
  iapply (pointsTo_join slots_disjoint)
  isplitl [H0]
  · iexact H0
  · iexact H1

end Cert.AllGather

end
-- ==== Proof.Ends.lean ====
/-
# Entering and leaving the body

What the launch hands a device is uniform over its ninety DMA semaphores; here it is sorted into what each transfer and wait
of the body needs, and what the body leaves is gathered again. The twenty semaphores the kernel never uses are closed
without a wait.
-/
module

public import proofs.«01_k».proof.Proof.Split

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device on which the delivery that device `c` makes at semaphore number `i` arrives: a neighbour for a receive semaphore, else itself. -/
def tgt (c : Dev nD) (i : Fin 90) : Dev nD := match dirOf i.val with
  | none => c
  | some d => nb d c
/-- What the neighbours owe a device's DMA semaphore `i` at launch. -/
def owedTo (i : Fin 90) : ℕ := if (dirOf i.val).isSome ∧ used i.val = true then amt i.val else 0

/-- What a device starts with of DMA semaphore number `i`: its place there, the right to make one delivery, and the credit owed to it. -/
def mat (c : Dev nD) (i : Fin 90) : sProp 𝕄 :=
  iprop(atPos ER (cell c i) 0 ∅ 0 ∗ dutyTok ER (cell (tgt c i) i) 0 0 ∗ cred (tallyAt (cell c i) () (owedTo i)))

theorem mat_lkit (c : Dev nD) (i : Fin 90) (h : dirOf i.val = none) : mat (F := F) c i ⊢ lkit c i := by
  unfold mat lkit tgt; rw [h]
  iintro ⟨HA, HT, -⟩
  isplitl [HT]; · iexact HT
  iexact HA
theorem mat_kit (c : Dev nD) (d : Fin 3) (i j : Fin 90) (hi : dirOf i.val = none) (hj : dirOf j.val = some d) (hu : used j.val = true) :
    iprop(mat (F := F) c i ∗ mat c j) ⊢ iprop(kit c d i j ∗ armed c j) := by
  have ht : tgt c j = nb d c := by unfold tgt; rw [hj]
  have ho : owedTo j = amt j.val := by unfold owedTo; rw [hj]; exact if_pos ⟨rfl, hu⟩
  have ht' : tgt c i = c := by unfold tgt; rw [hi]
  unfold mat kit armed; rw [ht, ho, ht']
  iintro ⟨⟨HA, HT, -⟩, HA', HT', HC⟩
  isplitr [HA' HC]
  · isplitl [HT]; · iexact HT
    isplitl [HA]; · iexact HA
    iexact HT'
  isplitl [HA']; · iexact HA'
  iexact HC
/-- A semaphore the kernel never uses is closed at once. -/
theorem mat_idle (K : Names) (c : Dev nD) (i : Fin 90) (h : used i.val = false) : iprop(recs m K ∗ mat c i) ⊢ |={Set.univ}=> closed c i := by
  iintro ⟨#HR, HM⟩
  unfold mat closed
  icases HM with ⟨HA, -, -⟩
  ihave HI := (recs_inv m K c i) $$ HR
  iapply (Rounds.cell_close ER (sched m) (Set.mem_univ (K.1 (c, i))) (fun h => h) (R := 0) (duties_unused m c h))
  isplitl [HI]; · iexact HI
  iexact HA

/-- An assertion over the ninety DMA semaphores, one by one. -/
theorem bigSep_90 (Φ : Fin 90 → sProp 𝕄) : bigSep Finset.univ Φ = iprop(
        Φ 0 ∗ Φ 1 ∗ Φ 2 ∗ Φ 3 ∗ Φ 4 ∗ Φ 5 ∗ Φ 6 ∗ Φ 7 ∗ Φ 8 ∗ Φ 9 ∗ Φ 10 ∗ Φ 11
        ∗ Φ 12 ∗ Φ 13 ∗ Φ 14 ∗ Φ 15 ∗ Φ 16 ∗ Φ 17 ∗ Φ 18 ∗ Φ 19 ∗ Φ 20 ∗ Φ 21 ∗ Φ 22 ∗ Φ 23
        ∗ Φ 24 ∗ Φ 25 ∗ Φ 26 ∗ Φ 27 ∗ Φ 28 ∗ Φ 29 ∗ Φ 30 ∗ Φ 31 ∗ Φ 32 ∗ Φ 33 ∗ Φ 34 ∗ Φ 35
        ∗ Φ 36 ∗ Φ 37 ∗ Φ 38 ∗ Φ 39 ∗ Φ 40 ∗ Φ 41 ∗ Φ 42 ∗ Φ 43 ∗ Φ 44 ∗ Φ 45 ∗ Φ 46 ∗ Φ 47
        ∗ Φ 48 ∗ Φ 49 ∗ Φ 50 ∗ Φ 51 ∗ Φ 52 ∗ Φ 53 ∗ Φ 54 ∗ Φ 55 ∗ Φ 56 ∗ Φ 57 ∗ Φ 58 ∗ Φ 59
        ∗ Φ 60 ∗ Φ 61 ∗ Φ 62 ∗ Φ 63 ∗ Φ 64 ∗ Φ 65 ∗ Φ 66 ∗ Φ 67 ∗ Φ 68 ∗ Φ 69 ∗ Φ 70 ∗ Φ 71
        ∗ Φ 72 ∗ Φ 73 ∗ Φ 74 ∗ Φ 75 ∗ Φ 76 ∗ Φ 77 ∗ Φ 78 ∗ Φ 79 ∗ Φ 80 ∗ Φ 81 ∗ Φ 82 ∗ Φ 83
        ∗ Φ 84 ∗ Φ 85 ∗ Φ 86 ∗ Φ 87 ∗ Φ 88 ∗ Φ 89) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89] (by decide +kernel) (by decide +kernel) Φ

/-- What a device starts with of its DMA semaphores, sorted: the fetches and local copies, the transfers, the unused ones. -/
def mats (c : Dev nD) : sProp 𝕄 := iprop(
        lkit c 0 ∗ lkit c 1 ∗ lkit c 2 ∗ lkit c 3 ∗ lkit c 4 ∗ lkit c 5 ∗ lkit c 6 ∗ lkit c 7
        ∗ kit c 0 8 17 ∗ armed c 17 ∗ kit c 0 9 18 ∗ armed c 18 ∗ kit c 0 10 19 ∗ armed c 19 ∗ kit c 0 11 20 ∗ armed c 20
        ∗ kit c 0 12 21 ∗ armed c 21 ∗ kit c 0 13 22 ∗ armed c 22 ∗ kit c 0 14 23 ∗ armed c 23 ∗ kit c 0 15 24 ∗ armed c 24
        ∗ kit c 0 16 25 ∗ armed c 25 ∗ kit c 1 26 42 ∗ armed c 42 ∗ kit c 2 58 74 ∗ armed c 74 ∗ kit c 1 27 43 ∗ armed c 43
        ∗ kit c 2 59 75 ∗ armed c 75 ∗ kit c 1 28 44 ∗ armed c 44 ∗ kit c 2 60 76 ∗ armed c 76 ∗ kit c 1 29 45 ∗ armed c 45
        ∗ kit c 2 61 77 ∗ armed c 77 ∗ kit c 1 30 46 ∗ armed c 46 ∗ kit c 2 62 78 ∗ armed c 78 ∗ kit c 1 31 47 ∗ armed c 47
        ∗ kit c 2 63 79 ∗ armed c 79 ∗ kit c 1 32 48 ∗ armed c 48 ∗ kit c 2 64 80 ∗ armed c 80 ∗ kit c 1 33 49 ∗ armed c 49
        ∗ kit c 2 65 81 ∗ armed c 81 ∗ kit c 1 34 50 ∗ armed c 50 ∗ kit c 1 35 51 ∗ armed c 51 ∗ kit c 1 36 52 ∗ armed c 52
        ∗ kit c 2 69 85 ∗ armed c 85 ∗ kit c 2 70 86 ∗ armed c 86 ∗ kit c 2 71 87 ∗ armed c 87 ∗ mat c 37 ∗ mat c 38
        ∗ mat c 39 ∗ mat c 40 ∗ mat c 41 ∗ mat c 53 ∗ mat c 54 ∗ mat c 55 ∗ mat c 56 ∗ mat c 57
        ∗ mat c 66 ∗ mat c 67 ∗ mat c 68 ∗ mat c 72 ∗ mat c 73 ∗ mat c 82 ∗ mat c 83 ∗ mat c 84
        ∗ mat c 88 ∗ mat c 89)

theorem mats_intro (c : Dev nD) : bigSep Finset.univ (mat (F := F) c) ⊢ mats c := by
  rw [bigSep_90]
  unfold mats
  iintro ⟨M0, M1, M2, M3, M4, M5, M6, M7, M8, M9, M10, M11, M12, M13, M14, M15, M16, M17, M18, M19, M20, M21, M22, M23, M24, M25, M26, M27, M28, M29, M30, M31, M32, M33, M34, M35, M36, M37, M38, M39, M40, M41, M42, M43, M44, M45, M46, M47, M48, M49, M50, M51, M52, M53, M54, M55, M56, M57, M58, M59, M60, M61, M62, M63, M64, M65, M66, M67, M68, M69, M70, M71, M72, M73, M74, M75, M76, M77, M78, M79, M80, M81, M82, M83, M84, M85, M86, M87, M88, M89⟩
  ihave M0 := (mat_lkit (F := F) c 0 rfl) $$ M0
  isplitl [M0]; · iexact M0
  ihave M1 := (mat_lkit (F := F) c 1 rfl) $$ M1
  isplitl [M1]; · iexact M1
  ihave M2 := (mat_lkit (F := F) c 2 rfl) $$ M2
  isplitl [M2]; · iexact M2
  ihave M3 := (mat_lkit (F := F) c 3 rfl) $$ M3
  isplitl [M3]; · iexact M3
  ihave M4 := (mat_lkit (F := F) c 4 rfl) $$ M4
  isplitl [M4]; · iexact M4
  ihave M5 := (mat_lkit (F := F) c 5 rfl) $$ M5
  isplitl [M5]; · iexact M5
  ihave M6 := (mat_lkit (F := F) c 6 rfl) $$ M6
  isplitl [M6]; · iexact M6
  ihave M7 := (mat_lkit (F := F) c 7 rfl) $$ M7
  isplitl [M7]; · iexact M7
  ihave H := (mat_kit (F := F) c 0 8 17 rfl rfl rfl) $$ [M8 M17]
  · isplitl [M8]; · iexact M8
    iexact M17
  icases H with ⟨H1, H2⟩
  isplitl [H1]; · iexact H1
  isplitl [H2]; · iexact H2
  ihave H := (mat_kit (F := F) c 0 9 18 rfl rfl rfl) $$ [M9 M18]
  · isplitl [M9]; · iexact M9
    iexact M18
  icases H with ⟨H1, H2⟩
  isplitl [H1]; · iexact H1
  isplitl [H2]; · iexact H2
  ihave H := (mat_kit (F := F) c 0 10 19 rfl rfl rfl) $$ [M10 M19]
  · isplitl [M10]; · iexact M10
    iexact M19
  icases H with ⟨H1, H2⟩
  isplitl [H1]; · iexact H1
  isplitl [H2]; · iexact H2
  ihave H := (mat_kit (F := F) c 0 11 20 rfl rfl rfl) $$ [M11 M20]
  · isplitl [M11]; · iexact M11
    iexact M20
  icases H with ⟨H1, H2⟩
  isplitl [H1]; · iexact H1
  isplitl [H2]; · iexact H2
  ihave H := (mat_kit (F := F) c 0 12 21 rfl rfl rfl) $$ [M12 M21]
  · isplitl [M12]; · iexact M12
    iexact M21
  icases H with ⟨H1, H2⟩
  isplitl [H1]; · iexact H1
  isplitl [H2]; · iexact H2
  ihave H := (mat_kit (F := F) c 0 13 22 rfl rfl rfl) $$ [M13 M22]
  · isplitl [M13]; · iexact M13
    iexact M22
  icases H with ⟨H1, H2⟩
  isplitl [H1]; · iexact H1
  isplitl [H2]; · iexact H2
  ihave H := (mat_kit (F := F) c 0 14 23 rfl rfl rfl) $$ [M14 M23]
  · isplitl [M14]; · iexact M14
    iexact M23
  icases H with ⟨H1, H2⟩
  isplitl [H1]; · iexact H1
  isplitl [H2]; · iexact H2
  ihave H := (mat_kit (F := F) c 0 15 24 rfl rfl rfl) $$ [M15 M24]
  · isplitl [M15]; · iexact M15
    iexact M24
  icases H with ⟨H1, H2⟩
  isplitl [H1]; · iexact H1
  isplitl [H2]; · iexact H2
  ihave H := (mat_kit (F := F) c 0 16 25 rfl rfl rfl) $$ [M16 M25]
  · isplitl [M16]; · iexact M16
    iexact M25
  icases H with ⟨H1, H2⟩
  isplitl [H1]; · iexact H1
  isplitl [H2]; · iexact H2
  ihave H := (mat_kit (F := F) c 1 26 42 rfl rfl rfl) $$ [M26 M42]
  · isplitl [M26]; · iexact M26
    iexact M42
  icases H with ⟨H1, H2⟩
  isplitl [H1]; · iexact H1
  isplitl [H2]; · iexact H2
  ihave H := (mat_kit (F := F) c 2 58 74 rfl rfl rfl) $$ [M58 M74]
  · isplitl [M58]; · iexact M58
    iexact M74
  icases H with ⟨H1, H2⟩
  isplitl [H1]; · iexact H1
  isplitl [H2]; · iexact H2
  ihave H := (mat_kit (F := F) c 1 27 43 rfl rfl rfl) $$ [M27 M43]
  · isplitl [M27]; · iexact M27
    iexact M43
  icases H with ⟨H1, H2⟩
  isplitl [H1]; · iexact H1
  isplitl [H2]; · iexact H2
  ihave H := (mat_kit (F := F) c 2 59 75 rfl rfl rfl) $$ [M59 M75]
  · isplitl [M59]; · iexact M59
    iexact M75
  icases H with ⟨H1, H2⟩
  isplitl [H1]; · iexact H1
  isplitl [H2]; · iexact H2
  ihave H := (mat_kit (F := F) c 1 28 44 rfl rfl rfl) $$ [M28 M44]
  · isplitl [M28]; · iexact M28
    iexact M44
  icases H with ⟨H1, H2⟩
  isplitl [H1]; · iexact H1
  isplitl [H2]; · iexact H2
  ihave H := (mat_kit (F := F) c 2 60 76 rfl rfl rfl) $$ [M60 M76]
  · isplitl [M60]; · iexact M60
    iexact M76
  icases H with ⟨H1, H2⟩
  isplitl [H1]; · iexact H1
  isplitl [H2]; · iexact H2
  ihave H := (mat_kit (F := F) c 1 29 45 rfl rfl rfl) $$ [M29 M45]
  · isplitl [M29]; · iexact M29
    iexact M45
  icases H with ⟨H1, H2⟩
  isplitl [H1]; · iexact H1
  isplitl [H2]; · iexact H2
  ihave H := (mat_kit (F := F) c 2 61 77 rfl rfl rfl) $$ [M61 M77]
  · isplitl [M61]; · iexact M61
    iexact M77
  icases H with ⟨H1, H2⟩
  isplitl [H1]; · iexact H1
  isplitl [H2]; · iexact H2
  ihave H := (mat_kit (F := F) c 1 30 46 rfl rfl rfl) $$ [M30 M46]
  · isplitl [M30]; · iexact M30
    iexact M46
  icases H with ⟨H1, H2⟩
  isplitl [H1]; · iexact H1
  isplitl [H2]; · iexact H2
  ihave H := (mat_kit (F := F) c 2 62 78 rfl rfl rfl) $$ [M62 M78]
  · isplitl [M62]; · iexact M62
    iexact M78
  icases H with ⟨H1, H2⟩
  isplitl [H1]; · iexact H1
  isplitl [H2]; · iexact H2
  ihave H := (mat_kit (F := F) c 1 31 47 rfl rfl rfl) $$ [M31 M47]
  · isplitl [M31]; · iexact M31
    iexact M47
  icases H with ⟨H1, H2⟩
  isplitl [H1]; · iexact H1
  isplitl [H2]; · iexact H2
  ihave H := (mat_kit (F := F) c 2 63 79 rfl rfl rfl) $$ [M63 M79]
  · isplitl [M63]; · iexact M63
    iexact M79
  icases H with ⟨H1, H2⟩
  isplitl [H1]; · iexact H1
  isplitl [H2]; · iexact H2
  ihave H := (mat_kit (F := F) c 1 32 48 rfl rfl rfl) $$ [M32 M48]
  · isplitl [M32]; · iexact M32
    iexact M48
  icases H with ⟨H1, H2⟩
  isplitl [H1]; · iexact H1
  isplitl [H2]; · iexact H2
  ihave H := (mat_kit (F := F) c 2 64 80 rfl rfl rfl) $$ [M64 M80]
  · isplitl [M64]; · iexact M64
    iexact M80
  icases H with ⟨H1, H2⟩
  isplitl [H1]; · iexact H1
  isplitl [H2]; · iexact H2
  ihave H := (mat_kit (F := F) c 1 33 49 rfl rfl rfl) $$ [M33 M49]
  · isplitl [M33]; · iexact M33
    iexact M49
  icases H with ⟨H1, H2⟩
  isplitl [H1]; · iexact H1
  isplitl [H2]; · iexact H2
  ihave H := (mat_kit (F := F) c 2 65 81 rfl rfl rfl) $$ [M65 M81]
  · isplitl [M65]; · iexact M65
    iexact M81
  icases H with ⟨H1, H2⟩
  isplitl [H1]; · iexact H1
  isplitl [H2]; · iexact H2
  ihave H := (mat_kit (F := F) c 1 34 50 rfl rfl rfl) $$ [M34 M50]
  · isplitl [M34]; · iexact M34
    iexact M50
  icases H with ⟨H1, H2⟩
  isplitl [H1]; · iexact H1
  isplitl [H2]; · iexact H2
  ihave H := (mat_kit (F := F) c 1 35 51 rfl rfl rfl) $$ [M35 M51]
  · isplitl [M35]; · iexact M35
    iexact M51
  icases H with ⟨H1, H2⟩
  isplitl [H1]; · iexact H1
  isplitl [H2]; · iexact H2
  ihave H := (mat_kit (F := F) c 1 36 52 rfl rfl rfl) $$ [M36 M52]
  · isplitl [M36]; · iexact M36
    iexact M52
  icases H with ⟨H1, H2⟩
  isplitl [H1]; · iexact H1
  isplitl [H2]; · iexact H2
  ihave H := (mat_kit (F := F) c 2 69 85 rfl rfl rfl) $$ [M69 M85]
  · isplitl [M69]; · iexact M69
    iexact M85
  icases H with ⟨H1, H2⟩
  isplitl [H1]; · iexact H1
  isplitl [H2]; · iexact H2
  ihave H := (mat_kit (F := F) c 2 70 86 rfl rfl rfl) $$ [M70 M86]
  · isplitl [M70]; · iexact M70
    iexact M86
  icases H with ⟨H1, H2⟩
  isplitl [H1]; · iexact H1
  isplitl [H2]; · iexact H2
  ihave H := (mat_kit (F := F) c 2 71 87 rfl rfl rfl) $$ [M71 M87]
  · isplitl [M71]; · iexact M71
    iexact M87
  icases H with ⟨H1, H2⟩
  isplitl [H1]; · iexact H1
  isplitl [H2]; · iexact H2
  isplitl [M37]; · iexact M37
  isplitl [M38]; · iexact M38
  isplitl [M39]; · iexact M39
  isplitl [M40]; · iexact M40
  isplitl [M41]; · iexact M41
  isplitl [M53]; · iexact M53
  isplitl [M54]; · iexact M54
  isplitl [M55]; · iexact M55
  isplitl [M56]; · iexact M56
  isplitl [M57]; · iexact M57
  isplitl [M66]; · iexact M66
  isplitl [M67]; · iexact M67
  isplitl [M68]; · iexact M68
  isplitl [M72]; · iexact M72
  isplitl [M73]; · iexact M73
  isplitl [M82]; · iexact M82
  isplitl [M83]; · iexact M83
  isplitl [M84]; · iexact M84
  isplitl [M88]; · iexact M88
  iexact M89

/-- The unused semaphores of device `c`, closed. -/
def idles (c : Dev nD) : sProp 𝕄 := iprop(
        closed c 37 ∗ closed c 38 ∗ closed c 39 ∗ closed c 40 ∗ closed c 41 ∗ closed c 53 ∗ closed c 54 ∗ closed c 55
        ∗ closed c 56 ∗ closed c 57 ∗ closed c 66 ∗ closed c 67 ∗ closed c 68 ∗ closed c 72 ∗ closed c 73 ∗ closed c 82
        ∗ closed c 83 ∗ closed c 84 ∗ closed c 88 ∗ closed c 89)

theorem idles_intro (K : Names) (c : Dev nD) : iprop(recs m K ∗ mat c 37 ∗ mat c 38 ∗ mat c 39 ∗ mat c 40 ∗ mat c 41 ∗ mat c 53 ∗ mat c 54 ∗ mat c 55 ∗ mat c 56 ∗ mat c 57
        ∗ mat c 66 ∗ mat c 67 ∗ mat c 68 ∗ mat c 72 ∗ mat c 73 ∗ mat c 82 ∗ mat c 83 ∗ mat c 84 ∗ mat c 88 ∗ mat c 89) ⊢ |={Set.univ}=> idles c := by
  unfold idles
  iintro ⟨#HR, M37, M38, M39, M40, M41, M53, M54, M55, M56, M57, M66, M67, M68, M72, M73, M82, M83, M84, M88, M89⟩
  imod (mat_idle m K c 37 rfl) $$ [M37] with M37
  · isplitr; · iexact HR
    iexact M37
  imod (mat_idle m K c 38 rfl) $$ [M38] with M38
  · isplitr; · iexact HR
    iexact M38
  imod (mat_idle m K c 39 rfl) $$ [M39] with M39
  · isplitr; · iexact HR
    iexact M39
  imod (mat_idle m K c 40 rfl) $$ [M40] with M40
  · isplitr; · iexact HR
    iexact M40
  imod (mat_idle m K c 41 rfl) $$ [M41] with M41
  · isplitr; · iexact HR
    iexact M41
  imod (mat_idle m K c 53 rfl) $$ [M53] with M53
  · isplitr; · iexact HR
    iexact M53
  imod (mat_idle m K c 54 rfl) $$ [M54] with M54
  · isplitr; · iexact HR
    iexact M54
  imod (mat_idle m K c 55 rfl) $$ [M55] with M55
  · isplitr; · iexact HR
    iexact M55
  imod (mat_idle m K c 56 rfl) $$ [M56] with M56
  · isplitr; · iexact HR
    iexact M56
  imod (mat_idle m K c 57 rfl) $$ [M57] with M57
  · isplitr; · iexact HR
    iexact M57
  imod (mat_idle m K c 66 rfl) $$ [M66] with M66
  · isplitr; · iexact HR
    iexact M66
  imod (mat_idle m K c 67 rfl) $$ [M67] with M67
  · isplitr; · iexact HR
    iexact M67
  imod (mat_idle m K c 68 rfl) $$ [M68] with M68
  · isplitr; · iexact HR
    iexact M68
  imod (mat_idle m K c 72 rfl) $$ [M72] with M72
  · isplitr; · iexact HR
    iexact M72
  imod (mat_idle m K c 73 rfl) $$ [M73] with M73
  · isplitr; · iexact HR
    iexact M73
  imod (mat_idle m K c 82 rfl) $$ [M82] with M82
  · isplitr; · iexact HR
    iexact M82
  imod (mat_idle m K c 83 rfl) $$ [M83] with M83
  · isplitr; · iexact HR
    iexact M83
  imod (mat_idle m K c 84 rfl) $$ [M84] with M84
  · isplitr; · iexact HR
    iexact M84
  imod (mat_idle m K c 88 rfl) $$ [M88] with M88
  · isplitr; · iexact HR
    iexact M88
  imod (mat_idle m K c 89 rfl) $$ [M89] with M89
  · isplitr; · iexact HR
    iexact M89
  imodintro
  isplitl [M37]; · iexact M37
  isplitl [M38]; · iexact M38
  isplitl [M39]; · iexact M39
  isplitl [M40]; · iexact M40
  isplitl [M41]; · iexact M41
  isplitl [M53]; · iexact M53
  isplitl [M54]; · iexact M54
  isplitl [M55]; · iexact M55
  isplitl [M56]; · iexact M56
  isplitl [M57]; · iexact M57
  isplitl [M66]; · iexact M66
  isplitl [M67]; · iexact M67
  isplitl [M68]; · iexact M68
  isplitl [M72]; · iexact M72
  isplitl [M73]; · iexact M73
  isplitl [M82]; · iexact M82
  isplitl [M83]; · iexact M83
  isplitl [M84]; · iexact M84
  isplitl [M88]; · iexact M88
  iexact M89

/-- What a device holds when it enters the body, but for what it owes. -/
def startP (c : Dev nD) : sProp 𝕄 :=
  iprop(bigSep Finset.univ (mat c) ∗ atPos ER (bcell c) 0 ∅ 0
    ∗ (dutyTok ER (bcell (nb 0 c)) 0 0 ∗ dutyTok ER (bcell (nb 1 c)) 0 1 ∗ dutyTok ER (bcell (nb 2 c)) 0 2)
    ∗ cred (tallyAt (bcell c) () 3)
    ∗ ((c : Thread nD τ).loc main_arg0 ↦{fullShare} argC m c)
    ∗ (∃ f : Buf (Elt F) ((c : Thread nD τ).loc main_v1), (c : Thread nD τ).loc main_v1 ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device holds when it leaves the body: its argument as at launch, its result as it is to be, its scratch buffers
    at some contents, and every semaphore counter at zero. -/
def doneP (c : Dev nD) : sProp 𝕄 :=
  iprop(((c : Thread nD τ).loc main_arg0 ↦{fullShare} argC m c)
    ∗ ((c : Thread nD τ).loc main_v1 ↦{fullShare} outC m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ (fun i : Fin 90 => closed c i)
    ∗ semVal (bcell c) 0)

/-- Entering the body. -/
theorem enter (K : Names) (c : Dev nD) : iprop(recs m K ∗ startP m c ∗ owing c 0) ⊢ |={Set.univ}=> iprop(idles c ∗ bodyIn m c) := by
  unfold startP
  iintro ⟨#HR, ⟨HM, HBA, ⟨HT0, HT1, HT2⟩, HBC, Harg, ⟨%f0, Hout⟩, ⟨%f1, Hsh⟩, ⟨%f2, Hst⟩⟩, Hw⟩
  ihave HM := (mats_intro c) $$ HM
  unfold mats
  icases HM with ⟨S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, S80, S81, S82, S83, S84, S85, S86, S87, S88, S89, S90⟩
  imod (idles_intro m K c) $$ [S71 S72 S73 S74 S75 S76 S77 S78 S79 S80 S81 S82 S83 S84 S85 S86 S87 S88 S89 S90] with HI
  · isplitr; · iexact HR
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    isplitl [S79]; · iexact S79
    isplitl [S80]; · iexact S80
    isplitl [S81]; · iexact S81
    isplitl [S82]; · iexact S82
    isplitl [S83]; · iexact S83
    isplitl [S84]; · iexact S84
    isplitl [S85]; · iexact S85
    isplitl [S86]; · iexact S86
    isplitl [S87]; · iexact S87
    isplitl [S88]; · iexact S88
    isplitl [S89]; · iexact S89
    iexact S90
  ihave Harg := (Entails.of_eq (arg_quarters m c)) $$ Harg
  icases Harg with ⟨A0, A1, A2, A3⟩
  ihave Hout := (out_start c f0) $$ Hout
  icases Hout with ⟨⟨O0, O1, O2, O3⟩, G0, G1, G2⟩
  ihave Hsh := (sh_start c f1) $$ Hsh
  unfold eight
  icases Hsh with ⟨⟨B0, B1, B2, B3, B4, B5, B6, B7⟩, Q1, Q2, Q3⟩
  ihave Hst := (st_start c f2) $$ Hst
  icases Hst with ⟨T0, T1⟩
  imodintro
  isplitl [HI]; · iexact HI
  unfold bodyIn
  isplitl [HT0]; · iexact HT0
  isplitl [G0]; · iexact G0
  isplitl [Hw]; · iexact Hw
  isplitl [HT1]; · iexact HT1
  isplitl [G1]; · iexact G1
  isplitl [HT2]; · iexact HT2
  isplitl [G2]; · iexact G2
  isplitl [HBA]; · iexact HBA
  isplitl [HBC]; · iexact HBC
  isplitl [A0]; · iexact A0
  isplitl [T0]; · iexact T0
  isplitl [S1]; · iexact S1
  isplitl [A1]; · iexact A1
  isplitl [T1]; · iexact T1
  isplitl [S2]; · iexact S2
  isplitl [B0]; · iexact B0
  isplitl [S9]; · iexact S9
  isplitl [B1]; · iexact B1
  isplitl [S11]; · iexact S11
  isplitl [B2]; · iexact B2
  isplitl [S13]; · iexact S13
  isplitl [B3]; · iexact B3
  isplitl [S15]; · iexact S15
  isplitl [B4]; · iexact B4
  isplitl [S17]; · iexact S17
  isplitl [B5]; · iexact B5
  isplitl [S19]; · iexact S19
  isplitl [B6]; · iexact B6
  isplitl [S21]; · iexact S21
  isplitl [B7]; · iexact B7
  isplitl [S23]; · iexact S23
  isplitl [O0]; · iexact O0
  isplitl [S5]; · iexact S5
  isplitl [A2]; · iexact A2
  isplitl [S3]; · iexact S3
  isplitl [Q1]; · iexact Q1
  isplitl [O1]; · iexact O1
  isplitl [S6]; · iexact S6
  isplitl [A3]; · iexact A3
  isplitl [S4]; · iexact S4
  isplitl [Q2]; · iexact Q2
  isplitl [O2]; · iexact O2
  isplitl [S7]; · iexact S7
  isplitl [Q3]; · iexact Q3
  isplitl [O3]; · iexact O3
  isplitl [S8]; · iexact S8
  isplitl [S25]; · iexact S25
  isplitl [S10]; · iexact S10
  isplitl [S27]; · iexact S27
  isplitl [S29]; · iexact S29
  isplitl [S12]; · iexact S12
  isplitl [S31]; · iexact S31
  isplitl [S33]; · iexact S33
  isplitl [S14]; · iexact S14
  isplitl [S35]; · iexact S35
  isplitl [S37]; · iexact S37
  isplitl [S16]; · iexact S16
  isplitl [S39]; · iexact S39
  isplitl [S41]; · iexact S41
  isplitl [S18]; · iexact S18
  isplitl [S43]; · iexact S43
  isplitl [S45]; · iexact S45
  isplitl [S20]; · iexact S20
  isplitl [S47]; · iexact S47
  isplitl [S49]; · iexact S49
  isplitl [S22]; · iexact S22
  isplitl [S51]; · iexact S51
  isplitl [S53]; · iexact S53
  isplitl [S24]; · iexact S24
  isplitl [S55]; · iexact S55
  isplitl [S57]; · iexact S57
  isplitl [S30]; · iexact S30
  isplitl [S59]; · iexact S59
  isplitl [S34]; · iexact S34
  isplitl [S61]; · iexact S61
  isplitl [S38]; · iexact S38
  isplitl [S63]; · iexact S63
  isplitl [S40]; · iexact S40
  isplitl [S65]; · iexact S65
  isplitl [S44]; · iexact S44
  isplitl [S67]; · iexact S67
  isplitl [S48]; · iexact S48
  isplitl [S69]; · iexact S69
  isplitl [S26]; · iexact S26
  isplitl [S28]; · iexact S28
  isplitl [S32]; · iexact S32
  isplitl [S36]; · iexact S36
  isplitl [S42]; · iexact S42
  isplitl [S46]; · iexact S46
  isplitl [S50]; · iexact S50
  isplitl [S52]; · iexact S52
  isplitl [S54]; · iexact S54
  isplitl [S56]; · iexact S56
  isplitl [S58]; · iexact S58
  isplitl [S60]; · iexact S60
  isplitl [S62]; · iexact S62
  isplitl [S64]; · iexact S64
  isplitl [S66]; · iexact S66
  isplitl [S68]; · iexact S68
  iexact S70

/-- Leaving the body. -/
theorem leave (c : Dev nD) : iprop(idles c ∗ bodyOut m c) ⊢ iprop(doneP m c ∗ owing c 34) := by
  unfold idles bodyOut doneP
  iintro ⟨⟨C37, C38, C39, C40, C41, C53, C54, C55, C56, C57, C66, C67, C68, C72, C73, C82, C83, C84, C88, C89⟩, HB, C0, P1, C1, P2, C2, P3, P4, P5, C3, P6, P7, P8, C17, C18, C19, C20, C21, C22, C23, C24, C74, C75, C76, C45, C46, C47, C25, P9, C42, P10, C43, P11, C44, P12, C77, P13, C78, P14, C79, P15, C48, P16, C80, P17, C49, P18, C81, P19, C50, P20, C51, P21, C52, P22, C85, P23, C86, P24, C87, P25, C16, P26, C8, P27, C26, P28, C58, P29, C9, P30, C27, P31, C59, P32, C10, P33, C28, P34, C60, P35, C11, P36, C29, P37, C61, P38, C12, P39, C30, P40, C62, P41, C13, P42, C31, P43, C63, P44, C14, P45, C32, P46, C64, P47, C15, P48, C33, P49, C65, P50, C34, P51, C35, P52, C36, P53, C69, P54, C70, P55, C71, P56, C4, P57, P58, C5, P59, P60, C6, P61, P62, C7, P63, P64, Hw⟩
  ihave X0 := (outP_share m c (xRow c 0) 128).2 $$ [P28 P29]
  · isplitl [P28]; · iexact P28
    iexact P29
  ihave X1 := (outP_share m c (xRow c 1) 128).2 $$ [P31 P32]
  · isplitl [P31]; · iexact P31
    iexact P32
  ihave X2 := (outP_share m c (xRow c 2) 128).2 $$ [P34 P35]
  · isplitl [P34]; · iexact P34
    iexact P35
  ihave X3 := (outP_share m c (xRow c 3) 128).2 $$ [P37 P38]
  · isplitl [P37]; · iexact P37
    iexact P38
  ihave X4 := (outP_share m c (xRow c 4) 128).2 $$ [P40 P41]
  · isplitl [P40]; · iexact P40
    iexact P41
  ihave X5 := (outP_share m c (xRow c 5) 128).2 $$ [P43 P44]
  · isplitl [P43]; · iexact P43
    iexact P44
  ihave X6 := (outP_share m c (xRow c 6) 128).2 $$ [P46 P47]
  · isplitl [P46]; · iexact P46
    iexact P47
  ihave X7 := (outP_share m c (xRow c 7) 128).2 $$ [P49 P50]
  · isplitl [P49]; · iexact P49
    iexact P50
  ihave Hout := (out_end m c) $$ [P57 P59 P61 P63 X0 X1 X2 X3 X4 X5 X6 X7 P10 P11 P12 P54 P55 P56 P16 P18 P51 P52 P53 P13 P14 P15 P17 P19 P20 P21 P22 P23 P24 P25 P9]
  · unfold eight
    isplitl [P57 P59 P61 P63]
    · isplitl [P57]; · iexact P57
      isplitl [P59]; · iexact P59
      isplitl [P61]; · iexact P61
      iexact P63
    isplitl [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    isplitl [P10 P11 P12 P54 P55 P56 P16 P18]
    · isplitl [P10]; · iexact P10
      isplitl [P11]; · iexact P11
      isplitl [P12]; · iexact P12
      isplitl [P54]; · iexact P54
      isplitl [P55]; · iexact P55
      isplitl [P56]; · iexact P56
      isplitl [P16]; · iexact P16
      iexact P18
    isplitl [P51 P52 P53 P13 P14 P15 P17 P19]
    · isplitl [P51]; · iexact P51
      isplitl [P52]; · iexact P52
      isplitl [P53]; · iexact P53
      isplitl [P13]; · iexact P13
      isplitl [P14]; · iexact P14
      isplitl [P15]; · iexact P15
      isplitl [P17]; · iexact P17
      iexact P19
    isplitl [P20]; · iexact P20
    isplitl [P21]; · iexact P21
    isplitl [P22]; · iexact P22
    isplitl [P23]; · iexact P23
    isplitl [P24]; · iexact P24
    isplitl [P25]; · iexact P25
    iexact P9
  ihave Harg := (Entails.of_eq (arg_quarters m c).symm) $$ [P1 P2 P3 P6]
  · isplitl [P1]; · iexact P1
    isplitl [P2]; · iexact P2
    isplitl [P3]; · iexact P3
    iexact P6
  ihave Hsh := (sh_end m c) $$ [P27 P30 P33 P36 P39 P42 P45 P48 P60 P62 P64 P58 P5 P26 P8]
  · unfold eight
    isplitl [P27 P30 P33 P36 P39 P42 P45 P48 P60 P62 P64]
    · isplitl [P27 P30 P33 P36 P39 P42 P45 P48]
      · isplitl [P27]; · iexact P27
        isplitl [P30]; · iexact P30
        isplitl [P33]; · iexact P33
        isplitl [P36]; · iexact P36
        isplitl [P39]; · iexact P39
        isplitl [P42]; · iexact P42
        isplitl [P45]; · iexact P45
        iexact P48
      isplitl [P60]; · iexact P60
      isplitl [P62]; · iexact P62
      iexact P64
    isplitl [P58]; · iexact P58
    isplitl [P5]; · iexact P5
    isplitl [P26]; · iexact P26
    iexact P8
  ihave Hst := (st_end m c (qRow c 2) (qRow c 3)) $$ [P4 P7]
  · isplitl [P4]; · iexact P4
    iexact P7
  isplitr [Hw]
  · isplitl [Harg]; · iexact Harg
    isplitl [Hout]; · iexact Hout
    isplitl [Hsh]; · iexact Hsh
    isplitl [Hst]; · iexact Hst
    isplitr [HB]
    · rw [bigSep_90]
      isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      isplitl [C12]; · iexact C12
      isplitl [C13]; · iexact C13
      isplitl [C14]; · iexact C14
      isplitl [C15]; · iexact C15
      isplitl [C16]; · iexact C16
      isplitl [C17]; · iexact C17
      isplitl [C18]; · iexact C18
      isplitl [C19]; · iexact C19
      isplitl [C20]; · iexact C20
      isplitl [C21]; · iexact C21
      isplitl [C22]; · iexact C22
      isplitl [C23]; · iexact C23
      isplitl [C24]; · iexact C24
      isplitl [C25]; · iexact C25
      isplitl [C26]; · iexact C26
      isplitl [C27]; · iexact C27
      isplitl [C28]; · iexact C28
      isplitl [C29]; · iexact C29
      isplitl [C30]; · iexact C30
      isplitl [C31]; · iexact C31
      isplitl [C32]; · iexact C32
      isplitl [C33]; · iexact C33
      isplitl [C34]; · iexact C34
      isplitl [C35]; · iexact C35
      isplitl [C36]; · iexact C36
      isplitl [C37]; · iexact C37
      isplitl [C38]; · iexact C38
      isplitl [C39]; · iexact C39
      isplitl [C40]; · iexact C40
      isplitl [C41]; · iexact C41
      isplitl [C42]; · iexact C42
      isplitl [C43]; · iexact C43
      isplitl [C44]; · iexact C44
      isplitl [C45]; · iexact C45
      isplitl [C46]; · iexact C46
      isplitl [C47]; · iexact C47
      isplitl [C48]; · iexact C48
      isplitl [C49]; · iexact C49
      isplitl [C50]; · iexact C50
      isplitl [C51]; · iexact C51
      isplitl [C52]; · iexact C52
      isplitl [C53]; · iexact C53
      isplitl [C54]; · iexact C54
      isplitl [C55]; · iexact C55
      isplitl [C56]; · iexact C56
      isplitl [C57]; · iexact C57
      isplitl [C58]; · iexact C58
      isplitl [C59]; · iexact C59
      isplitl [C60]; · iexact C60
      isplitl [C61]; · iexact C61
      isplitl [C62]; · iexact C62
      isplitl [C63]; · iexact C63
      isplitl [C64]; · iexact C64
      isplitl [C65]; · iexact C65
      isplitl [C66]; · iexact C66
      isplitl [C67]; · iexact C67
      isplitl [C68]; · iexact C68
      isplitl [C69]; · iexact C69
      isplitl [C70]; · iexact C70
      isplitl [C71]; · iexact C71
      isplitl [C72]; · iexact C72
      isplitl [C73]; · iexact C73
      isplitl [C74]; · iexact C74
      isplitl [C75]; · iexact C75
      isplitl [C76]; · iexact C76
      isplitl [C77]; · iexact C77
      isplitl [C78]; · iexact C78
      isplitl [C79]; · iexact C79
      isplitl [C80]; · iexact C80
      isplitl [C81]; · iexact C81
      isplitl [C82]; · iexact C82
      isplitl [C83]; · iexact C83
      isplitl [C84]; · iexact C84
      isplitl [C85]; · iexact C85
      isplitl [C86]; · iexact C86
      isplitl [C87]; · iexact C87
      isplitl [C88]; · iexact C88
      iexact C89
    iexact HB
  iexact Hw

end Cert.AllGather

end
-- ==== Proof.Launch.lean ====
/-
# The run of the kernel on the whole mesh

The body of `Body` is run on every device at once. This file sets up what the devices share: the invariants of all
semaphores, the rights to deliver handed to the devices that use them, the credit each device is owed. From there every
fair execution of the program ends with each device's result at `outC`, its argument unchanged, and every semaphore counter
at zero (`run_main`).
-/
module

public import proofs.«01_k».proof.Proof.Ends
public import Idealize.ShloMosaic.Lib.Pipeline.CollectiveSegs

@[expose] public section

noncomputable section

namespace Cert.AllGather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One device's body -/

/-- What a device is to deliver in all. -/
def owes0 (c : Dev nD) : CellTallies nD τ sig Unit := oweT c owedL

/-- The invariant before the body: the shared records and the device's own start. -/
def before (c : Dev nD) : sProp 𝕄 := iprop(∃ K : Names, recs m K ∗ startP m c)

/-- The proof data of the one custom call, which stages no window: the invariant before and after its single point. -/
def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => before m c
    | ⟨_ + 1, _⟩ => doneP m c
  q _ := fullShare
  owed t := match t with
    | ⟨0, _⟩ => owes0 c
    | ⟨_ + 1, _⟩ => 0

theorem no_window (Φ : Fin cfg0.W → sProp 𝕄) : bigSep Finset.univ Φ = iprop(emp) := show bigSep (∅ : Finset (Fin 0)) Φ = iprop(emp) from bigSep_empty

set_option maxRecDepth 100000 in
theorem body_obligation (c : Dev nD) : BodyObligation (dats (F := F) m 0 c) (defs₀ (F := F)) 𝒱₀ () Set.univ := fun t => by
  rw [fin_N0 t]
  rw [no_window, no_window]
  show iprop(before m c ∗ (∃ W : Waits sig Unit, ⌜_⌝ ∗ owes (c : Thread nD τ) (owes0 c) W) ∗ emp)
    ⊢ wp frame (wpE (defs₀ (F := F)) 𝒱₀ (c : Thread nD τ) none) Set.univ
      (cc0_body argM (Memref.isWhole_whole _) outM (Memref.isWhole_whole _) shM (Memref.isWhole_whole _) stM (Memref.isWhole_whole _)
        cc0_scratch2 cc0_scratch3 cc0_scratch4 cc0_scratch5 cc0_scratch6 cc0_scratch7 cc0_scratch8 cc0_scratch9)
      (fun _ => iprop(doneP m c ∗ (∃ W : Waits sig Unit, ⌜_⌝ ∗ owes (c : Thread nD τ) 0 W) ∗ emp))
  unfold before
  iintro ⟨⟨%K, #HR, HS⟩, ⟨%W, -, Ho⟩, HE⟩
  imod (enter m K c) $$ [HS Ho] with ⟨HI, HB⟩
  · isplitr; · iexact HR
    isplitl [HS]; · iexact HS
    unfold owing
    iexists W; iexact Ho
  iapply (body_run m K c)
  isplitr; · iexact HR
  isplitl [HB]; · iexact HB
  iintro HB
  ihave H := (leave m c) $$ [HI HB]
  · isplitl [HI]; · iexact HI
    iexact HB
  icases H with ⟨HD, Ho⟩
  isplitl [HD]; · iexact HD
  isplitl [Ho]
  · unfold owing
    icases Ho with ⟨%W', Ho⟩
    iexists W'
    isplitr
    · ipureintro; exact fun _ _ => Or.inl trivial
    · iexact Ho
  iexact HE

/-! ## The semaphores and the rights to deliver -/

/-- The kernel's own semaphores, which the call allocates. -/
abbrev osem : Fin 90 → SemLoc sig := fun i => .dma i

set_option maxRecDepth 100000 in
theorem ownSemFacts : Pipeline.OwnSemFacts cfg0.spec osem := by decide +kernel
theorem share_eq (c : Dev nD) (w : Fin cfg0.W) : (dats m 0 c).share w = fullShare := by unfold Dat.share; split <;> rfl

theorem cell_injective : Function.Injective (fun ck : Dev nD × Fin 90 => cell ck.1 ck.2) := by
  rintro ⟨c, i⟩ ⟨c', i'⟩ h
  have h1 : c = c' := congrArg (fun g : GSem nD τ sig => g.1.1) h
  have h2 : (SemLoc.dma i : SemLoc sig) = .dma i' := congrArg Prod.snd h
  have h3 : i = i' := by injection h2
  rw [h1, h3]
theorem bcell_injective : Function.Injective (bcell : Dev nD → GSem nD τ sig) := fun c c' h => congrArg (fun g : GSem nD τ sig => g.1.1) h
theorem cell_ne_bcell (c c' : Dev nD) (i : Fin 90) : cell c i ≠ bcell c' := fun h => by
  have h2 : (SemLoc.dma i : SemLoc sig) = .reg barrier0 := congrArg Prod.snd h
  cases h2

def dmaCells : Finset (GSem nD τ sig) := Finset.univ.map ⟨fun ck : Dev nD × Fin 90 => cell ck.1 ck.2, cell_injective⟩
def barCells : Finset (GSem nD τ sig) := Finset.univ.map ⟨bcell, bcell_injective⟩
def dmaToks : Finset (GSem nD τ sig × ℕ × Fin 3) :=
  Finset.univ.map ⟨fun ck : Dev nD × Fin 90 => (cell ck.1 ck.2, 0, 0), fun _ _ h => cell_injective (congrArg Prod.fst h)⟩
def barToks : Finset (GSem nD τ sig × ℕ × Fin 3) :=
  Finset.univ.map ⟨fun cd : Dev nD × Fin 3 => (bcell cd.1, 0, cd.2), fun a b h =>
    Prod.ext (bcell_injective (congrArg Prod.fst h)) (congrArg (fun x : GSem nD τ sig × ℕ × Fin 3 => x.2.2) h)⟩
theorem cells_disjoint : Disjoint dmaCells barCells := by
  rw [Finset.disjoint_left]
  intro g h1 h2
  obtain ⟨ck, -, rfl⟩ := Finset.mem_map.mp h1
  obtain ⟨c, -, h⟩ := Finset.mem_map.mp h2
  exact cell_ne_bcell _ _ _ h.symm
theorem toks_disjoint : Disjoint dmaToks barToks := by
  rw [Finset.disjoint_left]
  intro g h1 h2
  obtain ⟨ck, -, rfl⟩ := Finset.mem_map.mp h1
  obtain ⟨c, -, h⟩ := Finset.mem_map.mp h2
  exact cell_ne_bcell _ _ _ (congrArg Prod.fst h).symm

/-- The ghost state at launch. -/
def u₀ : UU := (initOf (Pipeline.cells cfgs cellOf_inj) (Pipeline.launchToks cfgs cellOf_inj), initOf (dmaCells ∪ barCells) (dmaToks ∪ barToks))

/-- What a device gets at launch of its own semaphores. -/
def G (c : Dev nD) : sProp 𝕄 :=
  iprop((bigSep Finset.univ fun i : Fin 90 => roundState ER (sched m) (cell c i) 0) ∗ roundState ER (sched m) (bcell c) 0
    ∗ (bigSep Finset.univ fun i : Fin 90 => reached ER (cell c i) 0) ∗ reached ER (bcell c) 0
    ∗ (bigSep Finset.univ fun i : Fin 90 => atPos ER (cell c i) 0 ∅ 0) ∗ atPos ER (bcell c) 0 ∅ 0
    ∗ (bigSep Finset.univ fun i : Fin 90 => dutyTok ER (cell c i) 0 0) ∗ (bigSep Finset.univ fun d : Fin 3 => dutyTok ER (bcell c) 0 d))

theorem over_cells (Φ : GSem nD τ sig → sProp 𝕄) : bigSep (dmaCells ∪ barCells) Φ
    = iprop((bigSep Finset.univ fun c : Dev nD => bigSep Finset.univ fun i : Fin 90 => Φ (cell c i)) ∗ bigSep Finset.univ fun c : Dev nD => Φ (bcell c)) := by
  rw [bigSep_union cells_disjoint]
  unfold dmaCells barCells
  rw [bigSep_map, bigSep_map, bigSep_univ_prod]
  rfl
theorem over_toks : bigSep (dmaToks ∪ barToks) (fun x => (dutyTok ER x.1 x.2.1 x.2.2 : sProp 𝕄))
    = iprop((bigSep Finset.univ fun c : Dev nD => bigSep Finset.univ fun i : Fin 90 => dutyTok ER (cell c i) 0 0)
      ∗ bigSep Finset.univ fun c : Dev nD => bigSep Finset.univ fun d : Fin 3 => dutyTok ER (bcell c) 0 d) := by
  rw [bigSep_union toks_disjoint]
  unfold dmaToks barToks
  rw [bigSep_map, bigSep_map, bigSep_univ_prod, bigSep_univ_prod]
  rfl

theorem fund : BI.own (ER (initOf (dmaCells ∪ barCells) (dmaToks ∪ barToks))) ⊢ (|==> bigSep Finset.univ (G m) : sProp 𝕄) := by
  iintro HX
  imod (Rounds.fund ER (sched m) (dmaCells ∪ barCells) (dmaToks ∪ barToks)) $$ HX with ⟨Hst, Hr, Hat, Htok⟩
  imodintro
  ihave Hst := (Entails.of_eq (over_cells fun g => roundState ER (sched m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  icases Hst with ⟨Hst, Hst'⟩
  icases Hat with ⟨Hat, Hat'⟩
  icases Hr with ⟨Hr, Hr'⟩
  icases Htok with ⟨Htok, Htok'⟩
  unfold G
  simp only [bigSep_sep']
  isplitl [Hst]; · iexact Hst
  isplitl [Hst']; · iexact Hst'
  isplitl [Hr]; · iexact Hr
  isplitl [Hr']; · iexact Hr'
  isplitl [Hat]; · iexact Hat
  isplitl [Hat']; · iexact Hat'
  isplitl [Htok]; · iexact Htok
  iexact Htok'

theorem ownSems0_eq (c : Dev nD) : (Pipeline.ownSems0 (Ix := Unit) (Name := ℕ) (U := UU) (Lvl := ℕ) (Val := Elt F) (τ := τ) osem c : sProp 𝕄)
    = bigSep Finset.univ fun i : Fin 90 => semVal (cell c i) 0 := rfl
set_option maxRecDepth 100000 in
theorem unscopedSems0_eq (c : Dev nD) : (unscopedSems0 c : sProp 𝕄) = semVal (bcell c) 0 := by
  unfold unscopedSems0; rw [bigSep_eq_bigSepL_of_eq [SemLoc.reg barrier0] (by decide) (by decide +kernel)]; rfl

/-- What a device holds of its semaphores once their invariants are made. -/
def H (c : Dev nD) : sProp 𝕄 :=
  iprop((bigSep Finset.univ fun i : Fin 90 => iprop(∃ κ : ℕ, cellInv ER (sched m) κ (cell c i))) ∗ (∃ κ : ℕ, cellInv ER (sched m) κ (bcell c))
    ∗ (bigSep Finset.univ fun i : Fin 90 => reached ER (cell c i) 0) ∗ reached ER (bcell c) 0
    ∗ (bigSep Finset.univ fun i : Fin 90 => atPos ER (cell c i) 0 ∅ 0) ∗ atPos ER (bcell c) 0 ∅ 0
    ∗ (bigSep Finset.univ fun i : Fin 90 => dutyTok ER (cell c i) 0 0) ∗ (bigSep Finset.univ fun d : Fin 3 => dutyTok ER (bcell c) 0 d))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> H m c := by
  unfold G H
  rw [ownSems0_eq, unscopedSems0_eq]
  iintro ⟨Hv, Hb, Hst, Hst', Hrest⟩
  imod (show iprop((bigSep Finset.univ fun i : Fin 90 => semVal (cell c i) 0) ∗ bigSep Finset.univ fun i : Fin 90 => roundState ER (sched m) (cell c i) 0)
      ⊢ (|={Set.univ}=> bigSep Finset.univ fun i : Fin 90 => iprop(∃ κ : ℕ, cellInv ER (sched m) κ (cell c i)) : sProp 𝕄) from by
        rw [← bigSep_sep']
        exact (bigSep_mono fun k _ => (Rounds.body_intro ER (sched m) (cell c k)).trans inv_alloc).trans (bigSep_fupd _ _)) $$ [Hv Hst] with Hinv
  · isplitl [Hv]; · iexact Hv
    iexact Hst
  imod (show iprop(semVal (bcell c) 0 ∗ roundState ER (sched m) (bcell c) 0)
      ⊢ (|={Set.univ}=> iprop(∃ κ : ℕ, cellInv ER (sched m) κ (bcell c)) : sProp 𝕄) from
        (Rounds.body_intro ER (sched m) (bcell c)).trans inv_alloc) $$ [Hb Hst'] with Hinv'
  · isplitl [Hb]; · iexact Hb
    iexact Hst'
  imodintro
  isplitl [Hinv]; · iexact Hinv
  isplitl [Hinv']; · iexact Hinv'
  iexact Hrest

/-- The records every device shares, but for the levels. -/
def recs0 (K : Names) : sProp 𝕄 :=
  iprop((bigSep Finset.univ fun ck : Dev nD × Fin 90 => cellInv ER (sched m) (K.1 ck) (cell ck.1 ck.2))
    ∗ (bigSep Finset.univ fun ck : Dev nD × Fin 90 => reached ER (cell ck.1 ck.2) 0)
    ∗ (bigSep Finset.univ fun c : Dev nD => cellInv ER (sched m) (K.2 c) (bcell c))
    ∗ (bigSep Finset.univ fun c : Dev nD => reached ER (bcell c) 0))
instance recs0_persistent (K : Names) : BI.Persistent (recs0 m K) := by unfold recs0; infer_instance

/-- What a device alone holds of the semaphores: its places, and the rights to the deliveries it makes. -/
def linear (c : Dev nD) : sProp 𝕄 :=
  iprop((bigSep Finset.univ fun i : Fin 90 => atPos ER (cell c i) 0 ∅ 0) ∗ atPos ER (bcell c) 0 ∅ 0
    ∗ (bigSep Finset.univ fun i : Fin 90 => dutyTok ER (cell (tgt c i) i) 0 0) ∗ (bigSep Finset.univ fun d : Fin 3 => dutyTok ER (bcell (nb d c)) 0 d))
def G' (c : Dev nD) : sProp 𝕄 := iprop(∃ K : Names, recs0 m K ∗ linear c)

/-- The rights to deliver, handed from the devices delivered to over to the devices that deliver. -/
theorem toks_around : (bigSep Finset.univ fun c : Dev nD => bigSep Finset.univ fun i : Fin 90 => (dutyTok ER (cell c i) 0 0 : sProp 𝕄))
    = bigSep Finset.univ fun c : Dev nD => bigSep Finset.univ fun i : Fin 90 => (dutyTok ER (cell (tgt c i) i) 0 0 : sProp 𝕄) := by
  rw [bigSep_univ_comm, bigSep_univ_comm (fun (c : Dev nD) (i : Fin 90) => (dutyTok ER (cell (tgt c i) i) 0 0 : sProp 𝕄))]
  refine bigSep_congr fun i _ => ?_
  unfold tgt
  cases dirOf i.val with
  | none => rfl
  | some d => exact bigSep_univ_equiv (nbEquiv d) (fun c : Dev nD => (dutyTok ER (cell c i) 0 0 : sProp 𝕄))
theorem btoks_around : (bigSep Finset.univ fun c : Dev nD => bigSep Finset.univ fun d : Fin 3 => (dutyTok ER (bcell c) 0 d : sProp 𝕄))
    = bigSep Finset.univ fun c : Dev nD => bigSep Finset.univ fun d : Fin 3 => (dutyTok ER (bcell (nb d c)) 0 d : sProp 𝕄) := by
  rw [bigSep_univ_comm, bigSep_univ_comm (fun (c : Dev nD) (d : Fin 3) => (dutyTok ER (bcell (nb d c)) 0 d : sProp 𝕄))]
  exact bigSep_congr fun d _ => bigSep_univ_equiv (nbEquiv d) (fun c : Dev nD => (dutyTok ER (bcell c) 0 d : sProp 𝕄))

theorem regroup : bigSep Finset.univ (H m) ⊢ bigSep Finset.univ (G' m) := by
  have e : bigSep Finset.univ (H m) = iprop((bigSep Finset.univ fun ck : Dev nD × Fin 90 => iprop(∃ κ : ℕ, cellInv ER (sched m) κ (cell ck.1 ck.2)))
      ∗ (bigSep Finset.univ fun c : Dev nD => iprop(∃ κ : ℕ, cellInv ER (sched m) κ (bcell c)))
      ∗ (bigSep Finset.univ fun ck : Dev nD × Fin 90 => reached ER (cell ck.1 ck.2) 0)
      ∗ (bigSep Finset.univ fun c : Dev nD => reached ER (bcell c) 0)
      ∗ bigSep Finset.univ (linear (F := F))) := by
    unfold H linear
    simp only [bigSep_sep']
    rw [toks_around, btoks_around, bigSep_univ_prod (fun ck : Dev nD × Fin 90 => iprop(∃ κ : ℕ, cellInv ER (sched m) κ (cell ck.1 ck.2))),
      bigSep_univ_prod (fun ck : Dev nD × Fin 90 => (reached ER (cell ck.1 ck.2) 0 : sProp 𝕄))]
  rw [e]
  iintro ⟨HI, HI', #HR, #HR', HL⟩
  ihave HK := (BI.bigSep_exists_pi Finset.univ (fun (ck : Dev nD × Fin 90) (κ : ℕ) => (cellInv ER (sched m) κ (cell ck.1 ck.2) : sProp 𝕄))) $$ HI
  icases HK with ⟨%K, #HI⟩
  ihave HK' := (BI.bigSep_exists_pi Finset.univ (fun (c : Dev nD) (κ : ℕ) => (cellInv ER (sched m) κ (bcell c) : sProp 𝕄))) $$ HI'
  icases HK' with ⟨%K', #HI'⟩
  iapply (BI.bigSep_with_persistent (R := recs0 m (K, K')) (Φ := linear (F := F)) fun c _ => show iprop(recs0 m (K, K') ∗ linear c) ⊢ G' m c from by
    unfold G'
    iintro H
    iexists (K, K')
    iexact H)
  isplitr
  · unfold recs0
    isplitl; · iexact HI
    isplitl; · iexact HR
    isplitl; · iexact HI'
    iexact HR'
  · iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What all devices together owe one semaphore of device `c`: each delivery of the list at that semaphore, once. -/
theorem owed_sum (c : Dev nD) (sm : SemLoc sig) (l : List (Fin 3 × SemLoc sig)) :
    (∑ d : Dev nD, oweT d l ((c : Thread nD τ), sm) ()) = amtS sm * l.countP (fun x => decide (x.2 = sm)) := by
  induction l with
  | nil => exact Finset.sum_eq_zero fun _ _ => rfl
  | cons x l ih =>
    have e : ∀ d : Dev nD, oweT d (x :: l) ((c : Thread nD τ), sm) ()
        = oweT d l ((c : Thread nD τ), sm) () + (if d = nb x.1 c then (if x.2 = sm then amtS sm else 0) else 0) := by
      intro d
      show (oweT d l + tallyAt ((nb x.1 d : Thread nD τ), x.2) () (amtS x.2)) ((c : Thread nD τ), sm) () = _
      rw [Pi.add_apply, Finsupp.add_apply, tallyAt_apply]
      congr 1
      by_cases hs : x.2 = sm
      · by_cases hd : d = nb x.1 c
        · rw [if_pos hd, if_pos hs, if_pos ⟨by rw [hd, nb_nb, hs], rfl⟩, hs]
        · rw [if_neg hd, if_neg]
          rintro ⟨h, -⟩
          have h1 : c = nb x.1 d := congrArg (fun g : GSem nD τ sig => g.1.1) h
          exact hd (by rw [h1, nb_nb])
      · rw [if_neg (fun h => hs (congrArg Prod.snd h.1).symm), if_neg hs, ite_self]
    rw [Finset.sum_congr rfl fun d _ => e d, Finset.sum_add_distrib, ih, Finset.sum_ite_eq' Finset.univ (nb x.1 c) fun _ => (if x.2 = sm then amtS sm else 0),
      if_pos (Finset.mem_univ _), List.countP_cons]
    by_cases hs : x.2 = sm
    · rw [if_pos hs, if_pos (decide_eq_true hs), Nat.mul_add, Nat.mul_one]
    · rw [if_neg hs, if_neg (by rw [decide_eq_false hs]; exact Bool.false_ne_true), Nat.add_zero, Nat.add_zero]

theorem launch_at (c : Dev nD) (sm : SemLoc sig) :
    tallyOn ((c : Thread nD τ), sm) (launchCredit (Pipeline.owing owes0) 0 ((c : Thread nD τ), sm))
      = (tallyAt ((c : Thread nD τ), sm) () (amtS sm * owedL.countP (fun x => decide (x.2 = sm))) : CellTallies nD τ sig Unit) := by
  unfold tallyAt; refine congrArg _ (Finsupp.ext fun u => ?_); cases u
  rw [Pipeline.launchCredit_owing, Finsupp.single_eq_same]
  exact owed_sum c sm owedL

set_option maxRecDepth 100000 in
theorem count_dma : ∀ i : Fin 90, owedL.countP (fun x => decide (x.2 = .dma i)) = if (dirOf i.val).isSome ∧ used i.val = true then 1 else 0 := by
  decide +kernel
theorem launch_dma (c : Dev nD) (i : Fin 90) :
    tallyOn (cell c i) (launchCredit (Pipeline.owing owes0) 0 (cell c i)) = (tallyAt (cell c i) () (owedTo i) : CellTallies nD τ sig Unit) := by
  rw [launch_at, count_dma]
  congr 1
  unfold owedTo
  split
  · exact Nat.mul_one _
  · rfl
theorem launch_bar (c : Dev nD) :
    tallyOn (bcell c) (launchCredit (Pipeline.owing owes0) 0 (bcell c)) = (tallyAt (bcell c) () 3 : CellTallies nD τ sig Unit) := by
  rw [launch_at]; congr 1

theorem creds (c : Dev nD) : (Pipeline.launchCred owes0 c : sProp 𝕄)
    ⊢ iprop(cred (tallyAt (bcell c) () 3) ∗ bigSep Finset.univ fun i : Fin 90 => cred (tallyAt (cell c i) () (owedTo i))) := by
  unfold Pipeline.launchCred
  rw [bigSep_univ_at _ (SemLoc.reg barrier0), launch_bar]
  refine sep_mono_right ?_
  refine (bigSep_subset (t := (Finset.univ : Finset (Fin 90)).map ⟨fun i => (SemLoc.dma i : SemLoc sig), fun a b h => by injection h⟩) ?_).trans ?_
  · intro sm h
    obtain ⟨i, -, rfl⟩ := Finset.mem_map.mp h
    exact Finset.mem_erase.mpr ⟨fun h => (by cases h), Finset.mem_univ _⟩
  · rw [bigSep_map]
    exact bigSep_mono fun i _ => Entails.of_eq (congrArg cred (launch_dma c i))

/-! ## Entering and leaving the call -/

/-- What a device enters the call with, but for its scratch buffers. -/
def start (c : Dev nD) : sProp 𝕄 :=
  iprop(∃ K : Names, recs m K ∗ bigSep Finset.univ (mat c) ∗ atPos ER (bcell c) 0 ∅ 0
    ∗ (dutyTok ER (bcell (nb 0 c)) 0 0 ∗ dutyTok ER (bcell (nb 1 c)) 0 1 ∗ dutyTok ER (bcell (nb 2 c)) 0 2)
    ∗ cred (tallyAt (bcell c) () 3)
    ∗ ((c : Thread nD τ).loc main_arg0 ↦{fullShare} argC m c)
    ∗ (∃ f : Buf (Elt F) ((c : Thread nD τ).loc main_v1), (c : Thread nD τ).loc main_v1 ↦{fullShare} f))

theorem start_intro (c : Dev nD) :
    iprop(Pipeline.unscopedRestP Pipeline.Prefetch.none cfg0.spec c (fun b => m ((c : Thread nD τ).loc b)) ∗ levAts L lv
        ∗ Pipeline.launchCred owes0 c ∗ prngReg c (ρ c) ∗ G' m c)
      ⊢ |={Set.univ}=> iprop(start m c ∗ emp) := by
  rw [Pipeline.unscopedRestP_none, unscopedRest0_eq]
  unfold G' start linear
  iintro ⟨⟨Harg, Hout⟩, Hlev, Hcr, -, ⟨%K, HR, Hat, Hba, Htok, Hbt⟩⟩
  ihave Hc := (creds (F := F) c) $$ Hcr
  icases Hc with ⟨Hbc, Hcr⟩
  imodintro
  isplitl
  · iexists K
    isplitl [HR Hlev]
    · unfold recs0 recs
      icases HR with ⟨H1, H2, H3, H4⟩
      isplitl [H1]; · iexact H1
      isplitl [H2]; · iexact H2
      isplitl [H3]; · iexact H3
      isplitl [H4]; · iexact H4
      iexact Hlev
    isplitl [Hat Htok Hcr]
    · have e : bigSep Finset.univ (mat (F := F) c) = iprop((bigSep Finset.univ fun i : Fin 90 => atPos ER (cell c i) 0 ∅ 0)
          ∗ (bigSep Finset.univ fun i : Fin 90 => dutyTok ER (cell (tgt c i) i) 0 0)
          ∗ bigSep Finset.univ fun i : Fin 90 => cred (tallyAt (cell c i) () (owedTo i))) := by
        unfold mat; simp only [bigSep_sep']
      rw [e]
      isplitl [Hat]; · iexact Hat
      isplitl [Htok]; · iexact Htok
      iexact Hcr
    isplitl [Hba]; · iexact Hba
    isplitl [Hbt]
    · rw [← bigSep_fin3 (fun d : Fin 3 => (dutyTok ER (bcell (nb d c)) 0 d : sProp 𝕄))]
      iexact Hbt
    isplitl [Hbc]; · iexact Hbc
    isplitl [Harg]; · iexact Harg
    iexists _; iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before start startP
  iintro ⟨⟨%K, HR, HM, HA, HT, HC, Harg, Hout⟩, -, Hsh, Hst⟩
  iexists K
  isplitl [HR]; · iexact HR
  isplitl [HM]; · iexact HM
  isplitl [HA]; · iexact HA
  isplitl [HT]; · iexact HT
  isplitl [HC]; · iexact HC
  isplitl [Harg]; · iexact Harg
  isplitl [Hout]; · iexact Hout
  isplitl [Hsh]; · iexact Hsh
  iexact Hst

/-- What a device keeps after the call. -/
def kept (c : Dev nD) : sProp 𝕄 :=
  iprop(((c : Thread nD τ).loc main_arg0 ↦{fullShare} argC m c) ∗ ((c : Thread nD τ).loc main_v1 ↦{fullShare} outC m c) ∗ unscopedSems0 c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = doneP m c from rfl, scopedRest0_eq, ownSems0_eq]
  unfold kept
  rw [unscopedSems0_eq]
  unfold doneP closed
  iintro ⟨Harg, Hout, Hsh, Hst, Hz, Hb⟩
  isplitl [Harg Hout Hb]
  · isplitl [Harg]; · iexact Harg
    isplitl [Hout]; · iexact Hout
    iexact Hb
  isplitl [Hz]; · iexact Hz
  isplitl [Hsh]; · iexact Hsh
  iexact Hst

theorem waits (c : Dev nD) : (levAts L lv : sProp 𝕄) ⊢ Pipeline.cellsWaits cfgs (dats m) () 0 c :=
  Pipeline.cellsWaits_intro cfgs (dats m) () 0 c fun w s t => w.elim0

/-! ## The run -/

/-- What the final memory of a device holds: the result, the unchanged argument, and zero counters outside the call's own. -/
def QY (c : Dev nD) (s : MemSt nD τ sig (Elt F)) : Prop :=
  s.mem ((c : Thread nD τ).loc main_v1) = outC m c ∧ s.mem ((c : Thread nD τ).loc main_arg0) = argC m c
    ∧ ∀ sm : SemLoc sig, sm.isScoped .tc = false → s.sem ((c.tc : Thread nD τ), sm) = 0

theorem kept_read (c : Dev nD) (s' : Phys nD τ sig (Elt F)) : iprop(kept m c ∗ emp ∗ SI s') ⊢ |={Set.univ}=> iprop(⌜QY m c s'.mem⌝ ∗ SI s') := by
  unfold kept
  iintro ⟨⟨Harg, Hout, Hu⟩, -, HSI⟩
  icombine HSI Harg gives %h1
  icombine HSI Hout gives %h2
  imod (Pipeline.unscopedSems0_read (X := unscopedSems0 c) (c := c) fupd_intro s') $$ [Hu HSI] with ⟨%h3, HSI⟩
  · isplitl [Hu]; · iexact Hu
    iexact HSI
  imodintro
  isplitr
  · ipureintro
    exact ⟨Buf.eq_of_forall_mem_univ h2, Buf.eq_of_forall_mem_univ h1, h3⟩
  · iexact HSI

set_option maxRecDepth 8000 in
/-- On the 2 × 2 × 2 mesh, for any float values, from any memory with zero counters: every weakly fair execution of the
    kernel's program terminates, and in every final state each device's result holds the whole rounded array as `outC`
    states it, its argument is unchanged, and every semaphore counter is zero. -/
theorem run_main : θ_run (defs (F := F)) (onTc (τ := τ) (main (F := F))) ⟨m, fun _ => 0, ρ⟩ (fun r =>
    (∀ c : Dev nD, r.2.mem ((c.tc : Thread nD τ).loc main_v1) = outC m c ∧ r.2.mem ((c.tc : Thread nD τ).loc main_arg0) = argC m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := fun c => (body_obligation m c).loose) (hne := fun w => w.elim0) (harr := arr_whole0) (hstage := stage_whole0) (hshare := share_eq m)
    (hdistinct := winFacts0.arr_inj)
    (O₀ := owes0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := QY m) (hY := kept_read m)
    (hQ := fun _ h hs => ⟨fun c => ⟨(h c).2.2.1, (h c).2.2.2.1⟩, sem_eq_zero hs fun c => (h c).2.2.2.2⟩)

end Cert.AllGather

end
-- ==== Proof.Value.lean ====
/-
# The gathered array is the reference's

The run leaves on every device the array `outC`, which is told device by device: row `ρ` is row `ρ % 4096` of what one
device holds, rounded to bf16. When each device holds its half of one whole array, these rows are the whole array's rows
in order, so every device's result is the whole array rounded to bf16 (`outC_whole`), which is what the reference
computes.
-/
module

public import proofs.«01_k».proof.Proof.Rows
public import Idealize.ShloMosaic.Lib.Layout

@[expose] public section

noncomputable section

namespace Cert.AllGather

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

/-- The device that row `ρ` of the result comes from lies in the half of the mesh that `ρ` lies in. -/
theorem owner_half (c : Dev nD) {r : ℕ} (hr : r < 8192) : (owner c r).val / 4 = r / 4096 := by
  have hc : c.val < 8 := c.isLt
  unfold owner
  split_ifs with h1 h2
  · exact h1.symm
  · show (c.val + 4) % 8 / 4 = r / 4096
    omega
  · show (4 * (1 - c.val / 4) + r % 4096 / 1024) % 8 / 4 = r / 4096
    omega

/-- The half that device `c` holds is the one numbered by its first coordinate, `c / 4`. -/
theorem half_of : ∀ c : Dev nD, ((Layout.meshBlock [2, 2, 2] ![[0], []] c) (0 : Fin 2)).val = c.val / 4 := by decide

/-- Along the columns nothing is cut. -/
theorem column_of : ∀ c : Dev nD, ((Layout.meshBlock [2, 2, 2] ![[0], []] c) (1 : Fin 2)).val = 0 := by decide

/-- If every device's argument is its half of one array `v`, then every device's result is `v` rounded to bf16. -/
theorem outC_whole (v : FVec F S8192x1024 .f32)
    (hv : ∀ c : Dev nD, argC m c = Layout.blockN ⟨2, ![4096, 1024]⟩ ⟨2, ![8192, 1024]⟩ (Layout.meshBlock [2, 2, 2] ![[0], []] c) v)
    (c : Dev nD) : outC m c = truncf .bf16 v bitsLt_bf16_f32 := by
  funext i
  have hi : (i 0).val < 8192 := (i 0).isLt
  have ho := owner_half c hi
  unfold outC shC
  rw [hv]
  refine congrArg (fun x : F .f32 => FloatOps.truncf .bf16 bitsLt_bf16_f32 x) ?_
  rw [Layout.blockN_apply]
  refine congrArg v ?_
  funext b
  apply Fin.ext
  rw [Layout.TilesN.idx_val]
  match b with
  | ⟨0, _⟩ =>
    refine (congrArg (fun t => t * 4096 + (i 0).val % 4096) (half_of (owner c (i 0).val))).trans ?_
    show (owner c (i 0).val).val / 4 * 4096 + (i 0).val % 4096 = (i 0).val
    omega
  | ⟨1, _⟩ =>
    refine (congrArg (fun t => t * 1024 + (i 1).val) (column_of (owner c (i 0).val))).trans ?_
    show 0 * 1024 + (i 1).val = (i 1).val
    omega

end Cert.AllGather

end
-- ==== Proof.lean ====
/-
# The proof of the certificate's claim

The kernel is an all-gather over the first axis of a 2 × 2 × 2 mesh. Its run on the whole mesh, over any float values, is
`Cert.AllGather.run_main` (Proof/Launch.lean): every fair execution ends with each device's result at the gathered array,
its argument unchanged and every semaphore counter at zero. The two programs `Kernel` and `KernelIdeal` have the same
text, so the run gives both frames; with Proof/Value.lean it gives the value claim against the reference, whose own run is
generated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Value
public import Idealize.ShloMosaic.Lib.Quiescent

@[expose] public section

noncomputable section

namespace Cert.Proof

open Idealize.ShloMosaic Idealize.SL.Sem Cert.Kernel

/-- The kernel at the machine's words terminates without fault, leaves its argument unchanged and every counter at zero:
    the run of the same text over any float values, its result left unsaid. -/
theorem frame_kernel : Cert.quiescent_Kernel := fun m ρ _ =>
  (θ_run Cert.KernelIdeal.defs _ _).mono (fun _ h => ⟨fun c => (h.1 c).2, h.2⟩) (Cert.AllGather.run_main (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Cert.AllGather.run_main (F := Ideal) m ρ)

/-- The reference terminates without fault and leaves its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every device starts with its half of the reference's argument, every device's result ends at the reference's
    result, the whole argument rounded to bf16. -/
theorem algebraic : Cert.algebraic_KernelIdeal_ReferenceIdeal := by
  intro m ρ m' ρ' _ hv
  have whole : ∃ v : FVec Ideal Cert.KernelIdeal.S8192x1024 .f32, v = m' (((0 : Dev Cert.ReferenceIdeal.nD).tc :
    Thread Cert.ReferenceIdeal.nD Cert.ReferenceIdeal.τ).loc Cert.ReferenceIdeal.main_arg0) := ⟨_, rfl⟩
  obtain ⟨v, hm'⟩ := whole
  rw [← hm'] at hv
  have h16 : FTy.bits .bf16 < FTy.bits .f32 := by decide
  have run' := Cert.ReferenceIdeal.Value.run (F := Ideal) m' ρ'
  refine ⟨(truncf .bf16 v h16 : FVec Ideal Cert.KernelIdeal.S8192x1024 .bf16), ?_, ?_⟩
  · exact (θ_run Cert.KernelIdeal.defs _ _).mono
      (fun _ h c => ⟨(h.1 c).1.trans (Cert.AllGather.outC_whole m _ hv c), (h.1 c).2⟩) (Cert.AllGather.run_main (F := Ideal) m ρ)
  · exact (θ_run Cert.ReferenceIdeal.defs _ _).mono (fun _ h => ⟨(h 0).1.trans (by rw [hm']), (h 0).2⟩) run'

/-- The certificate's claim: the three frames, the sanctioned idealization (no operation was rewritten), the value. -/
theorem claim : Cert.Claim := ⟨Cert.Kernel.Gen.facts, Cert.KernelIdeal.Gen.facts, Cert.ReferenceIdeal.Gen.facts,
  frame_kernel, frame_ideal, frame_reference, trivial, algebraic⟩

end Cert.Proof

end
